-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v164)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v164) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v505) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x1045 : Shape := ⟨2, ![1024, 1045]⟩
abbrev S1024 : Shape := ⟨1, ![1024]⟩
abbrev S1024x1024 : Shape := ⟨2, ![1024, 1024]⟩
abbrev S1024x1 : Shape := ⟨2, ![1024, 1]⟩
abbrev S15728640 : Shape := ⟨1, ![15728640]⟩
abbrev S_ : Shape := ⟨0, ![]⟩
abbrev S15x1024x1024 : Shape := ⟨3, ![15, 1024, 1024]⟩
abbrev S1x1 : Shape := ⟨2, ![1, 1]⟩
abbrev S1x1024x1024 : Shape := ⟨3, ![1, 1024, 1024]⟩
abbrev S128x1024 : Shape := ⟨2, ![128, 1024]⟩
abbrev S128x1 : Shape := ⟨2, ![128, 1]⟩
abbrev S128 : Shape := ⟨1, ![128]⟩
abbrev S1x128x1024 : Shape := ⟨3, ![1, 128, 1024]⟩
abbrev S1 : Shape := ⟨1, ![1]⟩
abbrev S1x1x1 : Shape := ⟨3, ![1, 1, 1]⟩
abbrev S1x128x1 : Shape := ⟨3, ![1, 128, 1]⟩

abbrev nBuf : Space → Nat
  | .hbm => 195
  | .vmem => 10
  | .smem => 1
  | _ => 0

abbrev hbmTy0_0 (i : Nat) : BufTy := match i % 128 with
  | 0 => ⟨S1024x1045, .f32⟩
  | 1 => ⟨S1024, .i32⟩
  | 2 => ⟨S1024x1024, .f32⟩
  | 3 => ⟨S1024x1024, .f32⟩
  | 4 => ⟨S1024x1, .f32⟩
  | 5 => ⟨S15728640, .i32⟩
  | 6 => ⟨S_, .i32⟩
  | 7 => ⟨S15728640, .i32⟩
  | 8 => ⟨S15728640, .i1⟩
  | 9 => ⟨S_, .i32⟩
  | 10 => ⟨S15728640, .i32⟩
  | 11 => ⟨S15728640, .i32⟩
  | 12 => ⟨S15728640, .i32⟩
  | 13 => ⟨S_, .i32⟩
  | 14 => ⟨S15728640, .i32⟩
  | 15 => ⟨S_, .i32⟩
  | 16 => ⟨S15728640, .i32⟩
  | 17 => ⟨S15728640, .i32⟩
  | 18 => ⟨S_, .i32⟩
  | 19 => ⟨S15728640, .i32⟩
  | 20 => ⟨S_, .i32⟩
  | 21 => ⟨S15728640, .i32⟩
  | 22 => ⟨S15728640, .i32⟩
  | 23 => ⟨S_, .i32⟩
  | 24 => ⟨S15728640, .i32⟩
  | 25 => ⟨S_, .i32⟩
  | 26 => ⟨S15728640, .i32⟩
  | 27 => ⟨S_, .i32⟩
  | 28 => ⟨S15728640, .i32⟩
  | 29 => ⟨S_, .i32⟩
  | 30 => ⟨S15728640, .i32⟩
  | 31 => ⟨S_, .i32⟩
  | 32 => ⟨S15728640, .i32⟩
  | 33 => ⟨S_, .i32⟩
  | 34 => ⟨S15728640, .i32⟩
  | 35 => ⟨S_, .i32⟩
  | 36 => ⟨S15728640, .i32⟩
  | 37 => ⟨S_, .i32⟩
  | 38 => ⟨S15728640, .i32⟩
  | 39 => ⟨S_, .i32⟩
  | 40 => ⟨S15728640, .i32⟩
  | 41 => ⟨S_, .i32⟩
  | 42 => ⟨S15728640, .i32⟩
  | 43 => ⟨S_, .i32⟩
  | 44 => ⟨S15728640, .i32⟩
  | 45 => ⟨S_, .i32⟩
  | 46 => ⟨S15728640, .i32⟩
  | 47 => ⟨S15728640, .i32⟩
  | 48 => ⟨S_, .i32⟩
  | 49 => ⟨S15728640, .i32⟩
  | 50 => ⟨S15728640, .i32⟩
  | 51 => ⟨S15728640, .i32⟩
  | 52 => ⟨S15728640, .i32⟩
  | 53 => ⟨S15728640, .i32⟩
  | 54 => ⟨S15728640, .i32⟩
  | 55 => ⟨S15728640, .i32⟩
  | 56 => ⟨S15728640, .i32⟩
  | 57 => ⟨S15728640, .i32⟩
  | 58 => ⟨S15728640, .i32⟩
  | 59 => ⟨S15728640, .i32⟩
  | 60 => ⟨S15728640, .i32⟩
  | 61 => ⟨S15728640, .i32⟩
  | 62 => ⟨S15728640, .i32⟩
  | 63 => ⟨S15728640, .i32⟩
  | 64 => ⟨S15728640, .i32⟩
  | 65 => ⟨S15728640, .i32⟩
  | 66 => ⟨S15728640, .i32⟩
  | 67 => ⟨S15728640, .i32⟩
  | 68 => ⟨S15728640, .i32⟩
  | 69 => ⟨S15728640, .i32⟩
  | 70 => ⟨S15728640, .i32⟩
  | 71 => ⟨S15728640, .i32⟩
  | 72 => ⟨S15728640, .i32⟩
  | 73 => ⟨S15728640, .i32⟩
  | 74 => ⟨S15728640, .i32⟩
  | 75 => ⟨S_, .i32⟩
  | 76 => ⟨S15728640, .i32⟩
  | 77 => ⟨S15728640, .i32⟩
  | 78 => ⟨S15728640, .i32⟩
  | 79 => ⟨S15728640, .i32⟩
  | 80 => ⟨S15728640, .i32⟩
  | 81 => ⟨S15728640, .i32⟩
  | 82 => ⟨S15728640, .i32⟩
  | 83 => ⟨S15728640, .i32⟩
  | 84 => ⟨S15728640, .i32⟩
  | 85 => ⟨S15728640, .i32⟩
  | 86 => ⟨S15728640, .i32⟩
  | 87 => ⟨S15728640, .i32⟩
  | 88 => ⟨S15728640, .i32⟩
  | 89 => ⟨S15728640, .i32⟩
  | 90 => ⟨S15728640, .i32⟩
  | 91 => ⟨S15728640, .i32⟩
  | 92 => ⟨S15728640, .i32⟩
  | 93 => ⟨S15728640, .i32⟩
  | 94 => ⟨S15728640, .i32⟩
  | 95 => ⟨S15728640, .i32⟩
  | 96 => ⟨S15728640, .i32⟩
  | 97 => ⟨S15728640, .i32⟩
  | 98 => ⟨S15728640, .i32⟩
  | 99 => ⟨S15728640, .i32⟩
  | 100 => ⟨S_, .i32⟩
  | 101 => ⟨S15728640, .i32⟩
  | 102 => ⟨S15728640, .i32⟩
  | 103 => ⟨S15728640, .i32⟩
  | 104 => ⟨S15728640, .i32⟩
  | 105 => ⟨S15728640, .i32⟩
  | 106 => ⟨S15728640, .i32⟩
  | 107 => ⟨S15728640, .i32⟩
  | 108 => ⟨S15728640, .i32⟩
  | 109 => ⟨S15728640, .i32⟩
  | 110 => ⟨S15728640, .i32⟩
  | 111 => ⟨S15728640, .i32⟩
  | 112 => ⟨S15728640, .i32⟩
  | 113 => ⟨S15728640, .i32⟩
  | 114 => ⟨S15728640, .i32⟩
  | 115 => ⟨S15728640, .i32⟩
  | 116 => ⟨S15728640, .i32⟩
  | 117 => ⟨S15728640, .i32⟩
  | 118 => ⟨S15728640, .i32⟩
  | 119 => ⟨S15728640, .i32⟩
  | 120 => ⟨S15728640, .i32⟩
  | 121 => ⟨S15728640, .i32⟩
  | 122 => ⟨S15728640, .i32⟩
  | 123 => ⟨S15728640, .i32⟩
  | 124 => ⟨S15728640, .i32⟩
  | 125 => ⟨S_, .i32⟩
  | 126 => ⟨S15728640, .i32⟩
  | 127 => ⟨S15728640, .i32⟩
  | _ => ⟨S1024x1045, .f32⟩

abbrev hbmTy0_1 (i : Nat) : BufTy := match i % 128 with
  | 0 => ⟨S15728640, .i32⟩
  | 1 => ⟨S15728640, .i32⟩
  | 2 => ⟨S15728640, .i32⟩
  | 3 => ⟨S15728640, .i32⟩
  | 4 => ⟨S15728640, .i32⟩
  | 5 => ⟨S15728640, .i32⟩
  | 6 => ⟨S15728640, .i32⟩
  | 7 => ⟨S15728640, .i32⟩
  | 8 => ⟨S15728640, .i32⟩
  | 9 => ⟨S15728640, .i32⟩
  | 10 => ⟨S15728640, .i32⟩
  | 11 => ⟨S15728640, .i32⟩
  | 12 => ⟨S15728640, .i32⟩
  | 13 => ⟨S15728640, .i32⟩
  | 14 => ⟨S15728640, .i32⟩
  | 15 => ⟨S15728640, .i32⟩
  | 16 => ⟨S15728640, .i32⟩
  | 17 => ⟨S15728640, .i32⟩
  | 18 => ⟨S15728640, .i32⟩
  | 19 => ⟨S15728640, .i32⟩
  | 20 => ⟨S15728640, .i32⟩
  | 21 => ⟨S15728640, .i32⟩
  | 22 => ⟨S_, .i32⟩
  | 23 => ⟨S15728640, .i32⟩
  | 24 => ⟨S15728640, .i32⟩
  | 25 => ⟨S15728640, .i32⟩
  | 26 => ⟨S15728640, .i32⟩
  | 27 => ⟨S15728640, .i32⟩
  | 28 => ⟨S15728640, .i32⟩
  | 29 => ⟨S15728640, .i32⟩
  | 30 => ⟨S15728640, .i32⟩
  | 31 => ⟨S15728640, .i32⟩
  | 32 => ⟨S15728640, .i32⟩
  | 33 => ⟨S15728640, .i32⟩
  | 34 => ⟨S15728640, .i32⟩
  | 35 => ⟨S15728640, .i32⟩
  | 36 => ⟨S15728640, .i32⟩
  | 37 => ⟨S15728640, .i32⟩
  | 38 => ⟨S15728640, .i32⟩
  | 39 => ⟨S15728640, .i32⟩
  | 40 => ⟨S15728640, .i32⟩
  | 41 => ⟨S15728640, .i32⟩
  | 42 => ⟨S15728640, .i32⟩
  | 43 => ⟨S15728640, .i32⟩
  | 44 => ⟨S15728640, .i32⟩
  | 45 => ⟨S15728640, .i32⟩
  | 46 => ⟨S15728640, .i32⟩
  | 47 => ⟨S_, .i32⟩
  | 48 => ⟨S15728640, .i32⟩
  | 49 => ⟨S15728640, .i32⟩
  | 50 => ⟨S15728640, .i32⟩
  | 51 => ⟨S_, .i32⟩
  | 52 => ⟨S15728640, .i32⟩
  | 53 => ⟨S15728640, .i32⟩
  | 54 => ⟨S_, .i32⟩
  | 55 => ⟨S15728640, .i32⟩
  | 56 => ⟨S15728640, .i32⟩
  | 57 => ⟨S15728640, .f32⟩
  | 58 => ⟨S_, .f32⟩
  | 59 => ⟨S15728640, .f32⟩
  | 60 => ⟨S15728640, .f32⟩
  | 61 => ⟨S_, .f32⟩
  | 62 => ⟨S15728640, .f32⟩
  | 63 => ⟨S15728640, .f32⟩
  | 64 => ⟨S15728640, .f32⟩
  | 65 => ⟨S15x1024x1024, .f32⟩
  | 66 => ⟨S1x1, .f32⟩
  | _ => ⟨S1024x1045, .f32⟩

abbrev hbmTy (i : Nat) : BufTy := match i / 128 with
  | 0 => hbmTy0_0 i
  | 1 => hbmTy0_1 i
  | _ => ⟨S1024x1045, .f32⟩

abbrev bufTy : (tb : Table) → Fin (tcTables nBuf tb) → BufTy
  | .hbm, ⟨i, _⟩ => hbmTy i
  | .local _ .vmem, ⟨0, _⟩ => ⟨S1024x1024, .f32⟩
  | .local _ .vmem, ⟨1, _⟩ => ⟨S1024x1024, .f32⟩
  | .local _ .vmem, ⟨2, _⟩ => ⟨S1024x1, .f32⟩
  | .local _ .vmem, ⟨3, _⟩ => ⟨S1x1024x1024, .f32⟩
  | .local _ .vmem, ⟨4, _⟩ => ⟨S1x1024x1024, .f32⟩
  | .local _ .vmem, ⟨5, _⟩ => ⟨S1x1, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1, .f32⟩
  | .local _ .smem, ⟨0, _⟩ => ⟨S1x1, .f32⟩
  | _, _ => ⟨S1024x1045, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_1 : Ref sig .tc := ⟨.hbm, 13, rfl⟩
abbrev main_v9 : Ref sig .tc := ⟨.hbm, 14, rfl⟩
abbrev main_c_2 : Ref sig .tc := ⟨.hbm, 15, rfl⟩
abbrev main_v10 : Ref sig .tc := ⟨.hbm, 16, rfl⟩
abbrev main_v11 : Ref sig .tc := ⟨.hbm, 17, rfl⟩
abbrev main_c_3 : Ref sig .tc := ⟨.hbm, 18, rfl⟩
abbrev main_v12 : Ref sig .tc := ⟨.hbm, 19, rfl⟩
abbrev main_c_4 : Ref sig .tc := ⟨.hbm, 20, rfl⟩
abbrev main_v13 : Ref sig .tc := ⟨.hbm, 21, rfl⟩
abbrev main_v14 : Ref sig .tc := ⟨.hbm, 22, rfl⟩
abbrev main_c_5 : Ref sig .tc := ⟨.hbm, 23, rfl⟩
abbrev main_v15 : Ref sig .tc := ⟨.hbm, 24, rfl⟩
abbrev main_c_6 : Ref sig .tc := ⟨.hbm, 25, rfl⟩
abbrev main_v16 : Ref sig .tc := ⟨.hbm, 26, rfl⟩
abbrev main_c_7 : Ref sig .tc := ⟨.hbm, 27, rfl⟩
abbrev main_v17 : Ref sig .tc := ⟨.hbm, 28, rfl⟩
abbrev main_c_8 : Ref sig .tc := ⟨.hbm, 29, rfl⟩
abbrev main_v18 : Ref sig .tc := ⟨.hbm, 30, rfl⟩
abbrev main_c_9 : Ref sig .tc := ⟨.hbm, 31, rfl⟩
abbrev main_v19 : Ref sig .tc := ⟨.hbm, 32, rfl⟩
abbrev main_c_10 : Ref sig .tc := ⟨.hbm, 33, rfl⟩
abbrev main_v20 : Ref sig .tc := ⟨.hbm, 34, rfl⟩
abbrev main_c_11 : Ref sig .tc := ⟨.hbm, 35, rfl⟩
abbrev main_v21 : Ref sig .tc := ⟨.hbm, 36, rfl⟩
abbrev main_c_12 : Ref sig .tc := ⟨.hbm, 37, rfl⟩
abbrev main_v22 : Ref sig .tc := ⟨.hbm, 38, rfl⟩
abbrev main_c_13 : Ref sig .tc := ⟨.hbm, 39, rfl⟩
abbrev main_v23 : Ref sig .tc := ⟨.hbm, 40, rfl⟩
abbrev main_c_14 : Ref sig .tc := ⟨.hbm, 41, rfl⟩
abbrev main_v24 : Ref sig .tc := ⟨.hbm, 42, rfl⟩
abbrev main_c_15 : Ref sig .tc := ⟨.hbm, 43, rfl⟩
abbrev main_v25 : Ref sig .tc := ⟨.hbm, 44, rfl⟩
abbrev main_c_16 : Ref sig .tc := ⟨.hbm, 45, rfl⟩
abbrev main_v26 : Ref sig .tc := ⟨.hbm, 46, rfl⟩
abbrev main_v27 : Ref sig .tc := ⟨.hbm, 47, rfl⟩
abbrev main_c_17 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_c_18 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_c_19 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_c_20 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_c_21 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_v149 : Ref sig .tc := ⟨.hbm, 174, rfl⟩
abbrev main_c_22 : Ref sig .tc := ⟨.hbm, 175, rfl⟩
abbrev main_v150 : Ref sig .tc := ⟨.hbm, 176, rfl⟩
abbrev main_v151 : Ref sig .tc := ⟨.hbm, 177, rfl⟩
abbrev main_v152 : Ref sig .tc := ⟨.hbm, 178, rfl⟩
abbrev main_c_23 : Ref sig .tc := ⟨.hbm, 179, rfl⟩
abbrev main_v153 : Ref sig .tc := ⟨.hbm, 180, rfl⟩
abbrev main_v154 : Ref sig .tc := ⟨.hbm, 181, rfl⟩
abbrev main_c_24 : Ref sig .tc := ⟨.hbm, 182, rfl⟩
abbrev main_v155 : Ref sig .tc := ⟨.hbm, 183, rfl⟩
abbrev main_v156 : Ref sig .tc := ⟨.hbm, 184, rfl⟩
abbrev main_v157 : Ref sig .tc := ⟨.hbm, 185, rfl⟩
abbrev main_cst : Ref sig .tc := ⟨.hbm, 186, rfl⟩
abbrev main_v158 : Ref sig .tc := ⟨.hbm, 187, rfl⟩
abbrev main_v159 : Ref sig .tc := ⟨.hbm, 188, rfl⟩
abbrev main_cst_25 : Ref sig .tc := ⟨.hbm, 189, rfl⟩
abbrev main_v160 : Ref sig .tc := ⟨.hbm, 190, rfl⟩
abbrev main_v161 : Ref sig .tc := ⟨.hbm, 191, rfl⟩
abbrev main_v162 : Ref sig .tc := ⟨.hbm, 192, rfl⟩
abbrev main_v163 : Ref sig .tc := ⟨.hbm, 193, rfl⟩
abbrev main_v164 : Ref sig .tc := ⟨.hbm, 194, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

@[reducible] def k0_t1_loop : Scf.Loop 32 :=
  let c0_i32_5 : BitVec 32 := 0#32
  let c8_i32 : BitVec 32 := 8#32
  let v16 : BitVec 32 := Scalar.addi c0_i32_5 c8_i32
  let c1_i32_6 : BitVec 32 := 1#32
  ⟨c0_i32_5, v16, c1_i32_6⟩
def k0_off1 (k0_t1 : Fin k0_t1_loop.trips) : Fin 2 → Nat :=
  let c0_i32_5 : BitVec 32 := 0#32
  let c1_i32_6 : BitVec 32 := 1#32
  let arg11 : BitVec 32 := Scf.iv c0_i32_5 c1_i32_6 k0_t1
  let c128_i32 : BitVec 32 := 128#32
  let v23 : BitVec 32 := Scalar.muli arg11 c128_i32
  let v24 : Index := Scalar.indexCast v23
  let c0_23 : Index := 0#32
  ![v24.toNat, 0]
def k0_off2 (k0_t1 : Fin k0_t1_loop.trips) : Fin 2 → Nat :=
  let c0_i32_5 : BitVec 32 := 0#32
  let c1_i32_6 : BitVec 32 := 1#32
  let arg11 : BitVec 32 := Scf.iv c0_i32_5 c1_i32_6 k0_t1
  let c128_i32 : BitVec 32 := 128#32
  let v23 : BitVec 32 := Scalar.muli arg11 c128_i32
  let v29 : Index := Scalar.indexCast v23
  let c0_25 : Index := 0#32
  ![v29.toNat, 0]
@[reducible] def k0_t2_loop : Scf.Loop 32 :=
  let c0_i32_8 : BitVec 32 := 0#32
  let c8_i32_9 : BitVec 32 := 8#32
  let v18 : BitVec 32 := Scalar.addi c0_i32_8 c8_i32_9
  let c1_i32_10 : BitVec 32 := 1#32
  ⟨c0_i32_8, v18, c1_i32_10⟩
def k0_off3 (k0_t2 : Fin k0_t2_loop.trips) : Fin 2 → Nat :=
  let c0_i32_8 : BitVec 32 := 0#32
  let c1_i32_10 : BitVec 32 := 1#32
  let arg11 : BitVec 32 := Scf.iv c0_i32_8 c1_i32_10 k0_t2
  let c128_i32 : BitVec 32 := 128#32
  let v23 : BitVec 32 := Scalar.muli arg11 c128_i32
  let v24 : Index := Scalar.indexCast v23
  let c0_23 : Index := 0#32
  ![v24.toNat, 0]
def k0_off4 (k0_t2 : Fin k0_t2_loop.trips) : Fin 2 → Nat :=
  let c0_i32_8 : BitVec 32 := 0#32
  let c1_i32_10 : BitVec 32 := 1#32
  let arg11 : BitVec 32 := Scf.iv c0_i32_8 c1_i32_10 k0_t2
  let c128_i32 : BitVec 32 := 128#32
  let v23 : BitVec 32 := Scalar.muli arg11 c128_i32
  let v29 : Index := Scalar.indexCast v23
  let c0_25 : Index := 0#32
  ![v29.toNat, 0]
@[reducible] def k0_t3_loop : Scf.Loop 32 :=
  let c0_i32_13 : BitVec 32 := 0#32
  let c8_i32_14 : BitVec 32 := 8#32
  let v19 : BitVec 32 := Scalar.addi c0_i32_13 c8_i32_14
  let c1_i32_15 : BitVec 32 := 1#32
  ⟨c0_i32_13, v19, c1_i32_15⟩
def k0_off5 (k0_t3 : Fin k0_t3_loop.trips) : Fin 2 → Nat :=
  let c0_i32_13 : BitVec 32 := 0#32
  let c1_i32_15 : BitVec 32 := 1#32
  let arg11 : BitVec 32 := Scf.iv c0_i32_13 c1_i32_15 k0_t3
  let c128_i32 : BitVec 32 := 128#32
  let v23 : BitVec 32 := Scalar.muli arg11 c128_i32
  let v24 : Index := Scalar.indexCast v23
  let c0_23 : Index := 0#32
  ![v24.toNat, 0]
def k0_off6 (k0_t3 : Fin k0_t3_loop.trips) : Fin 2 → Nat :=
  let c0_i32_13 : BitVec 32 := 0#32
  let c1_i32_15 : BitVec 32 := 1#32
  let arg11 : BitVec 32 := Scf.iv c0_i32_13 c1_i32_15 k0_t3
  let c128_i32 : BitVec 32 := 128#32
  let v23 : BitVec 32 := Scalar.muli arg11 c128_i32
  let v29 : Index := Scalar.indexCast v23
  let c0_25 : Index := 0#32
  ![v29.toNat, 0]
@[reducible] def k0_t4_loop : Scf.Loop 32 :=
  let c0_i32_17 : BitVec 32 := 0#32
  let c8_i32_18 : BitVec 32 := 8#32
  let v21 : BitVec 32 := Scalar.addi c0_i32_17 c8_i32_18
  let c1_i32_19 : BitVec 32 := 1#32
  ⟨c0_i32_17, v21, c1_i32_19⟩
def k0_off7 (k0_t4 : Fin k0_t4_loop.trips) : Fin 2 → Nat :=
  let c0_i32_17 : BitVec 32 := 0#32
  let c1_i32_19 : BitVec 32 := 1#32
  let arg11 : BitVec 32 := Scf.iv c0_i32_17 c1_i32_19 k0_t4
  let c128_i32 : BitVec 32 := 128#32
  let v23 : BitVec 32 := Scalar.muli arg11 c128_i32
  let v24 : Index := Scalar.indexCast v23
  let c0_23 : Index := 0#32
  ![v24.toNat, 0]
def k0_off8 (k0_t4 : Fin k0_t4_loop.trips) : Fin 2 → Nat :=
  let c0_i32_17 : BitVec 32 := 0#32
  let c1_i32_19 : BitVec 32 := 1#32
  let arg11 : BitVec 32 := Scf.iv c0_i32_17 c1_i32_19 k0_t4
  let c128_i32 : BitVec 32 := 128#32
  let v23 : BitVec 32 := Scalar.muli arg11 c128_i32
  let v29 : Index := Scalar.indexCast v23
  let c0_25 : Index := 0#32
  ![v29.toNat, 0]
def k0_cond2 (i : grid0.Coords) : BitVec 1 :=
  let arg0 : BitVec 32 := BitVec.ofNat 32 (i 0).val
  let c1_i32 : BitVec 32 := 1#32
  let v5 : BitVec 1 := Scalar.cmpi .sge arg0 c1_i32
  let c5_i32 : BitVec 32 := 5#32
  let v6 : BitVec 1 := Scalar.cmpi .sle arg0 c5_i32
  let v7 : BitVec 1 := Scalar.andi v5 v6
  let v8 : BitVec 32 := Scalar.extui v7
  let c0_i32_1 : BitVec 32 := 0#32
  let v9 : BitVec 1 := Scalar.cmpi .ne v8 c0_i32_1
  v9

@[reducible] def k0_t5_loop : Scf.Loop 32 :=
  let c0_i32_6 : BitVec 32 := 0#32
  let c8_i32 : BitVec 32 := 8#32
  let v17 : BitVec 32 := Scalar.addi c0_i32_6 c8_i32
  let c1_i32_7 : BitVec 32 := 1#32
  ⟨c0_i32_6, v17, c1_i32_7⟩
def k0_off9 (k0_t5 : Fin k0_t5_loop.trips) : Fin 3 → Nat :=
  let c0_11 : Index := 0#32
  let c0_i32_6 : BitVec 32 := 0#32
  let c1_i32_7 : BitVec 32 := 1#32
  let arg11 : BitVec 32 := Scf.iv c0_i32_6 c1_i32_7 k0_t5
  let c128_i32 : BitVec 32 := 128#32
  let v21 : BitVec 32 := Scalar.muli arg11 c128_i32
  let v22 : Index := Scalar.indexCast v21
  let c0_12 : Index := 0#32
  ![0, v22.toNat, 0]
def k0_off10 (k0_t5 : Fin k0_t5_loop.trips) : Fin 2 → Nat :=
  let c0_i32_6 : BitVec 32 := 0#32
  let c1_i32_7 : BitVec 32 := 1#32
  let arg11 : BitVec 32 := Scf.iv c0_i32_6 c1_i32_7 k0_t5
  let c128_i32 : BitVec 32 := 128#32
  let v21 : BitVec 32 := Scalar.muli arg11 c128_i32
  let v25 : Index := Scalar.indexCast v21
  let c0_13 : Index := 0#32
  ![v25.toNat, 0]
def k0_off11 (k0_t5 : Fin k0_t5_loop.trips) : Fin 2 → Nat :=
  let c0_i32_6 : BitVec 32 := 0#32
  let c1_i32_7 : BitVec 32 := 1#32
  let arg11 : BitVec 32 := Scf.iv c0_i32_6 c1_i32_7 k0_t5
  let c128_i32 : BitVec 32 := 128#32
  let v21 : BitVec 32 := Scalar.muli arg11 c128_i32
  let v45 : Index := Scalar.indexCast v21
  let c0_19 : Index := 0#32
  ![v45.toNat, 0]
def k0_cond3 (i : grid0.Coords) : BitVec 1 :=
  let arg0 : BitVec 32 := BitVec.ofNat 32 (i 0).val
  let c5_i32_2 : BitVec 32 := 5#32
  let v10 : BitVec 1 := Scalar.cmpi .sgt arg0 c5_i32_2
  let v11 : BitVec 32 := Scalar.extui v10
  let c0_i32_3 : BitVec 32 := 0#32
  let v12 : BitVec 1 := Scalar.cmpi .ne v11 c0_i32_3
  v12

@[reducible] def k0_t6_loop : Scf.Loop 32 :=
  let c0_i32_6 : BitVec 32 := 0#32
  let c8_i32 : BitVec 32 := 8#32
  let v17 : BitVec 32 := Scalar.addi c0_i32_6 c8_i32
  let c1_i32_7 : BitVec 32 := 1#32
  ⟨c0_i32_6, v17, c1_i32_7⟩
def k0_off12 (k0_t6 : Fin k0_t6_loop.trips) : Fin 3 → Nat :=
  let c0_11 : Index := 0#32
  let c0_i32_6 : BitVec 32 := 0#32
  let c1_i32_7 : BitVec 32 := 1#32
  let arg11 : BitVec 32 := Scf.iv c0_i32_6 c1_i32_7 k0_t6
  let c128_i32 : BitVec 32 := 128#32
  let v21 : BitVec 32 := Scalar.muli arg11 c128_i32
  let v22 : Index := Scalar.indexCast v21
  let c0_12 : Index := 0#32
  ![0, v22.toNat, 0]
def k0_off13 (k0_t6 : Fin k0_t6_loop.trips) : Fin 2 → Nat :=
  let c0_i32_6 : BitVec 32 := 0#32
  let c1_i32_7 : BitVec 32 := 1#32
  let arg11 : BitVec 32 := Scf.iv c0_i32_6 c1_i32_7 k0_t6
  let c128_i32 : BitVec 32 := 128#32
  let v21 : BitVec 32 := Scalar.muli arg11 c128_i32
  let v25 : Index := Scalar.indexCast v21
  let c0_13 : Index := 0#32
  ![v25.toNat, 0]
def k0_off14 (k0_t6 : Fin k0_t6_loop.trips) : Fin 2 → Nat :=
  let c0_i32_6 : BitVec 32 := 0#32
  let c1_i32_7 : BitVec 32 := 1#32
  let arg11 : BitVec 32 := Scf.iv c0_i32_6 c1_i32_7 k0_t6
  let c128_i32 : BitVec 32 := 128#32
  let v21 : BitVec 32 := Scalar.muli arg11 c128_i32
  let v45 : Index := Scalar.indexCast v21
  let c0_19 : Index := 0#32
  ![v45.toNat, 0]
def k0_cond4 (i : grid0.Coords) : BitVec 1 :=
  let arg0 : BitVec 32 := BitVec.ofNat 32 (i 0).val
  let c15_i32 : BitVec 32 := 15#32
  let v13 : BitVec 1 := Scalar.cmpi .eq arg0 c15_i32
  let v14 : BitVec 32 := Scalar.extui v13
  let c0_i32_4 : BitVec 32 := 0#32
  let v15 : BitVec 1 := Scalar.cmpi .ne v14 c0_i32_4
  v15

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S1024x1045 : Shape := ⟨2, ![1024, 1045]⟩
abbrev S1024 : Shape := ⟨1, ![1024]⟩
abbrev S1024x1 : Shape := ⟨2, ![1024, 1]⟩
abbrev S_ : Shape := ⟨0, ![]⟩
abbrev S1024x1024 : Shape := ⟨2, ![1024, 1024]⟩
abbrev S5242880 : Shape := ⟨1, ![5242880]⟩
abbrev S5x1024x1024 : Shape := ⟨3, ![5, 1024, 1024]⟩
abbrev S1x1024x1024 : Shape := ⟨3, ![1, 1024, 1024]⟩
abbrev S5x1024x1 : Shape := ⟨3, ![5, 1024, 1]⟩
abbrev S5x1024 : Shape := ⟨2, ![5, 1024]⟩
abbrev S1024x5 : Shape := ⟨2, ![1024, 5]⟩
abbrev S1024x1x1 : Shape := ⟨3, ![1024, 1, 1]⟩
abbrev S1 : Shape := ⟨1, ![1]⟩
abbrev S1x1x1 : Shape := ⟨3, ![1, 1, 1]⟩
abbrev S1024x5x1 : Shape := ⟨3, ![1024, 5, 1]⟩
abbrev S10485760 : Shape := ⟨1, ![10485760]⟩
abbrev S10x1024x1024 : Shape := ⟨3, ![10, 1024, 1024]⟩
abbrev S10x1024x1 : Shape := ⟨3, ![10, 1024, 1]⟩
abbrev S10x1024 : Shape := ⟨2, ![10, 1024]⟩
abbrev S1024x10 : Shape := ⟨2, ![1024, 10]⟩
abbrev S1024x10x1 : Shape := ⟨3, ![1024, 10, 1]⟩
abbrev S1x1 : Shape := ⟨2, ![1, 1]⟩

abbrev nBuf : Space → Nat
  | .hbm => 758
  | .vmem => 0
  | .smem => 0
  | _ => 0

abbrev hbmTy0_0 (i : Nat) : BufTy := match i % 128 with
  | 0 => ⟨S1024x1045, .f32⟩
  | 1 => ⟨S1024, .i32⟩
  | 2 => ⟨S1024x1, .f32⟩
  | 3 => ⟨S1024, .f32⟩
  | 4 => ⟨S1024, .f32⟩
  | 5 => ⟨S_, .f32⟩
  | 6 => ⟨S1024, .f32⟩
  | 7 => ⟨S1024, .f32⟩
  | 8 => ⟨S1024x1024, .f32⟩
  | 9 => ⟨S1024x1024, .f32⟩
  | 10 => ⟨S_, .f32⟩
  | 11 => ⟨S1024x1024, .f32⟩
  | 12 => ⟨S1024x1024, .f32⟩
  | 13 => ⟨S1024x1, .f32⟩
  | 14 => ⟨S1024x1024, .f32⟩
  | 15 => ⟨S1024x1024, .f32⟩
  | 16 => ⟨S_, .f32⟩
  | 17 => ⟨S1024x1024, .f32⟩
  | 18 => ⟨S1024x1024, .i1⟩
  | 19 => ⟨S_, .f32⟩
  | 20 => ⟨S1024x1024, .f32⟩
  | 21 => ⟨S1024x1024, .f32⟩
  | 22 => ⟨S1024x1024, .f32⟩
  | 23 => ⟨S_, .f32⟩
  | 24 => ⟨S1024x1024, .f32⟩
  | 25 => ⟨S1024x1024, .f32⟩
  | 26 => ⟨S_, .f32⟩
  | 27 => ⟨S1024x1024, .f32⟩
  | 28 => ⟨S1024x1024, .f32⟩
  | 29 => ⟨S_, .f32⟩
  | 30 => ⟨S1024x1024, .f32⟩
  | 31 => ⟨S1024x1024, .f32⟩
  | 32 => ⟨S_, .f32⟩
  | 33 => ⟨S1024x1024, .f32⟩
  | 34 => ⟨S1024x1024, .f32⟩
  | 35 => ⟨S1024x1024, .f32⟩
  | 36 => ⟨S_, .f32⟩
  | 37 => ⟨S1024x1024, .f32⟩
  | 38 => ⟨S1024x1024, .f32⟩
  | 39 => ⟨S1024x1024, .f32⟩
  | 40 => ⟨S_, .f32⟩
  | 41 => ⟨S_, .f32⟩
  | 42 => ⟨S1024x1024, .f32⟩
  | 43 => ⟨S1024x1024, .f32⟩
  | 44 => ⟨S1024x1024, .f32⟩
  | 45 => ⟨S1024x1024, .i32⟩
  | 46 => ⟨S1024x1024, .i32⟩
  | 47 => ⟨S_, .i32⟩
  | 48 => ⟨S1024x1024, .i32⟩
  | 49 => ⟨S1024x1024, .i32⟩
  | 50 => ⟨S1024x1024, .i1⟩
  | 51 => ⟨S1024x1024, .f32⟩
  | 52 => ⟨S_, .f32⟩
  | 53 => ⟨S1024x1024, .f32⟩
  | 54 => ⟨S1024x1024, .f32⟩
  | 55 => ⟨S1024x1024, .f32⟩
  | 56 => ⟨S_, .f32⟩
  | 57 => ⟨S1024x1024, .f32⟩
  | 58 => ⟨S1024x1024, .i1⟩
  | 59 => ⟨S_, .f32⟩
  | 60 => ⟨S1024x1024, .f32⟩
  | 61 => ⟨S_, .f32⟩
  | 62 => ⟨S1024x1024, .f32⟩
  | 63 => ⟨S1024x1024, .f32⟩
  | 64 => ⟨S1024x1024, .f32⟩
  | 65 => ⟨S_, .f32⟩
  | 66 => ⟨S1024, .f32⟩
  | 67 => ⟨S1024x1, .f32⟩
  | 68 => ⟨S_, .f32⟩
  | 69 => ⟨S1024x1, .f32⟩
  | 70 => ⟨S1024x1, .f32⟩
  | 71 => ⟨S1024x1024, .f32⟩
  | 72 => ⟨S1024x1024, .f32⟩
  | 73 => ⟨S_, .f32⟩
  | 74 => ⟨S1024x1024, .f32⟩
  | 75 => ⟨S1024x1024, .f32⟩
  | 76 => ⟨S1024x1024, .f32⟩
  | 77 => ⟨S5242880, .i32⟩
  | 78 => ⟨S5x1024x1024, .i32⟩
  | 79 => ⟨S_, .i32⟩
  | 80 => ⟨S5x1024x1024, .i32⟩
  | 81 => ⟨S_, .i32⟩
  | 82 => ⟨S5x1024x1024, .i32⟩
  | 83 => ⟨S5x1024x1024, .i32⟩
  | 84 => ⟨S_, .i32⟩
  | 85 => ⟨S5x1024x1024, .i32⟩
  | 86 => ⟨S5x1024x1024, .i32⟩
  | 87 => ⟨S5x1024x1024, .i32⟩
  | 88 => ⟨S_, .i32⟩
  | 89 => ⟨S5x1024x1024, .i32⟩
  | 90 => ⟨S5x1024x1024, .i32⟩
  | 91 => ⟨S_, .i32⟩
  | 92 => ⟨S5x1024x1024, .i32⟩
  | 93 => ⟨S5x1024x1024, .i32⟩
  | 94 => ⟨S5x1024x1024, .i32⟩
  | 95 => ⟨S5x1024x1024, .i32⟩
  | 96 => ⟨S5x1024x1024, .i32⟩
  | 97 => ⟨S_, .i32⟩
  | 98 => ⟨S5x1024x1024, .i32⟩
  | 99 => ⟨S5x1024x1024, .i32⟩
  | 100 => ⟨S_, .i32⟩
  | 101 => ⟨S5x1024x1024, .i32⟩
  | 102 => ⟨S5x1024x1024, .i32⟩
  | 103 => ⟨S5x1024x1024, .i32⟩
  | 104 => ⟨S5x1024x1024, .i32⟩
  | 105 => ⟨S5x1024x1024, .i32⟩
  | 106 => ⟨S_, .i32⟩
  | 107 => ⟨S5x1024x1024, .i32⟩
  | 108 => ⟨S5x1024x1024, .i32⟩
  | 109 => ⟨S_, .i32⟩
  | 110 => ⟨S5x1024x1024, .i32⟩
  | 111 => ⟨S5x1024x1024, .i32⟩
  | 112 => ⟨S5x1024x1024, .i32⟩
  | 113 => ⟨S5x1024x1024, .i32⟩
  | 114 => ⟨S5x1024x1024, .i32⟩
  | 115 => ⟨S_, .i32⟩
  | 116 => ⟨S5x1024x1024, .i32⟩
  | 117 => ⟨S5x1024x1024, .i32⟩
  | 118 => ⟨S_, .i32⟩
  | 119 => ⟨S5x1024x1024, .i32⟩
  | 120 => ⟨S5x1024x1024, .i32⟩
  | 121 => ⟨S5x1024x1024, .i32⟩
  | 122 => ⟨S5x1024x1024, .i32⟩
  | 123 => ⟨S_, .i32⟩
  | 124 => ⟨S5x1024x1024, .i32⟩
  | 125 => ⟨S5x1024x1024, .i32⟩
  | 126 => ⟨S_, .i32⟩
  | 127 => ⟨S5x1024x1024, .i32⟩
  | _ => ⟨S1024x1045, .f32⟩

abbrev hbmTy0_1 (i : Nat) : BufTy := match i % 128 with
  | 0 => ⟨S5x1024x1024, .i32⟩
  | 1 => ⟨S5x1024x1024, .i32⟩
  | 2 => ⟨S_, .i32⟩
  | 3 => ⟨S5x1024x1024, .i32⟩
  | 4 => ⟨S5x1024x1024, .i32⟩
  | 5 => ⟨S_, .i32⟩
  | 6 => ⟨S5x1024x1024, .i32⟩
  | 7 => ⟨S5x1024x1024, .i32⟩
  | 8 => ⟨S5x1024x1024, .i32⟩
  | 9 => ⟨S5x1024x1024, .i32⟩
  | 10 => ⟨S5x1024x1024, .i32⟩
  | 11 => ⟨S_, .i32⟩
  | 12 => ⟨S5x1024x1024, .i32⟩
  | 13 => ⟨S5x1024x1024, .i32⟩
  | 14 => ⟨S_, .i32⟩
  | 15 => ⟨S5x1024x1024, .i32⟩
  | 16 => ⟨S5x1024x1024, .i32⟩
  | 17 => ⟨S5x1024x1024, .i32⟩
  | 18 => ⟨S5x1024x1024, .i32⟩
  | 19 => ⟨S5x1024x1024, .i32⟩
  | 20 => ⟨S_, .i32⟩
  | 21 => ⟨S5x1024x1024, .i32⟩
  | 22 => ⟨S5x1024x1024, .i32⟩
  | 23 => ⟨S_, .i32⟩
  | 24 => ⟨S5x1024x1024, .i32⟩
  | 25 => ⟨S5x1024x1024, .i32⟩
  | 26 => ⟨S5x1024x1024, .i32⟩
  | 27 => ⟨S5x1024x1024, .i32⟩
  | 28 => ⟨S5x1024x1024, .i32⟩
  | 29 => ⟨S_, .i32⟩
  | 30 => ⟨S5x1024x1024, .i32⟩
  | 31 => ⟨S5x1024x1024, .i32⟩
  | 32 => ⟨S_, .i32⟩
  | 33 => ⟨S5x1024x1024, .i32⟩
  | 34 => ⟨S5x1024x1024, .i32⟩
  | 35 => ⟨S5x1024x1024, .i32⟩
  | 36 => ⟨S5x1024x1024, .i32⟩
  | 37 => ⟨S_, .i32⟩
  | 38 => ⟨S5x1024x1024, .i32⟩
  | 39 => ⟨S5x1024x1024, .i32⟩
  | 40 => ⟨S_, .i32⟩
  | 41 => ⟨S5x1024x1024, .i32⟩
  | 42 => ⟨S5x1024x1024, .i32⟩
  | 43 => ⟨S5x1024x1024, .i32⟩
  | 44 => ⟨S_, .i32⟩
  | 45 => ⟨S5x1024x1024, .i32⟩
  | 46 => ⟨S5x1024x1024, .i32⟩
  | 47 => ⟨S_, .i32⟩
  | 48 => ⟨S5x1024x1024, .i32⟩
  | 49 => ⟨S5x1024x1024, .i32⟩
  | 50 => ⟨S5x1024x1024, .i32⟩
  | 51 => ⟨S5x1024x1024, .i32⟩
  | 52 => ⟨S5x1024x1024, .i32⟩
  | 53 => ⟨S_, .i32⟩
  | 54 => ⟨S5x1024x1024, .i32⟩
  | 55 => ⟨S5x1024x1024, .i32⟩
  | 56 => ⟨S_, .i32⟩
  | 57 => ⟨S5x1024x1024, .i32⟩
  | 58 => ⟨S5x1024x1024, .i32⟩
  | 59 => ⟨S5x1024x1024, .i32⟩
  | 60 => ⟨S5x1024x1024, .i32⟩
  | 61 => ⟨S5x1024x1024, .i32⟩
  | 62 => ⟨S_, .i32⟩
  | 63 => ⟨S5x1024x1024, .i32⟩
  | 64 => ⟨S5x1024x1024, .i32⟩
  | 65 => ⟨S_, .i32⟩
  | 66 => ⟨S5x1024x1024, .i32⟩
  | 67 => ⟨S5x1024x1024, .i32⟩
  | 68 => ⟨S5x1024x1024, .i32⟩
  | 69 => ⟨S5x1024x1024, .i32⟩
  | 70 => ⟨S5x1024x1024, .i32⟩
  | 71 => ⟨S_, .i32⟩
  | 72 => ⟨S5x1024x1024, .i32⟩
  | 73 => ⟨S5x1024x1024, .i32⟩
  | 74 => ⟨S_, .i32⟩
  | 75 => ⟨S5x1024x1024, .i32⟩
  | 76 => ⟨S5x1024x1024, .i32⟩
  | 77 => ⟨S5x1024x1024, .i32⟩
  | 78 => ⟨S5x1024x1024, .i32⟩
  | 79 => ⟨S_, .i32⟩
  | 80 => ⟨S5x1024x1024, .i32⟩
  | 81 => ⟨S5x1024x1024, .i32⟩
  | 82 => ⟨S_, .i32⟩
  | 83 => ⟨S5x1024x1024, .i32⟩
  | 84 => ⟨S5x1024x1024, .i32⟩
  | 85 => ⟨S5x1024x1024, .i32⟩
  | 86 => ⟨S_, .i32⟩
  | 87 => ⟨S5x1024x1024, .i32⟩
  | 88 => ⟨S5x1024x1024, .i32⟩
  | 89 => ⟨S_, .i32⟩
  | 90 => ⟨S5x1024x1024, .i32⟩
  | 91 => ⟨S5x1024x1024, .i32⟩
  | 92 => ⟨S5x1024x1024, .i32⟩
  | 93 => ⟨S5x1024x1024, .i32⟩
  | 94 => ⟨S5x1024x1024, .i32⟩
  | 95 => ⟨S_, .i32⟩
  | 96 => ⟨S5x1024x1024, .i32⟩
  | 97 => ⟨S5x1024x1024, .i32⟩
  | 98 => ⟨S_, .i32⟩
  | 99 => ⟨S5x1024x1024, .i32⟩
  | 100 => ⟨S5x1024x1024, .i32⟩
  | 101 => ⟨S5x1024x1024, .i32⟩
  | 102 => ⟨S5x1024x1024, .i32⟩
  | 103 => ⟨S5x1024x1024, .i32⟩
  | 104 => ⟨S_, .i32⟩
  | 105 => ⟨S5x1024x1024, .i32⟩
  | 106 => ⟨S5x1024x1024, .i32⟩
  | 107 => ⟨S_, .i32⟩
  | 108 => ⟨S5x1024x1024, .i32⟩
  | 109 => ⟨S5x1024x1024, .i32⟩
  | 110 => ⟨S5x1024x1024, .i32⟩
  | 111 => ⟨S5x1024x1024, .i32⟩
  | 112 => ⟨S5x1024x1024, .i32⟩
  | 113 => ⟨S_, .i32⟩
  | 114 => ⟨S5x1024x1024, .i32⟩
  | 115 => ⟨S5x1024x1024, .i32⟩
  | 116 => ⟨S_, .i32⟩
  | 117 => ⟨S5x1024x1024, .i32⟩
  | 118 => ⟨S5x1024x1024, .i32⟩
  | 119 => ⟨S5x1024x1024, .i32⟩
  | 120 => ⟨S5x1024x1024, .i32⟩
  | 121 => ⟨S_, .i32⟩
  | 122 => ⟨S5x1024x1024, .i32⟩
  | 123 => ⟨S5x1024x1024, .i32⟩
  | 124 => ⟨S_, .i32⟩
  | 125 => ⟨S5x1024x1024, .i32⟩
  | 126 => ⟨S5x1024x1024, .i32⟩
  | 127 => ⟨S5x1024x1024, .i32⟩
  | _ => ⟨S1024x1045, .f32⟩

abbrev hbmTy0_2 (i : Nat) : BufTy := match i % 128 with
  | 0 => ⟨S_, .i32⟩
  | 1 => ⟨S5x1024x1024, .i32⟩
  | 2 => ⟨S5x1024x1024, .i32⟩
  | 3 => ⟨S_, .i32⟩
  | 4 => ⟨S5x1024x1024, .i32⟩
  | 5 => ⟨S5x1024x1024, .i32⟩
  | 6 => ⟨S5x1024x1024, .i32⟩
  | 7 => ⟨S5x1024x1024, .i32⟩
  | 8 => ⟨S5x1024x1024, .i32⟩
  | 9 => ⟨S_, .i32⟩
  | 10 => ⟨S5x1024x1024, .i32⟩
  | 11 => ⟨S5x1024x1024, .i32⟩
  | 12 => ⟨S_, .i32⟩
  | 13 => ⟨S5x1024x1024, .i32⟩
  | 14 => ⟨S5x1024x1024, .i32⟩
  | 15 => ⟨S5x1024x1024, .i32⟩
  | 16 => ⟨S5x1024x1024, .i32⟩
  | 17 => ⟨S5x1024x1024, .i32⟩
  | 18 => ⟨S_, .i32⟩
  | 19 => ⟨S5x1024x1024, .i32⟩
  | 20 => ⟨S5x1024x1024, .i32⟩
  | 21 => ⟨S_, .i32⟩
  | 22 => ⟨S5x1024x1024, .i32⟩
  | 23 => ⟨S5x1024x1024, .i32⟩
  | 24 => ⟨S5x1024x1024, .i32⟩
  | 25 => ⟨S5x1024x1024, .i32⟩
  | 26 => ⟨S5x1024x1024, .i32⟩
  | 27 => ⟨S_, .i32⟩
  | 28 => ⟨S5x1024x1024, .i32⟩
  | 29 => ⟨S5x1024x1024, .i32⟩
  | 30 => ⟨S_, .i32⟩
  | 31 => ⟨S5x1024x1024, .i32⟩
  | 32 => ⟨S5x1024x1024, .i32⟩
  | 33 => ⟨S5x1024x1024, .i32⟩
  | 34 => ⟨S5x1024x1024, .i32⟩
  | 35 => ⟨S_, .i32⟩
  | 36 => ⟨S5x1024x1024, .i32⟩
  | 37 => ⟨S5x1024x1024, .i32⟩
  | 38 => ⟨S_, .i32⟩
  | 39 => ⟨S5x1024x1024, .i32⟩
  | 40 => ⟨S5x1024x1024, .i32⟩
  | 41 => ⟨S5x1024x1024, .i32⟩
  | 42 => ⟨S_, .i32⟩
  | 43 => ⟨S5x1024x1024, .i32⟩
  | 44 => ⟨S5x1024x1024, .i32⟩
  | 45 => ⟨S5x1024x1024, .i32⟩
  | 46 => ⟨S5x1024x1024, .f32⟩
  | 47 => ⟨S_, .f32⟩
  | 48 => ⟨S5x1024x1024, .f32⟩
  | 49 => ⟨S5x1024x1024, .f32⟩
  | 50 => ⟨S_, .f32⟩
  | 51 => ⟨S5x1024x1024, .f32⟩
  | 52 => ⟨S5x1024x1024, .f32⟩
  | 53 => ⟨S5x1024x1024, .f32⟩
  | 54 => ⟨S5x1024x1024, .f32⟩
  | 55 => ⟨S5x1024x1024, .f32⟩
  | 56 => ⟨S5x1024x1024, .f32⟩
  | 57 => ⟨S1x1024x1024, .f32⟩
  | 58 => ⟨S5x1024x1024, .f32⟩
  | 59 => ⟨S5x1024x1024, .f32⟩
  | 60 => ⟨S5x1024x1, .f32⟩
  | 61 => ⟨S5x1024x1, .i32⟩
  | 62 => ⟨S5x1024, .i32⟩
  | 63 => ⟨S1024x5, .i32⟩
  | 64 => ⟨S1024, .i32⟩
  | 65 => ⟨S1024x1, .i32⟩
  | 66 => ⟨S_, .i32⟩
  | 67 => ⟨S1024x1, .i32⟩
  | 68 => ⟨S1024x1, .i1⟩
  | 69 => ⟨S_, .i32⟩
  | 70 => ⟨S1024x1, .i32⟩
  | 71 => ⟨S1024x1, .i32⟩
  | 72 => ⟨S1024x1, .i32⟩
  | 73 => ⟨S1024x1x1, .i32⟩
  | 74 => ⟨S1, .i32⟩
  | 75 => ⟨S_, .i32⟩
  | 76 => ⟨S1024x1x1, .i32⟩
  | 77 => ⟨S1024x1x1, .i1⟩
  | 78 => ⟨S1x1x1, .i32⟩
  | 79 => ⟨S1024x1x1, .i32⟩
  | 80 => ⟨S1024x1x1, .i1⟩
  | 81 => ⟨S1024x1x1, .i1⟩
  | 82 => ⟨S_, .i1⟩
  | 83 => ⟨S1024x1, .i1⟩
  | 84 => ⟨S1024x1, .f32⟩
  | 85 => ⟨S_, .f32⟩
  | 86 => ⟨S1024x1, .f32⟩
  | 87 => ⟨S1024x1, .f32⟩
  | 88 => ⟨S_, .i32⟩
  | 89 => ⟨S1024x5, .i32⟩
  | 90 => ⟨S1024x5, .i1⟩
  | 91 => ⟨S_, .i32⟩
  | 92 => ⟨S1024x5, .i32⟩
  | 93 => ⟨S1024x5, .i32⟩
  | 94 => ⟨S1024x5, .i32⟩
  | 95 => ⟨S1024x5x1, .i32⟩
  | 96 => ⟨S1, .i32⟩
  | 97 => ⟨S_, .i32⟩
  | 98 => ⟨S1024x5x1, .i32⟩
  | 99 => ⟨S1024x5x1, .i1⟩
  | 100 => ⟨S1x1x1, .i32⟩
  | 101 => ⟨S1024x5x1, .i32⟩
  | 102 => ⟨S1024x5x1, .i1⟩
  | 103 => ⟨S1024x5x1, .i1⟩
  | 104 => ⟨S_, .i1⟩
  | 105 => ⟨S1024x5, .i1⟩
  | 106 => ⟨S1024x5, .f32⟩
  | 107 => ⟨S_, .f32⟩
  | 108 => ⟨S1024x5, .f32⟩
  | 109 => ⟨S1024x5, .f32⟩
  | 110 => ⟨S_, .f32⟩
  | 111 => ⟨S1024x1, .f32⟩
  | 112 => ⟨S1024x1, .f32⟩
  | 113 => ⟨S1024x5, .f32⟩
  | 114 => ⟨S1024x5, .f32⟩
  | 115 => ⟨S_, .f32⟩
  | 116 => ⟨S_, .f32⟩
  | 117 => ⟨S1024x5, .f32⟩
  | 118 => ⟨S1024x5, .f32⟩
  | 119 => ⟨S_, .f32⟩
  | 120 => ⟨S1024, .f32⟩
  | 121 => ⟨S_, .f32⟩
  | 122 => ⟨S1024, .f32⟩
  | 123 => ⟨S1024, .f32⟩
  | 124 => ⟨S_, .f32⟩
  | 125 => ⟨S_, .f32⟩
  | 126 => ⟨S_, .f32⟩
  | 127 => ⟨S_, .f32⟩
  | _ => ⟨S1024x1045, .f32⟩

abbrev hbmTy0_3 (i : Nat) : BufTy := match i % 128 with
  | 0 => ⟨S1024x1024, .f32⟩
  | 1 => ⟨S1024x1, .f32⟩
  | 2 => ⟨S1024x1024, .f32⟩
  | 3 => ⟨S1024x1024, .f32⟩
  | 4 => ⟨S_, .f32⟩
  | 5 => ⟨S1024x1024, .f32⟩
  | 6 => ⟨S1024x1024, .i1⟩
  | 7 => ⟨S_, .f32⟩
  | 8 => ⟨S1024x1024, .f32⟩
  | 9 => ⟨S1024x1024, .f32⟩
  | 10 => ⟨S1024x1024, .f32⟩
  | 11 => ⟨S_, .f32⟩
  | 12 => ⟨S1024x1024, .f32⟩
  | 13 => ⟨S1024x1024, .f32⟩
  | 14 => ⟨S_, .f32⟩
  | 15 => ⟨S1024x1024, .f32⟩
  | 16 => ⟨S1024x1024, .f32⟩
  | 17 => ⟨S_, .f32⟩
  | 18 => ⟨S1024x1024, .f32⟩
  | 19 => ⟨S1024x1024, .f32⟩
  | 20 => ⟨S_, .f32⟩
  | 21 => ⟨S1024x1024, .f32⟩
  | 22 => ⟨S1024x1024, .f32⟩
  | 23 => ⟨S1024x1024, .f32⟩
  | 24 => ⟨S_, .f32⟩
  | 25 => ⟨S1024x1024, .f32⟩
  | 26 => ⟨S1024x1024, .f32⟩
  | 27 => ⟨S1024x1024, .f32⟩
  | 28 => ⟨S_, .f32⟩
  | 29 => ⟨S_, .f32⟩
  | 30 => ⟨S1024x1024, .f32⟩
  | 31 => ⟨S1024x1024, .f32⟩
  | 32 => ⟨S1024x1024, .f32⟩
  | 33 => ⟨S1024x1024, .i32⟩
  | 34 => ⟨S1024x1024, .i32⟩
  | 35 => ⟨S_, .i32⟩
  | 36 => ⟨S1024x1024, .i32⟩
  | 37 => ⟨S1024x1024, .i32⟩
  | 38 => ⟨S1024x1024, .i1⟩
  | 39 => ⟨S1024x1024, .f32⟩
  | 40 => ⟨S_, .f32⟩
  | 41 => ⟨S1024x1024, .f32⟩
  | 42 => ⟨S1024x1024, .f32⟩
  | 43 => ⟨S1024x1024, .f32⟩
  | 44 => ⟨S_, .f32⟩
  | 45 => ⟨S1024x1024, .f32⟩
  | 46 => ⟨S1024x1024, .i1⟩
  | 47 => ⟨S_, .f32⟩
  | 48 => ⟨S1024x1024, .f32⟩
  | 49 => ⟨S_, .f32⟩
  | 50 => ⟨S1024x1024, .f32⟩
  | 51 => ⟨S1024x1024, .f32⟩
  | 52 => ⟨S1024x1024, .f32⟩
  | 53 => ⟨S_, .f32⟩
  | 54 => ⟨S1024, .f32⟩
  | 55 => ⟨S1024x1, .f32⟩
  | 56 => ⟨S_, .f32⟩
  | 57 => ⟨S1024x1, .f32⟩
  | 58 => ⟨S1024x1, .f32⟩
  | 59 => ⟨S1024x1024, .f32⟩
  | 60 => ⟨S1024x1024, .f32⟩
  | 61 => ⟨S_, .f32⟩
  | 62 => ⟨S1024x1024, .f32⟩
  | 63 => ⟨S1024x1024, .f32⟩
  | 64 => ⟨S1024x1024, .f32⟩
  | 65 => ⟨S10485760, .i32⟩
  | 66 => ⟨S10x1024x1024, .i32⟩
  | 67 => ⟨S_, .i32⟩
  | 68 => ⟨S10x1024x1024, .i32⟩
  | 69 => ⟨S_, .i32⟩
  | 70 => ⟨S10x1024x1024, .i32⟩
  | 71 => ⟨S10x1024x1024, .i32⟩
  | 72 => ⟨S_, .i32⟩
  | 73 => ⟨S10x1024x1024, .i32⟩
  | 74 => ⟨S10x1024x1024, .i32⟩
  | 75 => ⟨S10x1024x1024, .i32⟩
  | 76 => ⟨S_, .i32⟩
  | 77 => ⟨S10x1024x1024, .i32⟩
  | 78 => ⟨S10x1024x1024, .i32⟩
  | 79 => ⟨S_, .i32⟩
  | 80 => ⟨S10x1024x1024, .i32⟩
  | 81 => ⟨S10x1024x1024, .i32⟩
  | 82 => ⟨S10x1024x1024, .i32⟩
  | 83 => ⟨S10x1024x1024, .i32⟩
  | 84 => ⟨S10x1024x1024, .i32⟩
  | 85 => ⟨S_, .i32⟩
  | 86 => ⟨S10x1024x1024, .i32⟩
  | 87 => ⟨S10x1024x1024, .i32⟩
  | 88 => ⟨S_, .i32⟩
  | 89 => ⟨S10x1024x1024, .i32⟩
  | 90 => ⟨S10x1024x1024, .i32⟩
  | 91 => ⟨S10x1024x1024, .i32⟩
  | 92 => ⟨S10x1024x1024, .i32⟩
  | 93 => ⟨S10x1024x1024, .i32⟩
  | 94 => ⟨S_, .i32⟩
  | 95 => ⟨S10x1024x1024, .i32⟩
  | 96 => ⟨S10x1024x1024, .i32⟩
  | 97 => ⟨S_, .i32⟩
  | 98 => ⟨S10x1024x1024, .i32⟩
  | 99 => ⟨S10x1024x1024, .i32⟩
  | 100 => ⟨S10x1024x1024, .i32⟩
  | 101 => ⟨S10x1024x1024, .i32⟩
  | 102 => ⟨S10x1024x1024, .i32⟩
  | 103 => ⟨S_, .i32⟩
  | 104 => ⟨S10x1024x1024, .i32⟩
  | 105 => ⟨S10x1024x1024, .i32⟩
  | 106 => ⟨S_, .i32⟩
  | 107 => ⟨S10x1024x1024, .i32⟩
  | 108 => ⟨S10x1024x1024, .i32⟩
  | 109 => ⟨S10x1024x1024, .i32⟩
  | 110 => ⟨S10x1024x1024, .i32⟩
  | 111 => ⟨S_, .i32⟩
  | 112 => ⟨S10x1024x1024, .i32⟩
  | 113 => ⟨S10x1024x1024, .i32⟩
  | 114 => ⟨S_, .i32⟩
  | 115 => ⟨S10x1024x1024, .i32⟩
  | 116 => ⟨S10x1024x1024, .i32⟩
  | 117 => ⟨S10x1024x1024, .i32⟩
  | 118 => ⟨S_, .i32⟩
  | 119 => ⟨S10x1024x1024, .i32⟩
  | 120 => ⟨S10x1024x1024, .i32⟩
  | 121 => ⟨S_, .i32⟩
  | 122 => ⟨S10x1024x1024, .i32⟩
  | 123 => ⟨S10x1024x1024, .i32⟩
  | 124 => ⟨S10x1024x1024, .i32⟩
  | 125 => ⟨S10x1024x1024, .i32⟩
  | 126 => ⟨S10x1024x1024, .i32⟩
  | 127 => ⟨S_, .i32⟩
  | _ => ⟨S1024x1045, .f32⟩

abbrev hbmTy0_4 (i : Nat) : BufTy := match i % 128 with
  | 0 => ⟨S10x1024x1024, .i32⟩
  | 1 => ⟨S10x1024x1024, .i32⟩
  | 2 => ⟨S_, .i32⟩
  | 3 => ⟨S10x1024x1024, .i32⟩
  | 4 => ⟨S10x1024x1024, .i32⟩
  | 5 => ⟨S10x1024x1024, .i32⟩
  | 6 => ⟨S10x1024x1024, .i32⟩
  | 7 => ⟨S10x1024x1024, .i32⟩
  | 8 => ⟨S_, .i32⟩
  | 9 => ⟨S10x1024x1024, .i32⟩
  | 10 => ⟨S10x1024x1024, .i32⟩
  | 11 => ⟨S_, .i32⟩
  | 12 => ⟨S10x1024x1024, .i32⟩
  | 13 => ⟨S10x1024x1024, .i32⟩
  | 14 => ⟨S10x1024x1024, .i32⟩
  | 15 => ⟨S10x1024x1024, .i32⟩
  | 16 => ⟨S10x1024x1024, .i32⟩
  | 17 => ⟨S_, .i32⟩
  | 18 => ⟨S10x1024x1024, .i32⟩
  | 19 => ⟨S10x1024x1024, .i32⟩
  | 20 => ⟨S_, .i32⟩
  | 21 => ⟨S10x1024x1024, .i32⟩
  | 22 => ⟨S10x1024x1024, .i32⟩
  | 23 => ⟨S10x1024x1024, .i32⟩
  | 24 => ⟨S10x1024x1024, .i32⟩
  | 25 => ⟨S_, .i32⟩
  | 26 => ⟨S10x1024x1024, .i32⟩
  | 27 => ⟨S10x1024x1024, .i32⟩
  | 28 => ⟨S_, .i32⟩
  | 29 => ⟨S10x1024x1024, .i32⟩
  | 30 => ⟨S10x1024x1024, .i32⟩
  | 31 => ⟨S10x1024x1024, .i32⟩
  | 32 => ⟨S_, .i32⟩
  | 33 => ⟨S10x1024x1024, .i32⟩
  | 34 => ⟨S10x1024x1024, .i32⟩
  | 35 => ⟨S_, .i32⟩
  | 36 => ⟨S10x1024x1024, .i32⟩
  | 37 => ⟨S10x1024x1024, .i32⟩
  | 38 => ⟨S10x1024x1024, .i32⟩
  | 39 => ⟨S10x1024x1024, .i32⟩
  | 40 => ⟨S10x1024x1024, .i32⟩
  | 41 => ⟨S_, .i32⟩
  | 42 => ⟨S10x1024x1024, .i32⟩
  | 43 => ⟨S10x1024x1024, .i32⟩
  | 44 => ⟨S_, .i32⟩
  | 45 => ⟨S10x1024x1024, .i32⟩
  | 46 => ⟨S10x1024x1024, .i32⟩
  | 47 => ⟨S10x1024x1024, .i32⟩
  | 48 => ⟨S10x1024x1024, .i32⟩
  | 49 => ⟨S10x1024x1024, .i32⟩
  | 50 => ⟨S_, .i32⟩
  | 51 => ⟨S10x1024x1024, .i32⟩
  | 52 => ⟨S10x1024x1024, .i32⟩
  | 53 => ⟨S_, .i32⟩
  | 54 => ⟨S10x1024x1024, .i32⟩
  | 55 => ⟨S10x1024x1024, .i32⟩
  | 56 => ⟨S10x1024x1024, .i32⟩
  | 57 => ⟨S10x1024x1024, .i32⟩
  | 58 => ⟨S10x1024x1024, .i32⟩
  | 59 => ⟨S_, .i32⟩
  | 60 => ⟨S10x1024x1024, .i32⟩
  | 61 => ⟨S10x1024x1024, .i32⟩
  | 62 => ⟨S_, .i32⟩
  | 63 => ⟨S10x1024x1024, .i32⟩
  | 64 => ⟨S10x1024x1024, .i32⟩
  | 65 => ⟨S10x1024x1024, .i32⟩
  | 66 => ⟨S10x1024x1024, .i32⟩
  | 67 => ⟨S_, .i32⟩
  | 68 => ⟨S10x1024x1024, .i32⟩
  | 69 => ⟨S10x1024x1024, .i32⟩
  | 70 => ⟨S_, .i32⟩
  | 71 => ⟨S10x1024x1024, .i32⟩
  | 72 => ⟨S10x1024x1024, .i32⟩
  | 73 => ⟨S10x1024x1024, .i32⟩
  | 74 => ⟨S_, .i32⟩
  | 75 => ⟨S10x1024x1024, .i32⟩
  | 76 => ⟨S10x1024x1024, .i32⟩
  | 77 => ⟨S_, .i32⟩
  | 78 => ⟨S10x1024x1024, .i32⟩
  | 79 => ⟨S10x1024x1024, .i32⟩
  | 80 => ⟨S10x1024x1024, .i32⟩
  | 81 => ⟨S10x1024x1024, .i32⟩
  | 82 => ⟨S10x1024x1024, .i32⟩
  | 83 => ⟨S_, .i32⟩
  | 84 => ⟨S10x1024x1024, .i32⟩
  | 85 => ⟨S10x1024x1024, .i32⟩
  | 86 => ⟨S_, .i32⟩
  | 87 => ⟨S10x1024x1024, .i32⟩
  | 88 => ⟨S10x1024x1024, .i32⟩
  | 89 => ⟨S10x1024x1024, .i32⟩
  | 90 => ⟨S10x1024x1024, .i32⟩
  | 91 => ⟨S10x1024x1024, .i32⟩
  | 92 => ⟨S_, .i32⟩
  | 93 => ⟨S10x1024x1024, .i32⟩
  | 94 => ⟨S10x1024x1024, .i32⟩
  | 95 => ⟨S_, .i32⟩
  | 96 => ⟨S10x1024x1024, .i32⟩
  | 97 => ⟨S10x1024x1024, .i32⟩
  | 98 => ⟨S10x1024x1024, .i32⟩
  | 99 => ⟨S10x1024x1024, .i32⟩
  | 100 => ⟨S10x1024x1024, .i32⟩
  | 101 => ⟨S_, .i32⟩
  | 102 => ⟨S10x1024x1024, .i32⟩
  | 103 => ⟨S10x1024x1024, .i32⟩
  | 104 => ⟨S_, .i32⟩
  | 105 => ⟨S10x1024x1024, .i32⟩
  | 106 => ⟨S10x1024x1024, .i32⟩
  | 107 => ⟨S10x1024x1024, .i32⟩
  | 108 => ⟨S10x1024x1024, .i32⟩
  | 109 => ⟨S_, .i32⟩
  | 110 => ⟨S10x1024x1024, .i32⟩
  | 111 => ⟨S10x1024x1024, .i32⟩
  | 112 => ⟨S_, .i32⟩
  | 113 => ⟨S10x1024x1024, .i32⟩
  | 114 => ⟨S10x1024x1024, .i32⟩
  | 115 => ⟨S10x1024x1024, .i32⟩
  | 116 => ⟨S_, .i32⟩
  | 117 => ⟨S10x1024x1024, .i32⟩
  | 118 => ⟨S10x1024x1024, .i32⟩
  | 119 => ⟨S_, .i32⟩
  | 120 => ⟨S10x1024x1024, .i32⟩
  | 121 => ⟨S10x1024x1024, .i32⟩
  | 122 => ⟨S10x1024x1024, .i32⟩
  | 123 => ⟨S10x1024x1024, .i32⟩
  | 124 => ⟨S10x1024x1024, .i32⟩
  | 125 => ⟨S_, .i32⟩
  | 126 => ⟨S10x1024x1024, .i32⟩
  | 127 => ⟨S10x1024x1024, .i32⟩
  | _ => ⟨S1024x1045, .f32⟩

abbrev hbmTy0_5 (i : Nat) : BufTy := match i % 128 with
  | 0 => ⟨S_, .i32⟩
  | 1 => ⟨S10x1024x1024, .i32⟩
  | 2 => ⟨S10x1024x1024, .i32⟩
  | 3 => ⟨S10x1024x1024, .i32⟩
  | 4 => ⟨S10x1024x1024, .i32⟩
  | 5 => ⟨S10x1024x1024, .i32⟩
  | 6 => ⟨S_, .i32⟩
  | 7 => ⟨S10x1024x1024, .i32⟩
  | 8 => ⟨S10x1024x1024, .i32⟩
  | 9 => ⟨S_, .i32⟩
  | 10 => ⟨S10x1024x1024, .i32⟩
  | 11 => ⟨S10x1024x1024, .i32⟩
  | 12 => ⟨S10x1024x1024, .i32⟩
  | 13 => ⟨S10x1024x1024, .i32⟩
  | 14 => ⟨S10x1024x1024, .i32⟩
  | 15 => ⟨S_, .i32⟩
  | 16 => ⟨S10x1024x1024, .i32⟩
  | 17 => ⟨S10x1024x1024, .i32⟩
  | 18 => ⟨S_, .i32⟩
  | 19 => ⟨S10x1024x1024, .i32⟩
  | 20 => ⟨S10x1024x1024, .i32⟩
  | 21 => ⟨S10x1024x1024, .i32⟩
  | 22 => ⟨S10x1024x1024, .i32⟩
  | 23 => ⟨S_, .i32⟩
  | 24 => ⟨S10x1024x1024, .i32⟩
  | 25 => ⟨S10x1024x1024, .i32⟩
  | 26 => ⟨S_, .i32⟩
  | 27 => ⟨S10x1024x1024, .i32⟩
  | 28 => ⟨S10x1024x1024, .i32⟩
  | 29 => ⟨S10x1024x1024, .i32⟩
  | 30 => ⟨S_, .i32⟩
  | 31 => ⟨S10x1024x1024, .i32⟩
  | 32 => ⟨S10x1024x1024, .i32⟩
  | 33 => ⟨S10x1024x1024, .i32⟩
  | 34 => ⟨S10x1024x1024, .f32⟩
  | 35 => ⟨S_, .f32⟩
  | 36 => ⟨S10x1024x1024, .f32⟩
  | 37 => ⟨S10x1024x1024, .f32⟩
  | 38 => ⟨S_, .f32⟩
  | 39 => ⟨S10x1024x1024, .f32⟩
  | 40 => ⟨S10x1024x1024, .f32⟩
  | 41 => ⟨S10x1024x1024, .f32⟩
  | 42 => ⟨S10x1024x1024, .f32⟩
  | 43 => ⟨S10x1024x1024, .f32⟩
  | 44 => ⟨S10x1024x1024, .f32⟩
  | 45 => ⟨S1x1024x1024, .f32⟩
  | 46 => ⟨S10x1024x1024, .f32⟩
  | 47 => ⟨S10x1024x1024, .f32⟩
  | 48 => ⟨S10x1024x1, .f32⟩
  | 49 => ⟨S10x1024x1, .i32⟩
  | 50 => ⟨S10x1024, .i32⟩
  | 51 => ⟨S1024x10, .i32⟩
  | 52 => ⟨S1024, .i32⟩
  | 53 => ⟨S1024x1, .i32⟩
  | 54 => ⟨S_, .i32⟩
  | 55 => ⟨S1024x1, .i32⟩
  | 56 => ⟨S1024x1, .i1⟩
  | 57 => ⟨S_, .i32⟩
  | 58 => ⟨S1024x1, .i32⟩
  | 59 => ⟨S1024x1, .i32⟩
  | 60 => ⟨S1024x1, .i32⟩
  | 61 => ⟨S1024x1x1, .i32⟩
  | 62 => ⟨S1, .i32⟩
  | 63 => ⟨S_, .i32⟩
  | 64 => ⟨S1024x1x1, .i32⟩
  | 65 => ⟨S1024x1x1, .i1⟩
  | 66 => ⟨S1x1x1, .i32⟩
  | 67 => ⟨S1024x1x1, .i32⟩
  | 68 => ⟨S1024x1x1, .i1⟩
  | 69 => ⟨S1024x1x1, .i1⟩
  | 70 => ⟨S_, .i1⟩
  | 71 => ⟨S1024x1, .i1⟩
  | 72 => ⟨S1024x1, .f32⟩
  | 73 => ⟨S_, .f32⟩
  | 74 => ⟨S1024x1, .f32⟩
  | 75 => ⟨S1024x1, .f32⟩
  | 76 => ⟨S_, .i32⟩
  | 77 => ⟨S1024x10, .i32⟩
  | 78 => ⟨S1024x10, .i1⟩
  | 79 => ⟨S_, .i32⟩
  | 80 => ⟨S1024x10, .i32⟩
  | 81 => ⟨S1024x10, .i32⟩
  | 82 => ⟨S1024x10, .i32⟩
  | 83 => ⟨S1024x10x1, .i32⟩
  | 84 => ⟨S1, .i32⟩
  | 85 => ⟨S_, .i32⟩
  | 86 => ⟨S1024x10x1, .i32⟩
  | 87 => ⟨S1024x10x1, .i1⟩
  | 88 => ⟨S1x1x1, .i32⟩
  | 89 => ⟨S1024x10x1, .i32⟩
  | 90 => ⟨S1024x10x1, .i1⟩
  | 91 => ⟨S1024x10x1, .i1⟩
  | 92 => ⟨S_, .i1⟩
  | 93 => ⟨S1024x10, .i1⟩
  | 94 => ⟨S1024x10, .f32⟩
  | 95 => ⟨S_, .f32⟩
  | 96 => ⟨S1024x10, .f32⟩
  | 97 => ⟨S1024x10, .f32⟩
  | 98 => ⟨S_, .f32⟩
  | 99 => ⟨S1024x1, .f32⟩
  | 100 => ⟨S1024x1, .f32⟩
  | 101 => ⟨S1024x10, .f32⟩
  | 102 => ⟨S1024x10, .f32⟩
  | 103 => ⟨S_, .f32⟩
  | 104 => ⟨S_, .f32⟩
  | 105 => ⟨S1024x10, .f32⟩
  | 106 => ⟨S1024x10, .f32⟩
  | 107 => ⟨S_, .f32⟩
  | 108 => ⟨S1024, .f32⟩
  | 109 => ⟨S_, .f32⟩
  | 110 => ⟨S1024, .f32⟩
  | 111 => ⟨S1024, .f32⟩
  | 112 => ⟨S_, .f32⟩
  | 113 => ⟨S_, .f32⟩
  | 114 => ⟨S_, .f32⟩
  | 115 => ⟨S_, .f32⟩
  | 116 => ⟨S_, .f32⟩
  | 117 => ⟨S1x1, .f32⟩
  | _ => ⟨S1024x1045, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S1024x1045, .f32⟩

abbrev bufTy : (tb : Table) → Fin (tcTables nBuf tb) → BufTy
  | .hbm, ⟨i, _⟩ => hbmTy i
  | _, _ => ⟨S1024x1045, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_v22 : Ref sig .tc := ⟨.hbm, 31, rfl⟩
abbrev main_cst_6 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_7 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_8 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_c : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_9 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_10 : Ref sig .tc := ⟨.hbm, 56, rfl⟩
abbrev main_v42 : Ref sig .tc := ⟨.hbm, 57, rfl⟩
abbrev main_v43 : Ref sig .tc := ⟨.hbm, 58, rfl⟩
abbrev main_cst_11 : Ref sig .tc := ⟨.hbm, 59, rfl⟩
abbrev main_v44 : Ref sig .tc := ⟨.hbm, 60, rfl⟩
abbrev main_cst_12 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_13 : Ref sig .tc := ⟨.hbm, 65, rfl⟩
abbrev main_v48 : Ref sig .tc := ⟨.hbm, 66, rfl⟩
abbrev main_v49 : Ref sig .tc := ⟨.hbm, 67, rfl⟩
abbrev main_cst_14 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_15 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_c_16 : Ref sig .tc := ⟨.hbm, 79, rfl⟩
abbrev main_v59 : Ref sig .tc := ⟨.hbm, 80, rfl⟩
abbrev main_c_17 : Ref sig .tc := ⟨.hbm, 81, rfl⟩
abbrev main_v60 : Ref sig .tc := ⟨.hbm, 82, rfl⟩
abbrev main_v61 : Ref sig .tc := ⟨.hbm, 83, rfl⟩
abbrev main_c_18 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_c_19 : Ref sig .tc := ⟨.hbm, 88, rfl⟩
abbrev main_v65 : Ref sig .tc := ⟨.hbm, 89, rfl⟩
abbrev main_v66 : Ref sig .tc := ⟨.hbm, 90, rfl⟩
abbrev main_c_20 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_21 : Ref sig .tc := ⟨.hbm, 97, rfl⟩
abbrev main_v72 : Ref sig .tc := ⟨.hbm, 98, rfl⟩
abbrev main_v73 : Ref sig .tc := ⟨.hbm, 99, rfl⟩
abbrev main_c_22 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_c_23 : Ref sig .tc := ⟨.hbm, 106, rfl⟩
abbrev main_v79 : Ref sig .tc := ⟨.hbm, 107, rfl⟩
abbrev main_v80 : Ref sig .tc := ⟨.hbm, 108, rfl⟩
abbrev main_c_24 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_c_25 : Ref sig .tc := ⟨.hbm, 115, rfl⟩
abbrev main_v86 : Ref sig .tc := ⟨.hbm, 116, rfl⟩
abbrev main_v87 : Ref sig .tc := ⟨.hbm, 117, rfl⟩
abbrev main_c_26 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_c_27 : Ref sig .tc := ⟨.hbm, 123, rfl⟩
abbrev main_v92 : Ref sig .tc := ⟨.hbm, 124, rfl⟩
abbrev main_v93 : Ref sig .tc := ⟨.hbm, 125, rfl⟩
abbrev main_c_28 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_c_29 : Ref sig .tc := ⟨.hbm, 130, rfl⟩
abbrev main_v97 : Ref sig .tc := ⟨.hbm, 131, rfl⟩
abbrev main_v98 : Ref sig .tc := ⟨.hbm, 132, rfl⟩
abbrev main_c_30 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_c_31 : Ref sig .tc := ⟨.hbm, 139, rfl⟩
abbrev main_v104 : Ref sig .tc := ⟨.hbm, 140, rfl⟩
abbrev main_v105 : Ref sig .tc := ⟨.hbm, 141, rfl⟩
abbrev main_c_32 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_c_33 : Ref sig .tc := ⟨.hbm, 148, rfl⟩
abbrev main_v111 : Ref sig .tc := ⟨.hbm, 149, rfl⟩
abbrev main_v112 : Ref sig .tc := ⟨.hbm, 150, rfl⟩
abbrev main_c_34 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_c_35 : Ref sig .tc := ⟨.hbm, 157, rfl⟩
abbrev main_v118 : Ref sig .tc := ⟨.hbm, 158, rfl⟩
abbrev main_v119 : Ref sig .tc := ⟨.hbm, 159, rfl⟩
abbrev main_c_36 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_c_37 : Ref sig .tc := ⟨.hbm, 165, rfl⟩
abbrev main_v124 : Ref sig .tc := ⟨.hbm, 166, rfl⟩
abbrev main_v125 : Ref sig .tc := ⟨.hbm, 167, rfl⟩
abbrev main_c_38 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_c_39 : Ref sig .tc := ⟨.hbm, 172, rfl⟩
abbrev main_v129 : Ref sig .tc := ⟨.hbm, 173, rfl⟩
abbrev main_v130 : Ref sig .tc := ⟨.hbm, 174, rfl⟩
abbrev main_c_40 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_c_41 : Ref sig .tc := ⟨.hbm, 181, rfl⟩
abbrev main_v136 : Ref sig .tc := ⟨.hbm, 182, rfl⟩
abbrev main_v137 : Ref sig .tc := ⟨.hbm, 183, rfl⟩
abbrev main_c_42 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_c_43 : Ref sig .tc := ⟨.hbm, 190, rfl⟩
abbrev main_v143 : Ref sig .tc := ⟨.hbm, 191, rfl⟩
abbrev main_v144 : Ref sig .tc := ⟨.hbm, 192, rfl⟩
abbrev main_c_44 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_c_45 : Ref sig .tc := ⟨.hbm, 199, rfl⟩
abbrev main_v150 : Ref sig .tc := ⟨.hbm, 200, rfl⟩
abbrev main_v151 : Ref sig .tc := ⟨.hbm, 201, rfl⟩
abbrev main_c_46 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_c_47 : Ref sig .tc := ⟨.hbm, 207, rfl⟩
abbrev main_v156 : Ref sig .tc := ⟨.hbm, 208, rfl⟩
abbrev main_v157 : Ref sig .tc := ⟨.hbm, 209, rfl⟩
abbrev main_c_48 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_c_49 : Ref sig .tc := ⟨.hbm, 214, rfl⟩
abbrev main_v161 : Ref sig .tc := ⟨.hbm, 215, rfl⟩
abbrev main_v162 : Ref sig .tc := ⟨.hbm, 216, rfl⟩
abbrev main_c_50 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_c_51 : Ref sig .tc := ⟨.hbm, 223, rfl⟩
abbrev main_v168 : Ref sig .tc := ⟨.hbm, 224, rfl⟩
abbrev main_v169 : Ref sig .tc := ⟨.hbm, 225, rfl⟩
abbrev main_c_52 : Ref sig .tc := ⟨.hbm, 226, rfl⟩
abbrev main_v170 : Ref sig .tc := ⟨.hbm, 227, rfl⟩
abbrev main_v171 : Ref sig .tc := ⟨.hbm, 228, rfl⟩
abbrev main_v172 : Ref sig .tc := ⟨.hbm, 229, rfl⟩
abbrev main_v173 : Ref sig .tc := ⟨.hbm, 230, rfl⟩
abbrev main_v174 : Ref sig .tc := ⟨.hbm, 231, rfl⟩
abbrev main_c_53 : Ref sig .tc := ⟨.hbm, 232, rfl⟩
abbrev main_v175 : Ref sig .tc := ⟨.hbm, 233, rfl⟩
abbrev main_v176 : Ref sig .tc := ⟨.hbm, 234, rfl⟩
abbrev main_c_54 : Ref sig .tc := ⟨.hbm, 235, rfl⟩
abbrev main_v177 : Ref sig .tc := ⟨.hbm, 236, rfl⟩
abbrev main_v178 : Ref sig .tc := ⟨.hbm, 237, rfl⟩
abbrev main_v179 : Ref sig .tc := ⟨.hbm, 238, rfl⟩
abbrev main_v180 : Ref sig .tc := ⟨.hbm, 239, rfl⟩
abbrev main_v181 : Ref sig .tc := ⟨.hbm, 240, rfl⟩
abbrev main_c_55 : Ref sig .tc := ⟨.hbm, 241, rfl⟩
abbrev main_v182 : Ref sig .tc := ⟨.hbm, 242, rfl⟩
abbrev main_v183 : Ref sig .tc := ⟨.hbm, 243, rfl⟩
abbrev main_c_56 : Ref sig .tc := ⟨.hbm, 244, rfl⟩
abbrev main_v184 : Ref sig .tc := ⟨.hbm, 245, rfl⟩
abbrev main_v185 : Ref sig .tc := ⟨.hbm, 246, rfl⟩
abbrev main_v186 : Ref sig .tc := ⟨.hbm, 247, rfl⟩
abbrev main_v187 : Ref sig .tc := ⟨.hbm, 248, rfl⟩
abbrev main_c_57 : Ref sig .tc := ⟨.hbm, 249, rfl⟩
abbrev main_v188 : Ref sig .tc := ⟨.hbm, 250, rfl⟩
abbrev main_v189 : Ref sig .tc := ⟨.hbm, 251, rfl⟩
abbrev main_c_58 : Ref sig .tc := ⟨.hbm, 252, rfl⟩
abbrev main_v190 : Ref sig .tc := ⟨.hbm, 253, rfl⟩
abbrev main_v191 : Ref sig .tc := ⟨.hbm, 254, rfl⟩
abbrev main_v192 : Ref sig .tc := ⟨.hbm, 255, rfl⟩
abbrev main_c_59 : Ref sig .tc := ⟨.hbm, 256, rfl⟩
abbrev main_v193 : Ref sig .tc := ⟨.hbm, 257, rfl⟩
abbrev main_v194 : Ref sig .tc := ⟨.hbm, 258, rfl⟩
abbrev main_c_60 : Ref sig .tc := ⟨.hbm, 259, rfl⟩
abbrev main_v195 : Ref sig .tc := ⟨.hbm, 260, rfl⟩
abbrev main_v196 : Ref sig .tc := ⟨.hbm, 261, rfl⟩
abbrev main_v197 : Ref sig .tc := ⟨.hbm, 262, rfl⟩
abbrev main_v198 : Ref sig .tc := ⟨.hbm, 263, rfl⟩
abbrev main_v199 : Ref sig .tc := ⟨.hbm, 264, rfl⟩
abbrev main_c_61 : Ref sig .tc := ⟨.hbm, 265, rfl⟩
abbrev main_v200 : Ref sig .tc := ⟨.hbm, 266, rfl⟩
abbrev main_v201 : Ref sig .tc := ⟨.hbm, 267, rfl⟩
abbrev main_c_62 : Ref sig .tc := ⟨.hbm, 268, rfl⟩
abbrev main_v202 : Ref sig .tc := ⟨.hbm, 269, rfl⟩
abbrev main_v203 : Ref sig .tc := ⟨.hbm, 270, rfl⟩
abbrev main_v204 : Ref sig .tc := ⟨.hbm, 271, rfl⟩
abbrev main_v205 : Ref sig .tc := ⟨.hbm, 272, rfl⟩
abbrev main_v206 : Ref sig .tc := ⟨.hbm, 273, rfl⟩
abbrev main_c_63 : Ref sig .tc := ⟨.hbm, 274, rfl⟩
abbrev main_v207 : Ref sig .tc := ⟨.hbm, 275, rfl⟩
abbrev main_v208 : Ref sig .tc := ⟨.hbm, 276, rfl⟩
abbrev main_c_64 : Ref sig .tc := ⟨.hbm, 277, rfl⟩
abbrev main_v209 : Ref sig .tc := ⟨.hbm, 278, rfl⟩
abbrev main_v210 : Ref sig .tc := ⟨.hbm, 279, rfl⟩
abbrev main_v211 : Ref sig .tc := ⟨.hbm, 280, rfl⟩
abbrev main_v212 : Ref sig .tc := ⟨.hbm, 281, rfl⟩
abbrev main_v213 : Ref sig .tc := ⟨.hbm, 282, rfl⟩
abbrev main_c_65 : Ref sig .tc := ⟨.hbm, 283, rfl⟩
abbrev main_v214 : Ref sig .tc := ⟨.hbm, 284, rfl⟩
abbrev main_v215 : Ref sig .tc := ⟨.hbm, 285, rfl⟩
abbrev main_c_66 : Ref sig .tc := ⟨.hbm, 286, rfl⟩
abbrev main_v216 : Ref sig .tc := ⟨.hbm, 287, rfl⟩
abbrev main_v217 : Ref sig .tc := ⟨.hbm, 288, rfl⟩
abbrev main_v218 : Ref sig .tc := ⟨.hbm, 289, rfl⟩
abbrev main_v219 : Ref sig .tc := ⟨.hbm, 290, rfl⟩
abbrev main_c_67 : Ref sig .tc := ⟨.hbm, 291, rfl⟩
abbrev main_v220 : Ref sig .tc := ⟨.hbm, 292, rfl⟩
abbrev main_v221 : Ref sig .tc := ⟨.hbm, 293, rfl⟩
abbrev main_c_68 : Ref sig .tc := ⟨.hbm, 294, rfl⟩
abbrev main_v222 : Ref sig .tc := ⟨.hbm, 295, rfl⟩
abbrev main_v223 : Ref sig .tc := ⟨.hbm, 296, rfl⟩
abbrev main_v224 : Ref sig .tc := ⟨.hbm, 297, rfl⟩
abbrev main_c_69 : Ref sig .tc := ⟨.hbm, 298, rfl⟩
abbrev main_v225 : Ref sig .tc := ⟨.hbm, 299, rfl⟩
abbrev main_v226 : Ref sig .tc := ⟨.hbm, 300, rfl⟩
abbrev main_v227 : Ref sig .tc := ⟨.hbm, 301, rfl⟩
abbrev main_v228 : Ref sig .tc := ⟨.hbm, 302, rfl⟩
abbrev main_cst_70 : Ref sig .tc := ⟨.hbm, 303, rfl⟩
abbrev main_v229 : Ref sig .tc := ⟨.hbm, 304, rfl⟩
abbrev main_v230 : Ref sig .tc := ⟨.hbm, 305, rfl⟩
abbrev main_cst_71 : Ref sig .tc := ⟨.hbm, 306, rfl⟩
abbrev main_v231 : Ref sig .tc := ⟨.hbm, 307, rfl⟩
abbrev main_v232 : Ref sig .tc := ⟨.hbm, 308, rfl⟩
abbrev main_v233 : Ref sig .tc := ⟨.hbm, 309, rfl⟩
abbrev main_v234 : Ref sig .tc := ⟨.hbm, 310, rfl⟩
abbrev main_v235 : Ref sig .tc := ⟨.hbm, 311, rfl⟩
abbrev main_v236 : Ref sig .tc := ⟨.hbm, 312, rfl⟩
abbrev main_v237 : Ref sig .tc := ⟨.hbm, 313, rfl⟩
abbrev main_v238 : Ref sig .tc := ⟨.hbm, 314, rfl⟩
abbrev main_v239 : Ref sig .tc := ⟨.hbm, 315, rfl⟩
abbrev main_values : Ref sig .tc := ⟨.hbm, 316, rfl⟩
abbrev main_indices : Ref sig .tc := ⟨.hbm, 317, rfl⟩
abbrev main_v240 : Ref sig .tc := ⟨.hbm, 318, rfl⟩
abbrev main_v241 : Ref sig .tc := ⟨.hbm, 319, rfl⟩
abbrev main_v242 : Ref sig .tc := ⟨.hbm, 320, rfl⟩
abbrev main_v243 : Ref sig .tc := ⟨.hbm, 321, rfl⟩
abbrev main_call2_c : Ref sig .tc := ⟨.hbm, 322, rfl⟩
abbrev main_call2_v0 : Ref sig .tc := ⟨.hbm, 323, rfl⟩
abbrev main_call2_v1 : Ref sig .tc := ⟨.hbm, 324, rfl⟩
abbrev main_call2_c_0 : Ref sig .tc := ⟨.hbm, 325, rfl⟩
abbrev main_call2_v2 : Ref sig .tc := ⟨.hbm, 326, rfl⟩
abbrev main_call2_v3 : Ref sig .tc := ⟨.hbm, 327, rfl⟩
abbrev main_call2_v4 : Ref sig .tc := ⟨.hbm, 328, rfl⟩
abbrev main_call2_v5 : Ref sig .tc := ⟨.hbm, 329, rfl⟩
abbrev main_call2_c_1 : Ref sig .tc := ⟨.hbm, 330, rfl⟩
abbrev main_call2_c_2 : Ref sig .tc := ⟨.hbm, 331, rfl⟩
abbrev main_call2_v6 : Ref sig .tc := ⟨.hbm, 332, rfl⟩
abbrev main_call2_v7 : Ref sig .tc := ⟨.hbm, 333, rfl⟩
abbrev main_call2_v8 : Ref sig .tc := ⟨.hbm, 334, rfl⟩
abbrev main_call2_v9 : Ref sig .tc := ⟨.hbm, 335, rfl⟩
abbrev main_call2_v10 : Ref sig .tc := ⟨.hbm, 336, rfl⟩
abbrev main_call2_v11 : Ref sig .tc := ⟨.hbm, 337, rfl⟩
abbrev main_call2_c_3 : Ref sig .tc := ⟨.hbm, 338, rfl⟩
abbrev main_call2_v12 : Ref sig .tc := ⟨.hbm, 339, rfl⟩
abbrev main_call2_v13 : Ref sig .tc := ⟨.hbm, 340, rfl⟩
abbrev main_call2_cst : Ref sig .tc := ⟨.hbm, 341, rfl⟩
abbrev main_call2_v14 : Ref sig .tc := ⟨.hbm, 342, rfl⟩
abbrev main_v244 : Ref sig .tc := ⟨.hbm, 343, rfl⟩
abbrev main_call3_c : Ref sig .tc := ⟨.hbm, 344, rfl⟩
abbrev main_call3_v0 : Ref sig .tc := ⟨.hbm, 345, rfl⟩
abbrev main_call3_v1 : Ref sig .tc := ⟨.hbm, 346, rfl⟩
abbrev main_call3_c_0 : Ref sig .tc := ⟨.hbm, 347, rfl⟩
abbrev main_call3_v2 : Ref sig .tc := ⟨.hbm, 348, rfl⟩
abbrev main_call3_v3 : Ref sig .tc := ⟨.hbm, 349, rfl⟩
abbrev main_call3_v4 : Ref sig .tc := ⟨.hbm, 350, rfl⟩
abbrev main_call3_v5 : Ref sig .tc := ⟨.hbm, 351, rfl⟩
abbrev main_call3_c_1 : Ref sig .tc := ⟨.hbm, 352, rfl⟩
abbrev main_call3_c_2 : Ref sig .tc := ⟨.hbm, 353, rfl⟩
abbrev main_call3_v6 : Ref sig .tc := ⟨.hbm, 354, rfl⟩
abbrev main_call3_v7 : Ref sig .tc := ⟨.hbm, 355, rfl⟩
abbrev main_call3_v8 : Ref sig .tc := ⟨.hbm, 356, rfl⟩
abbrev main_call3_v9 : Ref sig .tc := ⟨.hbm, 357, rfl⟩
abbrev main_call3_v10 : Ref sig .tc := ⟨.hbm, 358, rfl⟩
abbrev main_call3_v11 : Ref sig .tc := ⟨.hbm, 359, rfl⟩
abbrev main_call3_c_3 : Ref sig .tc := ⟨.hbm, 360, rfl⟩
abbrev main_call3_v12 : Ref sig .tc := ⟨.hbm, 361, rfl⟩
abbrev main_call3_v13 : Ref sig .tc := ⟨.hbm, 362, rfl⟩
abbrev main_call3_cst : Ref sig .tc := ⟨.hbm, 363, rfl⟩
abbrev main_call3_v14 : Ref sig .tc := ⟨.hbm, 364, rfl⟩
abbrev main_v245 : Ref sig .tc := ⟨.hbm, 365, rfl⟩
abbrev main_cst_72 : Ref sig .tc := ⟨.hbm, 366, rfl⟩
abbrev main_v246 : Ref sig .tc := ⟨.hbm, 367, rfl⟩
abbrev main_v247 : Ref sig .tc := ⟨.hbm, 368, rfl⟩
abbrev main_v248 : Ref sig .tc := ⟨.hbm, 369, rfl⟩
abbrev main_v249 : Ref sig .tc := ⟨.hbm, 370, rfl⟩
abbrev main_cst_73 : Ref sig .tc := ⟨.hbm, 371, rfl⟩
abbrev main_call4_v0 : Ref sig .tc := ⟨.hbm, 372, rfl⟩
abbrev main_call4_v1 : Ref sig .tc := ⟨.hbm, 373, rfl⟩
abbrev main_v250 : Ref sig .tc := ⟨.hbm, 374, rfl⟩
abbrev main_cst_74 : Ref sig .tc := ⟨.hbm, 375, rfl⟩
abbrev main_v251 : Ref sig .tc := ⟨.hbm, 376, rfl⟩
abbrev main_cst_75 : Ref sig .tc := ⟨.hbm, 377, rfl⟩
abbrev main_v252 : Ref sig .tc := ⟨.hbm, 378, rfl⟩
abbrev main_v253 : Ref sig .tc := ⟨.hbm, 379, rfl⟩
abbrev main_cst_76 : Ref sig .tc := ⟨.hbm, 380, rfl⟩
abbrev main_v254 : Ref sig .tc := ⟨.hbm, 381, rfl⟩
abbrev main_cst_77 : Ref sig .tc := ⟨.hbm, 382, rfl⟩
abbrev main_v255 : Ref sig .tc := ⟨.hbm, 383, rfl⟩
abbrev main_v256 : Ref sig .tc := ⟨.hbm, 384, rfl⟩
abbrev main_v257 : Ref sig .tc := ⟨.hbm, 385, rfl⟩
abbrev main_v258 : Ref sig .tc := ⟨.hbm, 386, rfl⟩
abbrev main_v259 : Ref sig .tc := ⟨.hbm, 387, rfl⟩
abbrev main_cst_78 : Ref sig .tc := ⟨.hbm, 388, rfl⟩
abbrev main_v260 : Ref sig .tc := ⟨.hbm, 389, rfl⟩
abbrev main_v261 : Ref sig .tc := ⟨.hbm, 390, rfl⟩
abbrev main_cst_79 : Ref sig .tc := ⟨.hbm, 391, rfl⟩
abbrev main_v262 : Ref sig .tc := ⟨.hbm, 392, rfl⟩
abbrev main_v263 : Ref sig .tc := ⟨.hbm, 393, rfl⟩
abbrev main_v264 : Ref sig .tc := ⟨.hbm, 394, rfl⟩
abbrev main_cst_80 : Ref sig .tc := ⟨.hbm, 395, rfl⟩
abbrev main_v265 : Ref sig .tc := ⟨.hbm, 396, rfl⟩
abbrev main_v266 : Ref sig .tc := ⟨.hbm, 397, rfl⟩
abbrev main_cst_81 : Ref sig .tc := ⟨.hbm, 398, rfl⟩
abbrev main_v267 : Ref sig .tc := ⟨.hbm, 399, rfl⟩
abbrev main_v268 : Ref sig .tc := ⟨.hbm, 400, rfl⟩
abbrev main_cst_82 : Ref sig .tc := ⟨.hbm, 401, rfl⟩
abbrev main_v269 : Ref sig .tc := ⟨.hbm, 402, rfl⟩
abbrev main_v270 : Ref sig .tc := ⟨.hbm, 403, rfl⟩
abbrev main_cst_83 : Ref sig .tc := ⟨.hbm, 404, rfl⟩
abbrev main_v271 : Ref sig .tc := ⟨.hbm, 405, rfl⟩
abbrev main_v272 : Ref sig .tc := ⟨.hbm, 406, rfl⟩
abbrev main_v273 : Ref sig .tc := ⟨.hbm, 407, rfl⟩
abbrev main_cst_84 : Ref sig .tc := ⟨.hbm, 408, rfl⟩
abbrev main_v274 : Ref sig .tc := ⟨.hbm, 409, rfl⟩
abbrev main_v275 : Ref sig .tc := ⟨.hbm, 410, rfl⟩
abbrev main_v276 : Ref sig .tc := ⟨.hbm, 411, rfl⟩
abbrev main_cst_85 : Ref sig .tc := ⟨.hbm, 412, rfl⟩
abbrev main_v277 : Ref sig .tc := ⟨.hbm, 413, rfl⟩
abbrev main_v278 : Ref sig .tc := ⟨.hbm, 414, rfl⟩
abbrev main_v279 : Ref sig .tc := ⟨.hbm, 415, rfl⟩
abbrev main_v280 : Ref sig .tc := ⟨.hbm, 416, rfl⟩
abbrev main_v281 : Ref sig .tc := ⟨.hbm, 417, rfl⟩
abbrev main_v282 : Ref sig .tc := ⟨.hbm, 418, rfl⟩
abbrev main_c_86 : Ref sig .tc := ⟨.hbm, 419, rfl⟩
abbrev main_v283 : Ref sig .tc := ⟨.hbm, 420, rfl⟩
abbrev main_v284 : Ref sig .tc := ⟨.hbm, 421, rfl⟩
abbrev main_v285 : Ref sig .tc := ⟨.hbm, 422, rfl⟩
abbrev main_v286 : Ref sig .tc := ⟨.hbm, 423, rfl⟩
abbrev main_cst_87 : Ref sig .tc := ⟨.hbm, 424, rfl⟩
abbrev main_v287 : Ref sig .tc := ⟨.hbm, 425, rfl⟩
abbrev main_v288 : Ref sig .tc := ⟨.hbm, 426, rfl⟩
abbrev main_v289 : Ref sig .tc := ⟨.hbm, 427, rfl⟩
abbrev main_cst_88 : Ref sig .tc := ⟨.hbm, 428, rfl⟩
abbrev main_v290 : Ref sig .tc := ⟨.hbm, 429, rfl⟩
abbrev main_v291 : Ref sig .tc := ⟨.hbm, 430, rfl⟩
abbrev main_cst_89 : Ref sig .tc := ⟨.hbm, 431, rfl⟩
abbrev main_v292 : Ref sig .tc := ⟨.hbm, 432, rfl⟩
abbrev main_cst_90 : Ref sig .tc := ⟨.hbm, 433, rfl⟩
abbrev main_v293 : Ref sig .tc := ⟨.hbm, 434, rfl⟩
abbrev main_v294 : Ref sig .tc := ⟨.hbm, 435, rfl⟩
abbrev main_v295 : Ref sig .tc := ⟨.hbm, 436, rfl⟩
abbrev main_cst_91 : Ref sig .tc := ⟨.hbm, 437, rfl⟩
abbrev main_v296 : Ref sig .tc := ⟨.hbm, 438, rfl⟩
abbrev main_v297 : Ref sig .tc := ⟨.hbm, 439, rfl⟩
abbrev main_cst_92 : Ref sig .tc := ⟨.hbm, 440, rfl⟩
abbrev main_v298 : Ref sig .tc := ⟨.hbm, 441, rfl⟩
abbrev main_v299 : Ref sig .tc := ⟨.hbm, 442, rfl⟩
abbrev main_v300 : Ref sig .tc := ⟨.hbm, 443, rfl⟩
abbrev main_v301 : Ref sig .tc := ⟨.hbm, 444, rfl⟩
abbrev main_cst_93 : Ref sig .tc := ⟨.hbm, 445, rfl⟩
abbrev main_v302 : Ref sig .tc := ⟨.hbm, 446, rfl⟩
abbrev main_v303 : Ref sig .tc := ⟨.hbm, 447, rfl⟩
abbrev main_v304 : Ref sig .tc := ⟨.hbm, 448, rfl⟩
abbrev main_v305 : Ref sig .tc := ⟨.hbm, 449, rfl⟩
abbrev main_v306 : Ref sig .tc := ⟨.hbm, 450, rfl⟩
abbrev main_c_94 : Ref sig .tc := ⟨.hbm, 451, rfl⟩
abbrev main_v307 : Ref sig .tc := ⟨.hbm, 452, rfl⟩
abbrev main_c_95 : Ref sig .tc := ⟨.hbm, 453, rfl⟩
abbrev main_v308 : Ref sig .tc := ⟨.hbm, 454, rfl⟩
abbrev main_v309 : Ref sig .tc := ⟨.hbm, 455, rfl⟩
abbrev main_c_96 : Ref sig .tc := ⟨.hbm, 456, rfl⟩
abbrev main_v310 : Ref sig .tc := ⟨.hbm, 457, rfl⟩
abbrev main_v311 : Ref sig .tc := ⟨.hbm, 458, rfl⟩
abbrev main_v312 : Ref sig .tc := ⟨.hbm, 459, rfl⟩
abbrev main_c_97 : Ref sig .tc := ⟨.hbm, 460, rfl⟩
abbrev main_v313 : Ref sig .tc := ⟨.hbm, 461, rfl⟩
abbrev main_v314 : Ref sig .tc := ⟨.hbm, 462, rfl⟩
abbrev main_c_98 : Ref sig .tc := ⟨.hbm, 463, rfl⟩
abbrev main_v315 : Ref sig .tc := ⟨.hbm, 464, rfl⟩
abbrev main_v316 : Ref sig .tc := ⟨.hbm, 465, rfl⟩
abbrev main_v317 : Ref sig .tc := ⟨.hbm, 466, rfl⟩
abbrev main_v318 : Ref sig .tc := ⟨.hbm, 467, rfl⟩
abbrev main_v319 : Ref sig .tc := ⟨.hbm, 468, rfl⟩
abbrev main_c_99 : Ref sig .tc := ⟨.hbm, 469, rfl⟩
abbrev main_v320 : Ref sig .tc := ⟨.hbm, 470, rfl⟩
abbrev main_v321 : Ref sig .tc := ⟨.hbm, 471, rfl⟩
abbrev main_c_100 : Ref sig .tc := ⟨.hbm, 472, rfl⟩
abbrev main_v322 : Ref sig .tc := ⟨.hbm, 473, rfl⟩
abbrev main_v323 : Ref sig .tc := ⟨.hbm, 474, rfl⟩
abbrev main_v324 : Ref sig .tc := ⟨.hbm, 475, rfl⟩
abbrev main_v325 : Ref sig .tc := ⟨.hbm, 476, rfl⟩
abbrev main_v326 : Ref sig .tc := ⟨.hbm, 477, rfl⟩
abbrev main_c_101 : Ref sig .tc := ⟨.hbm, 478, rfl⟩
abbrev main_v327 : Ref sig .tc := ⟨.hbm, 479, rfl⟩
abbrev main_v328 : Ref sig .tc := ⟨.hbm, 480, rfl⟩
abbrev main_c_102 : Ref sig .tc := ⟨.hbm, 481, rfl⟩
abbrev main_v329 : Ref sig .tc := ⟨.hbm, 482, rfl⟩
abbrev main_v330 : Ref sig .tc := ⟨.hbm, 483, rfl⟩
abbrev main_v331 : Ref sig .tc := ⟨.hbm, 484, rfl⟩
abbrev main_v332 : Ref sig .tc := ⟨.hbm, 485, rfl⟩
abbrev main_v333 : Ref sig .tc := ⟨.hbm, 486, rfl⟩
abbrev main_c_103 : Ref sig .tc := ⟨.hbm, 487, rfl⟩
abbrev main_v334 : Ref sig .tc := ⟨.hbm, 488, rfl⟩
abbrev main_v335 : Ref sig .tc := ⟨.hbm, 489, rfl⟩
abbrev main_c_104 : Ref sig .tc := ⟨.hbm, 490, rfl⟩
abbrev main_v336 : Ref sig .tc := ⟨.hbm, 491, rfl⟩
abbrev main_v337 : Ref sig .tc := ⟨.hbm, 492, rfl⟩
abbrev main_v338 : Ref sig .tc := ⟨.hbm, 493, rfl⟩
abbrev main_v339 : Ref sig .tc := ⟨.hbm, 494, rfl⟩
abbrev main_c_105 : Ref sig .tc := ⟨.hbm, 495, rfl⟩
abbrev main_v340 : Ref sig .tc := ⟨.hbm, 496, rfl⟩
abbrev main_v341 : Ref sig .tc := ⟨.hbm, 497, rfl⟩
abbrev main_c_106 : Ref sig .tc := ⟨.hbm, 498, rfl⟩
abbrev main_v342 : Ref sig .tc := ⟨.hbm, 499, rfl⟩
abbrev main_v343 : Ref sig .tc := ⟨.hbm, 500, rfl⟩
abbrev main_v344 : Ref sig .tc := ⟨.hbm, 501, rfl⟩
abbrev main_c_107 : Ref sig .tc := ⟨.hbm, 502, rfl⟩
abbrev main_v345 : Ref sig .tc := ⟨.hbm, 503, rfl⟩
abbrev main_v346 : Ref sig .tc := ⟨.hbm, 504, rfl⟩
abbrev main_c_108 : Ref sig .tc := ⟨.hbm, 505, rfl⟩
abbrev main_v347 : Ref sig .tc := ⟨.hbm, 506, rfl⟩
abbrev main_v348 : Ref sig .tc := ⟨.hbm, 507, rfl⟩
abbrev main_v349 : Ref sig .tc := ⟨.hbm, 508, rfl⟩
abbrev main_v350 : Ref sig .tc := ⟨.hbm, 509, rfl⟩
abbrev main_v351 : Ref sig .tc := ⟨.hbm, 510, rfl⟩
abbrev main_c_109 : Ref sig .tc := ⟨.hbm, 511, rfl⟩
abbrev main_v352 : Ref sig .tc := ⟨.hbm, 512, rfl⟩
abbrev main_v353 : Ref sig .tc := ⟨.hbm, 513, rfl⟩
abbrev main_c_110 : Ref sig .tc := ⟨.hbm, 514, rfl⟩
abbrev main_v354 : Ref sig .tc := ⟨.hbm, 515, rfl⟩
abbrev main_v355 : Ref sig .tc := ⟨.hbm, 516, rfl⟩
abbrev main_v356 : Ref sig .tc := ⟨.hbm, 517, rfl⟩
abbrev main_v357 : Ref sig .tc := ⟨.hbm, 518, rfl⟩
abbrev main_v358 : Ref sig .tc := ⟨.hbm, 519, rfl⟩
abbrev main_c_111 : Ref sig .tc := ⟨.hbm, 520, rfl⟩
abbrev main_v359 : Ref sig .tc := ⟨.hbm, 521, rfl⟩
abbrev main_v360 : Ref sig .tc := ⟨.hbm, 522, rfl⟩
abbrev main_c_112 : Ref sig .tc := ⟨.hbm, 523, rfl⟩
abbrev main_v361 : Ref sig .tc := ⟨.hbm, 524, rfl⟩
abbrev main_v362 : Ref sig .tc := ⟨.hbm, 525, rfl⟩
abbrev main_v363 : Ref sig .tc := ⟨.hbm, 526, rfl⟩
abbrev main_v364 : Ref sig .tc := ⟨.hbm, 527, rfl⟩
abbrev main_v365 : Ref sig .tc := ⟨.hbm, 528, rfl⟩
abbrev main_c_113 : Ref sig .tc := ⟨.hbm, 529, rfl⟩
abbrev main_v366 : Ref sig .tc := ⟨.hbm, 530, rfl⟩
abbrev main_v367 : Ref sig .tc := ⟨.hbm, 531, rfl⟩
abbrev main_c_114 : Ref sig .tc := ⟨.hbm, 532, rfl⟩
abbrev main_v368 : Ref sig .tc := ⟨.hbm, 533, rfl⟩
abbrev main_v369 : Ref sig .tc := ⟨.hbm, 534, rfl⟩
abbrev main_v370 : Ref sig .tc := ⟨.hbm, 535, rfl⟩
abbrev main_v371 : Ref sig .tc := ⟨.hbm, 536, rfl⟩
abbrev main_c_115 : Ref sig .tc := ⟨.hbm, 537, rfl⟩
abbrev main_v372 : Ref sig .tc := ⟨.hbm, 538, rfl⟩
abbrev main_v373 : Ref sig .tc := ⟨.hbm, 539, rfl⟩
abbrev main_c_116 : Ref sig .tc := ⟨.hbm, 540, rfl⟩
abbrev main_v374 : Ref sig .tc := ⟨.hbm, 541, rfl⟩
abbrev main_v375 : Ref sig .tc := ⟨.hbm, 542, rfl⟩
abbrev main_v376 : Ref sig .tc := ⟨.hbm, 543, rfl⟩
abbrev main_c_117 : Ref sig .tc := ⟨.hbm, 544, rfl⟩
abbrev main_v377 : Ref sig .tc := ⟨.hbm, 545, rfl⟩
abbrev main_v378 : Ref sig .tc := ⟨.hbm, 546, rfl⟩
abbrev main_c_118 : Ref sig .tc := ⟨.hbm, 547, rfl⟩
abbrev main_v379 : Ref sig .tc := ⟨.hbm, 548, rfl⟩
abbrev main_v380 : Ref sig .tc := ⟨.hbm, 549, rfl⟩
abbrev main_v381 : Ref sig .tc := ⟨.hbm, 550, rfl⟩
abbrev main_v382 : Ref sig .tc := ⟨.hbm, 551, rfl⟩
abbrev main_v383 : Ref sig .tc := ⟨.hbm, 552, rfl⟩
abbrev main_c_119 : Ref sig .tc := ⟨.hbm, 553, rfl⟩
abbrev main_v384 : Ref sig .tc := ⟨.hbm, 554, rfl⟩
abbrev main_v385 : Ref sig .tc := ⟨.hbm, 555, rfl⟩
abbrev main_c_120 : Ref sig .tc := ⟨.hbm, 556, rfl⟩
abbrev main_v386 : Ref sig .tc := ⟨.hbm, 557, rfl⟩
abbrev main_v387 : Ref sig .tc := ⟨.hbm, 558, rfl⟩
abbrev main_v388 : Ref sig .tc := ⟨.hbm, 559, rfl⟩
abbrev main_v389 : Ref sig .tc := ⟨.hbm, 560, rfl⟩
abbrev main_v390 : Ref sig .tc := ⟨.hbm, 561, rfl⟩
abbrev main_c_121 : Ref sig .tc := ⟨.hbm, 562, rfl⟩
abbrev main_v391 : Ref sig .tc := ⟨.hbm, 563, rfl⟩
abbrev main_v392 : Ref sig .tc := ⟨.hbm, 564, rfl⟩
abbrev main_c_122 : Ref sig .tc := ⟨.hbm, 565, rfl⟩
abbrev main_v393 : Ref sig .tc := ⟨.hbm, 566, rfl⟩
abbrev main_v394 : Ref sig .tc := ⟨.hbm, 567, rfl⟩
abbrev main_v395 : Ref sig .tc := ⟨.hbm, 568, rfl⟩
abbrev main_v396 : Ref sig .tc := ⟨.hbm, 569, rfl⟩
abbrev main_v397 : Ref sig .tc := ⟨.hbm, 570, rfl⟩
abbrev main_c_123 : Ref sig .tc := ⟨.hbm, 571, rfl⟩
abbrev main_v398 : Ref sig .tc := ⟨.hbm, 572, rfl⟩
abbrev main_v399 : Ref sig .tc := ⟨.hbm, 573, rfl⟩
abbrev main_c_124 : Ref sig .tc := ⟨.hbm, 574, rfl⟩
abbrev main_v400 : Ref sig .tc := ⟨.hbm, 575, rfl⟩
abbrev main_v401 : Ref sig .tc := ⟨.hbm, 576, rfl⟩
abbrev main_v402 : Ref sig .tc := ⟨.hbm, 577, rfl⟩
abbrev main_v403 : Ref sig .tc := ⟨.hbm, 578, rfl⟩
abbrev main_c_125 : Ref sig .tc := ⟨.hbm, 579, rfl⟩
abbrev main_v404 : Ref sig .tc := ⟨.hbm, 580, rfl⟩
abbrev main_v405 : Ref sig .tc := ⟨.hbm, 581, rfl⟩
abbrev main_c_126 : Ref sig .tc := ⟨.hbm, 582, rfl⟩
abbrev main_v406 : Ref sig .tc := ⟨.hbm, 583, rfl⟩
abbrev main_v407 : Ref sig .tc := ⟨.hbm, 584, rfl⟩
abbrev main_v408 : Ref sig .tc := ⟨.hbm, 585, rfl⟩
abbrev main_c_127 : Ref sig .tc := ⟨.hbm, 586, rfl⟩
abbrev main_v409 : Ref sig .tc := ⟨.hbm, 587, rfl⟩
abbrev main_v410 : Ref sig .tc := ⟨.hbm, 588, rfl⟩
abbrev main_c_128 : Ref sig .tc := ⟨.hbm, 589, rfl⟩
abbrev main_v411 : Ref sig .tc := ⟨.hbm, 590, rfl⟩
abbrev main_v412 : Ref sig .tc := ⟨.hbm, 591, rfl⟩
abbrev main_v413 : Ref sig .tc := ⟨.hbm, 592, rfl⟩
abbrev main_v414 : Ref sig .tc := ⟨.hbm, 593, rfl⟩
abbrev main_v415 : Ref sig .tc := ⟨.hbm, 594, rfl⟩
abbrev main_c_129 : Ref sig .tc := ⟨.hbm, 595, rfl⟩
abbrev main_v416 : Ref sig .tc := ⟨.hbm, 596, rfl⟩
abbrev main_v417 : Ref sig .tc := ⟨.hbm, 597, rfl⟩
abbrev main_c_130 : Ref sig .tc := ⟨.hbm, 598, rfl⟩
abbrev main_v418 : Ref sig .tc := ⟨.hbm, 599, rfl⟩
abbrev main_v419 : Ref sig .tc := ⟨.hbm, 600, rfl⟩
abbrev main_v420 : Ref sig .tc := ⟨.hbm, 601, rfl⟩
abbrev main_v421 : Ref sig .tc := ⟨.hbm, 602, rfl⟩
abbrev main_v422 : Ref sig .tc := ⟨.hbm, 603, rfl⟩
abbrev main_c_131 : Ref sig .tc := ⟨.hbm, 604, rfl⟩
abbrev main_v423 : Ref sig .tc := ⟨.hbm, 605, rfl⟩
abbrev main_v424 : Ref sig .tc := ⟨.hbm, 606, rfl⟩
abbrev main_c_132 : Ref sig .tc := ⟨.hbm, 607, rfl⟩
abbrev main_v425 : Ref sig .tc := ⟨.hbm, 608, rfl⟩
abbrev main_v426 : Ref sig .tc := ⟨.hbm, 609, rfl⟩
abbrev main_v427 : Ref sig .tc := ⟨.hbm, 610, rfl⟩
abbrev main_v428 : Ref sig .tc := ⟨.hbm, 611, rfl⟩
abbrev main_v429 : Ref sig .tc := ⟨.hbm, 612, rfl⟩
abbrev main_c_133 : Ref sig .tc := ⟨.hbm, 613, rfl⟩
abbrev main_v430 : Ref sig .tc := ⟨.hbm, 614, rfl⟩
abbrev main_v431 : Ref sig .tc := ⟨.hbm, 615, rfl⟩
abbrev main_c_134 : Ref sig .tc := ⟨.hbm, 616, rfl⟩
abbrev main_v432 : Ref sig .tc := ⟨.hbm, 617, rfl⟩
abbrev main_v433 : Ref sig .tc := ⟨.hbm, 618, rfl⟩
abbrev main_v434 : Ref sig .tc := ⟨.hbm, 619, rfl⟩
abbrev main_v435 : Ref sig .tc := ⟨.hbm, 620, rfl⟩
abbrev main_c_135 : Ref sig .tc := ⟨.hbm, 621, rfl⟩
abbrev main_v436 : Ref sig .tc := ⟨.hbm, 622, rfl⟩
abbrev main_v437 : Ref sig .tc := ⟨.hbm, 623, rfl⟩
abbrev main_c_136 : Ref sig .tc := ⟨.hbm, 624, rfl⟩
abbrev main_v438 : Ref sig .tc := ⟨.hbm, 625, rfl⟩
abbrev main_v439 : Ref sig .tc := ⟨.hbm, 626, rfl⟩
abbrev main_v440 : Ref sig .tc := ⟨.hbm, 627, rfl⟩
abbrev main_c_137 : Ref sig .tc := ⟨.hbm, 628, rfl⟩
abbrev main_v441 : Ref sig .tc := ⟨.hbm, 629, rfl⟩
abbrev main_v442 : Ref sig .tc := ⟨.hbm, 630, rfl⟩
abbrev main_c_138 : Ref sig .tc := ⟨.hbm, 631, rfl⟩
abbrev main_v443 : Ref sig .tc := ⟨.hbm, 632, rfl⟩
abbrev main_v444 : Ref sig .tc := ⟨.hbm, 633, rfl⟩
abbrev main_v445 : Ref sig .tc := ⟨.hbm, 634, rfl⟩
abbrev main_v446 : Ref sig .tc := ⟨.hbm, 635, rfl⟩
abbrev main_v447 : Ref sig .tc := ⟨.hbm, 636, rfl⟩
abbrev main_c_139 : Ref sig .tc := ⟨.hbm, 637, rfl⟩
abbrev main_v448 : Ref sig .tc := ⟨.hbm, 638, rfl⟩
abbrev main_v449 : Ref sig .tc := ⟨.hbm, 639, rfl⟩
abbrev main_c_140 : Ref sig .tc := ⟨.hbm, 640, rfl⟩
abbrev main_v450 : Ref sig .tc := ⟨.hbm, 641, rfl⟩
abbrev main_v451 : Ref sig .tc := ⟨.hbm, 642, rfl⟩
abbrev main_v452 : Ref sig .tc := ⟨.hbm, 643, rfl⟩
abbrev main_v453 : Ref sig .tc := ⟨.hbm, 644, rfl⟩
abbrev main_v454 : Ref sig .tc := ⟨.hbm, 645, rfl⟩
abbrev main_c_141 : Ref sig .tc := ⟨.hbm, 646, rfl⟩
abbrev main_v455 : Ref sig .tc := ⟨.hbm, 647, rfl⟩
abbrev main_v456 : Ref sig .tc := ⟨.hbm, 648, rfl⟩
abbrev main_c_142 : Ref sig .tc := ⟨.hbm, 649, rfl⟩
abbrev main_v457 : Ref sig .tc := ⟨.hbm, 650, rfl⟩
abbrev main_v458 : Ref sig .tc := ⟨.hbm, 651, rfl⟩
abbrev main_v459 : Ref sig .tc := ⟨.hbm, 652, rfl⟩
abbrev main_v460 : Ref sig .tc := ⟨.hbm, 653, rfl⟩
abbrev main_v461 : Ref sig .tc := ⟨.hbm, 654, rfl⟩
abbrev main_c_143 : Ref sig .tc := ⟨.hbm, 655, rfl⟩
abbrev main_v462 : Ref sig .tc := ⟨.hbm, 656, rfl⟩
abbrev main_v463 : Ref sig .tc := ⟨.hbm, 657, rfl⟩
abbrev main_c_144 : Ref sig .tc := ⟨.hbm, 658, rfl⟩
abbrev main_v464 : Ref sig .tc := ⟨.hbm, 659, rfl⟩
abbrev main_v465 : Ref sig .tc := ⟨.hbm, 660, rfl⟩
abbrev main_v466 : Ref sig .tc := ⟨.hbm, 661, rfl⟩
abbrev main_v467 : Ref sig .tc := ⟨.hbm, 662, rfl⟩
abbrev main_c_145 : Ref sig .tc := ⟨.hbm, 663, rfl⟩
abbrev main_v468 : Ref sig .tc := ⟨.hbm, 664, rfl⟩
abbrev main_v469 : Ref sig .tc := ⟨.hbm, 665, rfl⟩
abbrev main_c_146 : Ref sig .tc := ⟨.hbm, 666, rfl⟩
abbrev main_v470 : Ref sig .tc := ⟨.hbm, 667, rfl⟩
abbrev main_v471 : Ref sig .tc := ⟨.hbm, 668, rfl⟩
abbrev main_v472 : Ref sig .tc := ⟨.hbm, 669, rfl⟩
abbrev main_c_147 : Ref sig .tc := ⟨.hbm, 670, rfl⟩
abbrev main_v473 : Ref sig .tc := ⟨.hbm, 671, rfl⟩
abbrev main_v474 : Ref sig .tc := ⟨.hbm, 672, rfl⟩
abbrev main_v475 : Ref sig .tc := ⟨.hbm, 673, rfl⟩
abbrev main_v476 : Ref sig .tc := ⟨.hbm, 674, rfl⟩
abbrev main_cst_148 : Ref sig .tc := ⟨.hbm, 675, rfl⟩
abbrev main_v477 : Ref sig .tc := ⟨.hbm, 676, rfl⟩
abbrev main_v478 : Ref sig .tc := ⟨.hbm, 677, rfl⟩
abbrev main_cst_149 : Ref sig .tc := ⟨.hbm, 678, rfl⟩
abbrev main_v479 : Ref sig .tc := ⟨.hbm, 679, rfl⟩
abbrev main_v480 : Ref sig .tc := ⟨.hbm, 680, rfl⟩
abbrev main_v481 : Ref sig .tc := ⟨.hbm, 681, rfl⟩
abbrev main_v482 : Ref sig .tc := ⟨.hbm, 682, rfl⟩
abbrev main_v483 : Ref sig .tc := ⟨.hbm, 683, rfl⟩
abbrev main_v484 : Ref sig .tc := ⟨.hbm, 684, rfl⟩
abbrev main_v485 : Ref sig .tc := ⟨.hbm, 685, rfl⟩
abbrev main_v486 : Ref sig .tc := ⟨.hbm, 686, rfl⟩
abbrev main_v487 : Ref sig .tc := ⟨.hbm, 687, rfl⟩
abbrev main_values_150 : Ref sig .tc := ⟨.hbm, 688, rfl⟩
abbrev main_indices_151 : Ref sig .tc := ⟨.hbm, 689, rfl⟩
abbrev main_v488 : Ref sig .tc := ⟨.hbm, 690, rfl⟩
abbrev main_v489 : Ref sig .tc := ⟨.hbm, 691, rfl⟩
abbrev main_v490 : Ref sig .tc := ⟨.hbm, 692, rfl⟩
abbrev main_v491 : Ref sig .tc := ⟨.hbm, 693, rfl⟩
abbrev main_call7_c : Ref sig .tc := ⟨.hbm, 694, rfl⟩
abbrev main_call7_v0 : Ref sig .tc := ⟨.hbm, 695, rfl⟩
abbrev main_call7_v1 : Ref sig .tc := ⟨.hbm, 696, rfl⟩
abbrev main_call7_c_0 : Ref sig .tc := ⟨.hbm, 697, rfl⟩
abbrev main_call7_v2 : Ref sig .tc := ⟨.hbm, 698, rfl⟩
abbrev main_call7_v3 : Ref sig .tc := ⟨.hbm, 699, rfl⟩
abbrev main_call7_v4 : Ref sig .tc := ⟨.hbm, 700, rfl⟩
abbrev main_call7_v5 : Ref sig .tc := ⟨.hbm, 701, rfl⟩
abbrev main_call7_c_1 : Ref sig .tc := ⟨.hbm, 702, rfl⟩
abbrev main_call7_c_2 : Ref sig .tc := ⟨.hbm, 703, rfl⟩
abbrev main_call7_v6 : Ref sig .tc := ⟨.hbm, 704, rfl⟩
abbrev main_call7_v7 : Ref sig .tc := ⟨.hbm, 705, rfl⟩
abbrev main_call7_v8 : Ref sig .tc := ⟨.hbm, 706, rfl⟩
abbrev main_call7_v9 : Ref sig .tc := ⟨.hbm, 707, rfl⟩
abbrev main_call7_v10 : Ref sig .tc := ⟨.hbm, 708, rfl⟩
abbrev main_call7_v11 : Ref sig .tc := ⟨.hbm, 709, rfl⟩
abbrev main_call7_c_3 : Ref sig .tc := ⟨.hbm, 710, rfl⟩
abbrev main_call7_v12 : Ref sig .tc := ⟨.hbm, 711, rfl⟩
abbrev main_call7_v13 : Ref sig .tc := ⟨.hbm, 712, rfl⟩
abbrev main_call7_cst : Ref sig .tc := ⟨.hbm, 713, rfl⟩
abbrev main_call7_v14 : Ref sig .tc := ⟨.hbm, 714, rfl⟩
abbrev main_v492 : Ref sig .tc := ⟨.hbm, 715, rfl⟩
abbrev main_call8_c : Ref sig .tc := ⟨.hbm, 716, rfl⟩
abbrev main_call8_v0 : Ref sig .tc := ⟨.hbm, 717, rfl⟩
abbrev main_call8_v1 : Ref sig .tc := ⟨.hbm, 718, rfl⟩
abbrev main_call8_c_0 : Ref sig .tc := ⟨.hbm, 719, rfl⟩
abbrev main_call8_v2 : Ref sig .tc := ⟨.hbm, 720, rfl⟩
abbrev main_call8_v3 : Ref sig .tc := ⟨.hbm, 721, rfl⟩
abbrev main_call8_v4 : Ref sig .tc := ⟨.hbm, 722, rfl⟩
abbrev main_call8_v5 : Ref sig .tc := ⟨.hbm, 723, rfl⟩
abbrev main_call8_c_1 : Ref sig .tc := ⟨.hbm, 724, rfl⟩
abbrev main_call8_c_2 : Ref sig .tc := ⟨.hbm, 725, rfl⟩
abbrev main_call8_v6 : Ref sig .tc := ⟨.hbm, 726, rfl⟩
abbrev main_call8_v7 : Ref sig .tc := ⟨.hbm, 727, rfl⟩
abbrev main_call8_v8 : Ref sig .tc := ⟨.hbm, 728, rfl⟩
abbrev main_call8_v9 : Ref sig .tc := ⟨.hbm, 729, rfl⟩
abbrev main_call8_v10 : Ref sig .tc := ⟨.hbm, 730, rfl⟩
abbrev main_call8_v11 : Ref sig .tc := ⟨.hbm, 731, rfl⟩
abbrev main_call8_c_3 : Ref sig .tc := ⟨.hbm, 732, rfl⟩
abbrev main_call8_v12 : Ref sig .tc := ⟨.hbm, 733, rfl⟩
abbrev main_call8_v13 : Ref sig .tc := ⟨.hbm, 734, rfl⟩
abbrev main_call8_cst : Ref sig .tc := ⟨.hbm, 735, rfl⟩
abbrev main_call8_v14 : Ref sig .tc := ⟨.hbm, 736, rfl⟩
abbrev main_v493 : Ref sig .tc := ⟨.hbm, 737, rfl⟩
abbrev main_cst_152 : Ref sig .tc := ⟨.hbm, 738, rfl⟩
abbrev main_v494 : Ref sig .tc := ⟨.hbm, 739, rfl⟩
abbrev main_v495 : Ref sig .tc := ⟨.hbm, 740, rfl⟩
abbrev main_v496 : Ref sig .tc := ⟨.hbm, 741, rfl⟩
abbrev main_v497 : Ref sig .tc := ⟨.hbm, 742, rfl⟩
abbrev main_cst_153 : Ref sig .tc := ⟨.hbm, 743, rfl⟩
abbrev main_call9_v0 : Ref sig .tc := ⟨.hbm, 744, rfl⟩
abbrev main_call9_v1 : Ref sig .tc := ⟨.hbm, 745, rfl⟩
abbrev main_v498 : Ref sig .tc := ⟨.hbm, 746, rfl⟩
abbrev main_cst_154 : Ref sig .tc := ⟨.hbm, 747, rfl⟩
abbrev main_v499 : Ref sig .tc := ⟨.hbm, 748, rfl⟩
abbrev main_cst_155 : Ref sig .tc := ⟨.hbm, 749, rfl⟩
abbrev main_v500 : Ref sig .tc := ⟨.hbm, 750, rfl⟩
abbrev main_v501 : Ref sig .tc := ⟨.hbm, 751, rfl⟩
abbrev main_cst_156 : Ref sig .tc := ⟨.hbm, 752, rfl⟩
abbrev main_v502 : Ref sig .tc := ⟨.hbm, 753, rfl⟩
abbrev main_cst_157 : Ref sig .tc := ⟨.hbm, 754, rfl⟩
abbrev main_v503 : Ref sig .tc := ⟨.hbm, 755, rfl⟩
abbrev main_v504 : Ref sig .tc := ⟨.hbm, 756, rfl⟩
abbrev main_v505 : Ref sig .tc := ⟨.hbm, 757, rfl⟩

abbrev nD : Nat := 1
abbrev τ : Topo := Topo.v7x

variable {F : FTy → Type} [FloatOps F]
-- ==== Proof.Math.WholeWrites.lean ====
/- A buffer written over completely: what it holds does not depend on what it held before. -/
module

public import Idealize.ShloMosaic.Lib.Pipeline.FrameBody
public import Idealize.ShloMosaic.Lib.Ring

@[expose] public section

noncomputable section

namespace Cert.Loss

open Idealize.ShloMosaic

/-- A whole memref's buffer after writes that cover it holds the writes' own reading, whatever was there before. -/
theorem whole_writes {sig : RefSig} {κ : Kind} {sp : Space} {s : Shape} {e : EltTy} {Val : EltTy → Type} [∀ e, Nonempty (Val e)]
    {r : Memref sig κ sp s e} (hr : r.IsWhole) (f : r.view.ty.Contents Val) (L : List (View.Piece Val s e))
    (hL : ∀ y, ∃ p ∈ L, y ∈ p.1.set) : r.view.writes Val f L = hr.unread (View.canon L) :=
  hr.eq_unread (View.read_writes_eq_canon _ f L hL)

end Cert.Loss

end
-- ==== Proof.RunIdeal.RunA.lean ====
/- The run of the body at the first grid point: the log-weights, the two weight arrays and the diagonal are built
   there. The log-weight scratch is written over completely before it is read, so what it held does not matter. -/
module

public import proofs.«01_k».proof.Proof.Gen.KernelIdeal.Frame.Runs
public import proofs.«01_k».proof.Proof.Math.WholeWrites

@[expose] public section

-- the arrays have axes of 1024 places
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in each output's staging memref, as pieces (last first) IN CASE A (`scf.if` 0 taken, `scf.if` 1 not taken, `scf.if` 2 not taken, `scf.if` 3 not taken: points 0), WITH the
    proof that on whole staging memrefs — the inputs' at their contents, the outputs it leaves idle (4: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S1024x1024 .f32) (harg1 : arg1.IsWhole) (arg2 : Memref sig .tc .vmem S1024x1024 .f32) (harg2 : arg2.IsWhole) (arg3 : Memref sig .tc .vmem S1024x1 .f32) (harg3 : arg3.IsWhole) (arg4 : Memref sig .tc .vmem S1x1024x1024 .f32) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .smem S1x1 .f32) (harg10 : arg10.IsWhole) (hc0 : cond0_0 i) (hc1 : ¬cond0_1 i) (hc2 : ¬cond0_2 i) (hc3 : ¬cond0_3 i)
    (x0 : Vec F S1024x1024 .f32) (x1 : Vec F S1024x1024 .f32) (x2 : Vec F S1024x1 .f32) (x3 : Vec F S1x1024x1024 .f32) :
    Σ' (L4 : List (View.Piece (Elt F) S1x1 .f32)), Σ' (LS1 : List (View.Piece (Elt F) S1024x1024 .f32)), Σ' (LS2 : List (View.Piece (Elt F) S1024x1024 .f32)), Σ' (LS3 : List (View.Piece (Elt F) S1024x1 .f32)), { LS4 : List (View.Piece (Elt F) S1x1 .f32) //
      ∀ (xi4 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ d, owns (c : Thread nD τ) arg6 fullShare d) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2) ∗ (∃ f, arg9.view.loc (c : Thread nD τ) ↦[arg9.view.set]{fullShare} arg9.view.writes (Elt F) f LS3) ∗ (∃ f, arg10.view.loc (c : Thread nD τ) ↦[arg10.view.set]{fullShare} arg10.view.writes (Elt F) f LS4)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10) K } := by
  refine ⟨[], ?_, ?_, ?_, ?_, fun xi4 E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0 | sl_exact hc1 | sl_exact hc2 | sl_exact hc3)
    rw [Cert.Loss.whole_writes harg6 fs0 _ (View.cover_of_tiledL _ S128x1024.size (by sl_kernel_rfl))]
    rw [Cert.Loss.whole_writes harg6 fs0 _ (View.cover_of_tiledL _ S128x1024.size (by sl_kernel_rfl))]
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HS0]
    · iexists _, _; isplitr; swap; · iexact HS0
      ipureintro; rfl
    isplitl [HS1]; · iexists _; iexact HS1
    isplitl [HS2]; · iexists _; iexact HS2
    isplitl [HS3]; · iexists _; iexact HS3
    iexists _; iexact HS4

end Cert.KernelIdeal.Gen

end
-- ==== Proof.RunIdeal.RunB.lean ====
/- The run of the body at the points that sum the slabs of the first part. -/
module

public import proofs.«01_k».proof.Proof.RunIdeal.RunA

@[expose] public section

-- the arrays have axes of 1024 places
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1200000 in
/-- What the body's stores leave in each output's staging memref, as pieces (last first) IN CASE B (`scf.if` 0 not taken, `scf.if` 1 taken, `scf.if` 2 not taken, `scf.if` 3 not taken: points 1, 2, 3, 4, 5), WITH the
    proof that on whole staging memrefs — the inputs' at their contents, the outputs it leaves idle (4: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S1024x1024 .f32) (harg1 : arg1.IsWhole) (arg2 : Memref sig .tc .vmem S1024x1024 .f32) (harg2 : arg2.IsWhole) (arg3 : Memref sig .tc .vmem S1024x1 .f32) (harg3 : arg3.IsWhole) (arg4 : Memref sig .tc .vmem S1x1024x1024 .f32) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .smem S1x1 .f32) (harg10 : arg10.IsWhole) (hc0 : ¬cond0_0 i) (hc1 : cond0_1 i) (hc2 : ¬cond0_2 i) (hc3 : ¬cond0_3 i)
    (x0 : Vec F S1024x1024 .f32) (x1 : Vec F S1024x1024 .f32) (x2 : Vec F S1024x1 .f32) (x3 : Vec F S1x1024x1024 .f32) (xs1 : Vec F S1024x1024 .f32) (xs2 : Vec F S1024x1024 .f32) (xs3 : Vec F S1024x1 .f32) (xs4 : Vec F S1x1 .f32) :
    Σ' (L4 : List (View.Piece (Elt F) S1x1 .f32)), Σ' (LS1 : List (View.Piece (Elt F) S1024x1024 .f32)), Σ' (LS2 : List (View.Piece (Elt F) S1024x1024 .f32)), Σ' (LS3 : List (View.Piece (Elt F) S1024x1 .f32)), { LS4 : List (View.Piece (Elt F) S1x1 .f32) //
      ∀ (xi4 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ d, owns (c : Thread nD τ) arg6 fullShare d) ∗ owns (c : Thread nD τ) arg7 fullShare xs1 ∗ owns (c : Thread nD τ) arg8 fullShare xs2 ∗ owns (c : Thread nD τ) arg9 fullShare xs3 ∗ owns (c : Thread nD τ) arg10 fullShare xs4
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ d, owns (c : Thread nD τ) arg6 fullShare d) ∗ owns (c : Thread nD τ) arg7 fullShare xs1 ∗ owns (c : Thread nD τ) arg8 fullShare xs2 ∗ owns (c : Thread nD τ) arg9 fullShare xs3 ∗ (∃ f, arg10.view.loc (c : Thread nD τ) ↦[arg10.view.set]{fullShare} arg10.view.writes (Elt F) f LS4)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10) K } := by
  refine ⟨[], [], [], [], ?_, fun xi4 E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%fs1, %hfs1, HS1⟩, ⟨%fs2, %hfs2, HS2⟩, ⟨%fs3, %hfs3, HS3⟩, ⟨%fs4, %hfs4, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs1; obtain rfl := harg8.eq_unread hfs2; obtain rfl := harg9.eq_unread hfs3; obtain rfl := harg10.eq_unread hfs4
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HS0]
    · iexists _, _; isplitr; swap; · iexact HS0
      ipureintro; rfl
    isplitl [HS1]
    · iexists _; isplitr; · ipureintro; exact harg7.read_unread _
      iexact HS1
    isplitl [HS2]
    · iexists _; isplitr; · ipureintro; exact harg8.read_unread _
      iexact HS2
    isplitl [HS3]
    · iexists _; isplitr; · ipureintro; exact harg9.read_unread _
      iexact HS3
    iexists _; iexact HS4

end Cert.KernelIdeal.Gen

end
-- ==== Proof.RunIdeal.RunC.lean ====
/- The run of the body at the points that sum the slabs of the second part. -/
module

public import proofs.«01_k».proof.Proof.RunIdeal.RunB

@[expose] public section

-- the arrays have axes of 1024 places
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1200000 in
/-- What the body's stores leave in each output's staging memref, as pieces (last first) IN CASE C (`scf.if` 0 not taken, `scf.if` 1 not taken, `scf.if` 2 taken, `scf.if` 3 not taken: points 6, 7, … 14: 9 of 16), WITH the
    proof that on whole staging memrefs — the inputs' at their contents, the outputs it leaves idle (4: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S1024x1024 .f32) (harg1 : arg1.IsWhole) (arg2 : Memref sig .tc .vmem S1024x1024 .f32) (harg2 : arg2.IsWhole) (arg3 : Memref sig .tc .vmem S1024x1 .f32) (harg3 : arg3.IsWhole) (arg4 : Memref sig .tc .vmem S1x1024x1024 .f32) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .smem S1x1 .f32) (harg10 : arg10.IsWhole) (hc0 : ¬cond0_0 i) (hc1 : ¬cond0_1 i) (hc2 : cond0_2 i) (hc3 : ¬cond0_3 i)
    (x0 : Vec F S1024x1024 .f32) (x1 : Vec F S1024x1024 .f32) (x2 : Vec F S1024x1 .f32) (x3 : Vec F S1x1024x1024 .f32) (xs1 : Vec F S1024x1024 .f32) (xs2 : Vec F S1024x1024 .f32) (xs3 : Vec F S1024x1 .f32) (xs4 : Vec F S1x1 .f32) :
    Σ' (L4 : List (View.Piece (Elt F) S1x1 .f32)), Σ' (LS1 : List (View.Piece (Elt F) S1024x1024 .f32)), Σ' (LS2 : List (View.Piece (Elt F) S1024x1024 .f32)), Σ' (LS3 : List (View.Piece (Elt F) S1024x1 .f32)), { LS4 : List (View.Piece (Elt F) S1x1 .f32) //
      ∀ (xi4 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ d, owns (c : Thread nD τ) arg6 fullShare d) ∗ owns (c : Thread nD τ) arg7 fullShare xs1 ∗ owns (c : Thread nD τ) arg8 fullShare xs2 ∗ owns (c : Thread nD τ) arg9 fullShare xs3 ∗ owns (c : Thread nD τ) arg10 fullShare xs4
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ d, owns (c : Thread nD τ) arg6 fullShare d) ∗ owns (c : Thread nD τ) arg7 fullShare xs1 ∗ owns (c : Thread nD τ) arg8 fullShare xs2 ∗ owns (c : Thread nD τ) arg9 fullShare xs3 ∗ (∃ f, arg10.view.loc (c : Thread nD τ) ↦[arg10.view.set]{fullShare} arg10.view.writes (Elt F) f LS4)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10) K } := by
  refine ⟨[], [], [], [], ?_, fun xi4 E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%fs1, %hfs1, HS1⟩, ⟨%fs2, %hfs2, HS2⟩, ⟨%fs3, %hfs3, HS3⟩, ⟨%fs4, %hfs4, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs1; obtain rfl := harg8.eq_unread hfs2; obtain rfl := harg9.eq_unread hfs3; obtain rfl := harg10.eq_unread hfs4
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HS0]
    · iexists _, _; isplitr; swap; · iexact HS0
      ipureintro; rfl
    isplitl [HS1]
    · iexists _; isplitr; · ipureintro; exact harg7.read_unread _
      iexact HS1
    isplitl [HS2]
    · iexists _; isplitr; · ipureintro; exact harg8.read_unread _
      iexact HS2
    isplitl [HS3]
    · iexists _; isplitr; · ipureintro; exact harg9.read_unread _
      iexact HS3
    iexists _; iexact HS4

end Cert.KernelIdeal.Gen

end
-- ==== Proof.RunIdeal.RunD.lean ====
/- The run of the body at the last point, which also writes the result. -/
module

public import proofs.«01_k».proof.Proof.RunIdeal.RunC

@[expose] public section

-- the arrays have axes of 1024 places
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1200000 in
/-- What the body's stores leave in each output's staging memref, as pieces (last first) IN CASE D (`scf.if` 0 not taken, `scf.if` 1 not taken, `scf.if` 2 taken, `scf.if` 3 taken: points 15), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_D (c : Dev nD) (i : grid0.Coords) (arg1 : Memref sig .tc .vmem S1024x1024 .f32) (harg1 : arg1.IsWhole) (arg2 : Memref sig .tc .vmem S1024x1024 .f32) (harg2 : arg2.IsWhole) (arg3 : Memref sig .tc .vmem S1024x1 .f32) (harg3 : arg3.IsWhole) (arg4 : Memref sig .tc .vmem S1x1024x1024 .f32) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .smem S1x1 .f32) (harg10 : arg10.IsWhole) (hc0 : ¬cond0_0 i) (hc1 : ¬cond0_1 i) (hc2 : cond0_2 i) (hc3 : cond0_3 i)
    (x0 : Vec F S1024x1024 .f32) (x1 : Vec F S1024x1024 .f32) (x2 : Vec F S1024x1 .f32) (x3 : Vec F S1x1024x1024 .f32) (xs1 : Vec F S1024x1024 .f32) (xs2 : Vec F S1024x1024 .f32) (xs3 : Vec F S1024x1 .f32) (xs4 : Vec F S1x1 .f32) :
    Σ' (L4 : List (View.Piece (Elt F) S1x1 .f32)), Σ' (LS1 : List (View.Piece (Elt F) S1024x1024 .f32)), Σ' (LS2 : List (View.Piece (Elt F) S1024x1024 .f32)), Σ' (LS3 : List (View.Piece (Elt F) S1024x1 .f32)), { LS4 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare xs1 ∗ owns (c : Thread nD τ) arg8 fullShare xs2 ∗ owns (c : Thread nD τ) arg9 fullShare xs3 ∗ owns (c : Thread nD τ) arg10 fullShare xs4
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ d, owns (c : Thread nD τ) arg6 fullShare d) ∗ owns (c : Thread nD τ) arg7 fullShare xs1 ∗ owns (c : Thread nD τ) arg8 fullShare xs2 ∗ owns (c : Thread nD τ) arg9 fullShare xs3 ∗ (∃ f, arg10.view.loc (c : Thread nD τ) ↦[arg10.view.set]{fullShare} arg10.view.writes (Elt F) f LS4)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10) K } := by
  refine ⟨?_, [], [], [], ?_, fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%fs1, %hfs1, HS1⟩, ⟨%fs2, %hfs2, HS2⟩, ⟨%fs3, %hfs3, HS3⟩, ⟨%fs4, %hfs4, HS4⟩, Hk⟩
    obtain rfl := harg1.eq_unread hf0; obtain rfl := harg2.eq_unread hf1; obtain rfl := harg3.eq_unread hf2; obtain rfl := harg4.eq_unread hf3; obtain rfl := harg7.eq_unread hfs1; obtain rfl := harg8.eq_unread hfs2; obtain rfl := harg9.eq_unread hfs3; obtain rfl := harg10.eq_unread hfs4
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [HS0]
    · iexists _, _; isplitr; swap; · iexact HS0
      ipureintro; rfl
    isplitl [HS1]
    · iexists _; isplitr; · ipureintro; exact harg7.read_unread _
      iexact HS1
    isplitl [HS2]
    · iexists _; isplitr; · ipureintro; exact harg8.read_unread _
      iexact HS2
    isplitl [HS3]
    · iexists _; isplitr; · ipureintro; exact harg9.read_unread _
      iexact HS3
    iexists _; iexact HS4

end Cert.KernelIdeal.Gen

end
-- ==== Proof.RunIdeal.Frame.lean ====
/- What the scratch buffers and the result hold after each grid point, the pipeline's data, the body at any point,
   and the frame of the whole program. -/
module

public import proofs.«01_k».proof.Proof.RunIdeal.RunD
public import Idealize.ShloMosaic.Lib.Claim

@[expose] public section

-- the arrays have axes of 1024 places
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A stores nothing into output 4 (the window is idle at its points and not written back there):
    no pieces — a placeholder (junk read back) that nothing consults, since at these points the window is neither
    written back nor read at the next point (Lib/Pipeline.lean "Idle points"). -/
def out0_A_4 (c : Dev nD) (i : grid0.Coords) (arg1 : Memref sig .tc .vmem S1024x1024 .f32) (harg1 : arg1.IsWhole) (arg2 : Memref sig .tc .vmem S1024x1024 .f32) (harg2 : arg2.IsWhole) (arg3 : Memref sig .tc .vmem S1024x1 .f32) (harg3 : arg3.IsWhole) (arg4 : Memref sig .tc .vmem S1x1024x1024 .f32) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .smem S1x1 .f32) (harg10 : arg10.IsWhole) (hc0 : cond0_0 i) (hc1 : ¬cond0_1 i) (hc2 : ¬cond0_2 i) (hc3 : ¬cond0_3 i)
    (x0 : Vec F S1024x1024 .f32) (x1 : Vec F S1024x1024 .f32) (x2 : Vec F S1024x1 .f32) (x3 : Vec F S1x1024x1024 .f32) : Vec F S1x1 .f32 :=
  VO0_4.read (Elt F) (VO0_4.writes (Elt F) VO0_4.junk (kernelRun0_A c i arg1 harg1 arg2 harg2 arg3 harg3 arg4 harg4 arg5 harg5 arg6 harg6 arg7 harg7 arg8 harg8 arg9 harg9 arg10 harg10 hc0 hc1 hc2 hc3 x0 x1 x2 x3).1)

/-- Case A's pieces for scratch `arg7`, which the kernel carries between points, cover it: 8 pieces of `S128x1024` tiling it (Lib/Ring.lean `Piece.tiledL`). -/
theorem scover0_A_1 (c : Dev nD) (i : grid0.Coords) (arg1 : Memref sig .tc .vmem S1024x1024 .f32) (harg1 : arg1.IsWhole) (arg2 : Memref sig .tc .vmem S1024x1024 .f32) (harg2 : arg2.IsWhole) (arg3 : Memref sig .tc .vmem S1024x1 .f32) (harg3 : arg3.IsWhole) (arg4 : Memref sig .tc .vmem S1x1024x1024 .f32) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .smem S1x1 .f32) (harg10 : arg10.IsWhole) (hc0 : cond0_0 i) (hc1 : ¬cond0_1 i) (hc2 : ¬cond0_2 i) (hc3 : ¬cond0_3 i)
    (x0 : Vec F S1024x1024 .f32) (x1 : Vec F S1024x1024 .f32) (x2 : Vec F S1024x1 .f32) (x3 : Vec F S1x1024x1024 .f32) (y : S1024x1024.Idx) :
    ∃ pc ∈ (kernelRun0_A c i arg1 harg1 arg2 harg2 arg3 harg3 arg4 harg4 arg5 harg5 arg6 harg6 arg7 harg7 arg8 harg8 arg9 harg9 arg10 harg10 hc0 hc1 hc2 hc3 x0 x1 x2 x3).2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 hc2 hc3 x0 x1 x2 x3).2.1 S128x1024.size (by sl_kernel_rfl) y

/-- What case A leaves in scratch `arg7`: its pieces read back over junk. -/
def sout0_A_1 (c : Dev nD) (i : grid0.Coords) (arg1 : Memref sig .tc .vmem S1024x1024 .f32) (harg1 : arg1.IsWhole) (arg2 : Memref sig .tc .vmem S1024x1024 .f32) (harg2 : arg2.IsWhole) (arg3 : Memref sig .tc .vmem S1024x1 .f32) (harg3 : arg3.IsWhole) (arg4 : Memref sig .tc .vmem S1x1024x1024 .f32) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .smem S1x1 .f32) (harg10 : arg10.IsWhole) (hc0 : cond0_0 i) (hc1 : ¬cond0_1 i) (hc2 : ¬cond0_2 i) (hc3 : ¬cond0_3 i)
    (x0 : Vec F S1024x1024 .f32) (x1 : Vec F S1024x1024 .f32) (x2 : Vec F S1024x1 .f32) (x3 : Vec F S1x1024x1024 .f32) : Vec F S1024x1024 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 hc0 hc1 hc2 hc3 x0 x1 x2 x3).2.1)

/-- Case A's pieces for scratch `arg8`, which the kernel carries between points, cover it: 8 pieces of `S128x1024` tiling it (Lib/Ring.lean `Piece.tiledL`). -/
theorem scover0_A_2 (c : Dev nD) (i : grid0.Coords) (arg1 : Memref sig .tc .vmem S1024x1024 .f32) (harg1 : arg1.IsWhole) (arg2 : Memref sig .tc .vmem S1024x1024 .f32) (harg2 : arg2.IsWhole) (arg3 : Memref sig .tc .vmem S1024x1 .f32) (harg3 : arg3.IsWhole) (arg4 : Memref sig .tc .vmem S1x1024x1024 .f32) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .smem S1x1 .f32) (harg10 : arg10.IsWhole) (hc0 : cond0_0 i) (hc1 : ¬cond0_1 i) (hc2 : ¬cond0_2 i) (hc3 : ¬cond0_3 i)
    (x0 : Vec F S1024x1024 .f32) (x1 : Vec F S1024x1024 .f32) (x2 : Vec F S1024x1 .f32) (x3 : Vec F S1x1024x1024 .f32) (y : S1024x1024.Idx) :
    ∃ pc ∈ (kernelRun0_A c i arg1 harg1 arg2 harg2 arg3 harg3 arg4 harg4 arg5 harg5 arg6 harg6 arg7 harg7 arg8 harg8 arg9 harg9 arg10 harg10 hc0 hc1 hc2 hc3 x0 x1 x2 x3).2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 hc2 hc3 x0 x1 x2 x3).2.2.1 S128x1024.size (by sl_kernel_rfl) y

/-- What case A leaves in scratch `arg8`: its pieces read back over junk. -/
def sout0_A_2 (c : Dev nD) (i : grid0.Coords) (arg1 : Memref sig .tc .vmem S1024x1024 .f32) (harg1 : arg1.IsWhole) (arg2 : Memref sig .tc .vmem S1024x1024 .f32) (harg2 : arg2.IsWhole) (arg3 : Memref sig .tc .vmem S1024x1 .f32) (harg3 : arg3.IsWhole) (arg4 : Memref sig .tc .vmem S1x1024x1024 .f32) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .smem S1x1 .f32) (harg10 : arg10.IsWhole) (hc0 : cond0_0 i) (hc1 : ¬cond0_1 i) (hc2 : ¬cond0_2 i) (hc3 : ¬cond0_3 i)
    (x0 : Vec F S1024x1024 .f32) (x1 : Vec F S1024x1024 .f32) (x2 : Vec F S1024x1 .f32) (x3 : Vec F S1x1024x1024 .f32) : Vec F S1024x1024 .f32 :=
  VS0_2.read (Elt F) (VS0_2.writes (Elt F) VS0_2.junk (kernelRun0_A c i arg1 harg1 arg2 harg2 arg3 harg3 arg4 harg4 arg5 harg5 arg6 harg6 arg7 harg7 arg8 harg8 arg9 harg9 arg10 harg10 hc0 hc1 hc2 hc3 x0 x1 x2 x3).2.2.1)

/-- Case A's pieces for scratch `arg9`, which the kernel carries between points, cover it: 8 pieces of `S128x1` tiling it (Lib/Ring.lean `Piece.tiledL`). -/
theorem scover0_A_3 (c : Dev nD) (i : grid0.Coords) (arg1 : Memref sig .tc .vmem S1024x1024 .f32) (harg1 : arg1.IsWhole) (arg2 : Memref sig .tc .vmem S1024x1024 .f32) (harg2 : arg2.IsWhole) (arg3 : Memref sig .tc .vmem S1024x1 .f32) (harg3 : arg3.IsWhole) (arg4 : Memref sig .tc .vmem S1x1024x1024 .f32) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .smem S1x1 .f32) (harg10 : arg10.IsWhole) (hc0 : cond0_0 i) (hc1 : ¬cond0_1 i) (hc2 : ¬cond0_2 i) (hc3 : ¬cond0_3 i)
    (x0 : Vec F S1024x1024 .f32) (x1 : Vec F S1024x1024 .f32) (x2 : Vec F S1024x1 .f32) (x3 : Vec F S1x1024x1024 .f32) (y : S1024x1.Idx) :
    ∃ pc ∈ (kernelRun0_A c i arg1 harg1 arg2 harg2 arg3 harg3 arg4 harg4 arg5 harg5 arg6 harg6 arg7 harg7 arg8 harg8 arg9 harg9 arg10 harg10 hc0 hc1 hc2 hc3 x0 x1 x2 x3).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 hc2 hc3 x0 x1 x2 x3).2.2.2.1 S128x1.size (by sl_kernel_rfl) y

/-- What case A leaves in scratch `arg9`: its pieces read back over junk. -/
def sout0_A_3 (c : Dev nD) (i : grid0.Coords) (arg1 : Memref sig .tc .vmem S1024x1024 .f32) (harg1 : arg1.IsWhole) (arg2 : Memref sig .tc .vmem S1024x1024 .f32) (harg2 : arg2.IsWhole) (arg3 : Memref sig .tc .vmem S1024x1 .f32) (harg3 : arg3.IsWhole) (arg4 : Memref sig .tc .vmem S1x1024x1024 .f32) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .smem S1x1 .f32) (harg10 : arg10.IsWhole) (hc0 : cond0_0 i) (hc1 : ¬cond0_1 i) (hc2 : ¬cond0_2 i) (hc3 : ¬cond0_3 i)
    (x0 : Vec F S1024x1024 .f32) (x1 : Vec F S1024x1024 .f32) (x2 : Vec F S1024x1 .f32) (x3 : Vec F S1x1024x1024 .f32) : Vec F S1024x1 .f32 :=
  VS0_3.read (Elt F) (VS0_3.writes (Elt F) VS0_3.junk (kernelRun0_A c i arg1 harg1 arg2 harg2 arg3 harg3 arg4 harg4 arg5 harg5 arg6 harg6 arg7 harg7 arg8 harg8 arg9 harg9 arg10 harg10 hc0 hc1 hc2 hc3 x0 x1 x2 x3).2.2.2.1)

/-- Case A's pieces for scratch `arg10`, which the kernel carries between points, cover it: 1 piece of `S1x1` tiling it (Lib/Ring.lean `Piece.tiledL`). -/
theorem scover0_A_4 (c : Dev nD) (i : grid0.Coords) (arg1 : Memref sig .tc .vmem S1024x1024 .f32) (harg1 : arg1.IsWhole) (arg2 : Memref sig .tc .vmem S1024x1024 .f32) (harg2 : arg2.IsWhole) (arg3 : Memref sig .tc .vmem S1024x1 .f32) (harg3 : arg3.IsWhole) (arg4 : Memref sig .tc .vmem S1x1024x1024 .f32) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .smem S1x1 .f32) (harg10 : arg10.IsWhole) (hc0 : cond0_0 i) (hc1 : ¬cond0_1 i) (hc2 : ¬cond0_2 i) (hc3 : ¬cond0_3 i)
    (x0 : Vec F S1024x1024 .f32) (x1 : Vec F S1024x1024 .f32) (x2 : Vec F S1024x1 .f32) (x3 : Vec F S1x1024x1024 .f32) (y : S1x1.Idx) :
    ∃ pc ∈ (kernelRun0_A c i arg1 harg1 arg2 harg2 arg3 harg3 arg4 harg4 arg5 harg5 arg6 harg6 arg7 harg7 arg8 harg8 arg9 harg9 arg10 harg10 hc0 hc1 hc2 hc3 x0 x1 x2 x3).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 hc2 hc3 x0 x1 x2 x3).2.2.2.2.1 S1x1.size (by sl_kernel_rfl) y

/-- What case A leaves in scratch `arg10`: its pieces read back over junk. -/
def sout0_A_4 (c : Dev nD) (i : grid0.Coords) (arg1 : Memref sig .tc .vmem S1024x1024 .f32) (harg1 : arg1.IsWhole) (arg2 : Memref sig .tc .vmem S1024x1024 .f32) (harg2 : arg2.IsWhole) (arg3 : Memref sig .tc .vmem S1024x1 .f32) (harg3 : arg3.IsWhole) (arg4 : Memref sig .tc .vmem S1x1024x1024 .f32) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .smem S1x1 .f32) (harg10 : arg10.IsWhole) (hc0 : cond0_0 i) (hc1 : ¬cond0_1 i) (hc2 : ¬cond0_2 i) (hc3 : ¬cond0_3 i)
    (x0 : Vec F S1024x1024 .f32) (x1 : Vec F S1024x1024 .f32) (x2 : Vec F S1024x1 .f32) (x3 : Vec F S1x1024x1024 .f32) : Vec F S1x1 .f32 :=
  VS0_4.read (Elt F) (VS0_4.writes (Elt F) VS0_4.junk (kernelRun0_A c i arg1 harg1 arg2 harg2 arg3 harg3 arg4 harg4 arg5 harg5 arg6 harg6 arg7 harg7 arg8 harg8 arg9 harg9 arg10 harg10 hc0 hc1 hc2 hc3 x0 x1 x2 x3).2.2.2.2.1)

/-- Case B stores nothing into output 4 (the window is idle at its points and not written back there):
    no pieces — a placeholder (junk read back) that nothing consults, since at these points the window is neither
    written back nor read at the next point (Lib/Pipeline.lean "Idle points"). -/
def out0_B_4 (c : Dev nD) (i : grid0.Coords) (arg1 : Memref sig .tc .vmem S1024x1024 .f32) (harg1 : arg1.IsWhole) (arg2 : Memref sig .tc .vmem S1024x1024 .f32) (harg2 : arg2.IsWhole) (arg3 : Memref sig .tc .vmem S1024x1 .f32) (harg3 : arg3.IsWhole) (arg4 : Memref sig .tc .vmem S1x1024x1024 .f32) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .smem S1x1 .f32) (harg10 : arg10.IsWhole) (hc0 : ¬cond0_0 i) (hc1 : cond0_1 i) (hc2 : ¬cond0_2 i) (hc3 : ¬cond0_3 i)
    (x0 : Vec F S1024x1024 .f32) (x1 : Vec F S1024x1024 .f32) (x2 : Vec F S1024x1 .f32) (x3 : Vec F S1x1024x1024 .f32) (xs1 : Vec F S1024x1024 .f32) (xs2 : Vec F S1024x1024 .f32) (xs3 : Vec F S1024x1 .f32) (xs4 : Vec F S1x1 .f32) : Vec F S1x1 .f32 :=
  VO0_4.read (Elt F) (VO0_4.writes (Elt F) VO0_4.junk (kernelRun0_B c i arg1 harg1 arg2 harg2 arg3 harg3 arg4 harg4 arg5 harg5 arg6 harg6 arg7 harg7 arg8 harg8 arg9 harg9 arg10 harg10 hc0 hc1 hc2 hc3 x0 x1 x2 x3 xs1 xs2 xs3 xs4).1)

/-- Case B stores nothing into scratch `arg7`: it holds what the point before left. -/
def sout0_B_1 (c : Dev nD) (i : grid0.Coords) (arg1 : Memref sig .tc .vmem S1024x1024 .f32) (harg1 : arg1.IsWhole) (arg2 : Memref sig .tc .vmem S1024x1024 .f32) (harg2 : arg2.IsWhole) (arg3 : Memref sig .tc .vmem S1024x1 .f32) (harg3 : arg3.IsWhole) (arg4 : Memref sig .tc .vmem S1x1024x1024 .f32) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .smem S1x1 .f32) (harg10 : arg10.IsWhole) (hc0 : ¬cond0_0 i) (hc1 : cond0_1 i) (hc2 : ¬cond0_2 i) (hc3 : ¬cond0_3 i)
    (x0 : Vec F S1024x1024 .f32) (x1 : Vec F S1024x1024 .f32) (x2 : Vec F S1024x1 .f32) (x3 : Vec F S1x1024x1024 .f32) (xs1 : Vec F S1024x1024 .f32) (xs2 : Vec F S1024x1024 .f32) (xs3 : Vec F S1024x1 .f32) (xs4 : Vec F S1x1 .f32) : Vec F S1024x1024 .f32 := xs1

/-- Case B stores nothing into scratch `arg8`: it holds what the point before left. -/
def sout0_B_2 (c : Dev nD) (i : grid0.Coords) (arg1 : Memref sig .tc .vmem S1024x1024 .f32) (harg1 : arg1.IsWhole) (arg2 : Memref sig .tc .vmem S1024x1024 .f32) (harg2 : arg2.IsWhole) (arg3 : Memref sig .tc .vmem S1024x1 .f32) (harg3 : arg3.IsWhole) (arg4 : Memref sig .tc .vmem S1x1024x1024 .f32) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .smem S1x1 .f32) (harg10 : arg10.IsWhole) (hc0 : ¬cond0_0 i) (hc1 : cond0_1 i) (hc2 : ¬cond0_2 i) (hc3 : ¬cond0_3 i)
    (x0 : Vec F S1024x1024 .f32) (x1 : Vec F S1024x1024 .f32) (x2 : Vec F S1024x1 .f32) (x3 : Vec F S1x1024x1024 .f32) (xs1 : Vec F S1024x1024 .f32) (xs2 : Vec F S1024x1024 .f32) (xs3 : Vec F S1024x1 .f32) (xs4 : Vec F S1x1 .f32) : Vec F S1024x1024 .f32 := xs2

/-- Case B stores nothing into scratch `arg9`: it holds what the point before left. -/
def sout0_B_3 (c : Dev nD) (i : grid0.Coords) (arg1 : Memref sig .tc .vmem S1024x1024 .f32) (harg1 : arg1.IsWhole) (arg2 : Memref sig .tc .vmem S1024x1024 .f32) (harg2 : arg2.IsWhole) (arg3 : Memref sig .tc .vmem S1024x1 .f32) (harg3 : arg3.IsWhole) (arg4 : Memref sig .tc .vmem S1x1024x1024 .f32) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .smem S1x1 .f32) (harg10 : arg10.IsWhole) (hc0 : ¬cond0_0 i) (hc1 : cond0_1 i) (hc2 : ¬cond0_2 i) (hc3 : ¬cond0_3 i)
    (x0 : Vec F S1024x1024 .f32) (x1 : Vec F S1024x1024 .f32) (x2 : Vec F S1024x1 .f32) (x3 : Vec F S1x1024x1024 .f32) (xs1 : Vec F S1024x1024 .f32) (xs2 : Vec F S1024x1024 .f32) (xs3 : Vec F S1024x1 .f32) (xs4 : Vec F S1x1 .f32) : Vec F S1024x1 .f32 := xs3

/-- Case B's pieces for scratch `arg10`, which the kernel carries between points, cover it: 1 piece of `S1x1` tiling it (Lib/Ring.lean `Piece.tiledL`). -/
theorem scover0_B_4 (c : Dev nD) (i : grid0.Coords) (arg1 : Memref sig .tc .vmem S1024x1024 .f32) (harg1 : arg1.IsWhole) (arg2 : Memref sig .tc .vmem S1024x1024 .f32) (harg2 : arg2.IsWhole) (arg3 : Memref sig .tc .vmem S1024x1 .f32) (harg3 : arg3.IsWhole) (arg4 : Memref sig .tc .vmem S1x1024x1024 .f32) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .smem S1x1 .f32) (harg10 : arg10.IsWhole) (hc0 : ¬cond0_0 i) (hc1 : cond0_1 i) (hc2 : ¬cond0_2 i) (hc3 : ¬cond0_3 i)
    (x0 : Vec F S1024x1024 .f32) (x1 : Vec F S1024x1024 .f32) (x2 : Vec F S1024x1 .f32) (x3 : Vec F S1x1024x1024 .f32) (xs1 : Vec F S1024x1024 .f32) (xs2 : Vec F S1024x1024 .f32) (xs3 : Vec F S1024x1 .f32) (xs4 : Vec F S1x1 .f32) (y : S1x1.Idx) :
    ∃ pc ∈ (kernelRun0_B c i arg1 harg1 arg2 harg2 arg3 harg3 arg4 harg4 arg5 harg5 arg6 harg6 arg7 harg7 arg8 harg8 arg9 harg9 arg10 harg10 hc0 hc1 hc2 hc3 x0 x1 x2 x3 xs1 xs2 xs3 xs4).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 hc2 hc3 x0 x1 x2 x3 xs1 xs2 xs3 xs4).2.2.2.2.1 S1x1.size (by sl_kernel_rfl) y

/-- What case B leaves in scratch `arg10`: its pieces read back over junk. -/
def sout0_B_4 (c : Dev nD) (i : grid0.Coords) (arg1 : Memref sig .tc .vmem S1024x1024 .f32) (harg1 : arg1.IsWhole) (arg2 : Memref sig .tc .vmem S1024x1024 .f32) (harg2 : arg2.IsWhole) (arg3 : Memref sig .tc .vmem S1024x1 .f32) (harg3 : arg3.IsWhole) (arg4 : Memref sig .tc .vmem S1x1024x1024 .f32) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .smem S1x1 .f32) (harg10 : arg10.IsWhole) (hc0 : ¬cond0_0 i) (hc1 : cond0_1 i) (hc2 : ¬cond0_2 i) (hc3 : ¬cond0_3 i)
    (x0 : Vec F S1024x1024 .f32) (x1 : Vec F S1024x1024 .f32) (x2 : Vec F S1024x1 .f32) (x3 : Vec F S1x1024x1024 .f32) (xs1 : Vec F S1024x1024 .f32) (xs2 : Vec F S1024x1024 .f32) (xs3 : Vec F S1024x1 .f32) (xs4 : Vec F S1x1 .f32) : Vec F S1x1 .f32 :=
  VS0_4.read (Elt F) (VS0_4.writes (Elt F) VS0_4.junk (kernelRun0_B c i arg1 harg1 arg2 harg2 arg3 harg3 arg4 harg4 arg5 harg5 arg6 harg6 arg7 harg7 arg8 harg8 arg9 harg9 arg10 harg10 hc0 hc1 hc2 hc3 x0 x1 x2 x3 xs1 xs2 xs3 xs4).2.2.2.2.1)

/-- Case C stores nothing into output 4 (the window is idle at its points and not written back there):
    no pieces — a placeholder (junk read back) that nothing consults, since at these points the window is neither
    written back nor read at the next point (Lib/Pipeline.lean "Idle points"). -/
def out0_C_4 (c : Dev nD) (i : grid0.Coords) (arg1 : Memref sig .tc .vmem S1024x1024 .f32) (harg1 : arg1.IsWhole) (arg2 : Memref sig .tc .vmem S1024x1024 .f32) (harg2 : arg2.IsWhole) (arg3 : Memref sig .tc .vmem S1024x1 .f32) (harg3 : arg3.IsWhole) (arg4 : Memref sig .tc .vmem S1x1024x1024 .f32) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .smem S1x1 .f32) (harg10 : arg10.IsWhole) (hc0 : ¬cond0_0 i) (hc1 : ¬cond0_1 i) (hc2 : cond0_2 i) (hc3 : ¬cond0_3 i)
    (x0 : Vec F S1024x1024 .f32) (x1 : Vec F S1024x1024 .f32) (x2 : Vec F S1024x1 .f32) (x3 : Vec F S1x1024x1024 .f32) (xs1 : Vec F S1024x1024 .f32) (xs2 : Vec F S1024x1024 .f32) (xs3 : Vec F S1024x1 .f32) (xs4 : Vec F S1x1 .f32) : Vec F S1x1 .f32 :=
  VO0_4.read (Elt F) (VO0_4.writes (Elt F) VO0_4.junk (kernelRun0_C c i arg1 harg1 arg2 harg2 arg3 harg3 arg4 harg4 arg5 harg5 arg6 harg6 arg7 harg7 arg8 harg8 arg9 harg9 arg10 harg10 hc0 hc1 hc2 hc3 x0 x1 x2 x3 xs1 xs2 xs3 xs4).1)

/-- Case C stores nothing into scratch `arg7`: it holds what the point before left. -/
def sout0_C_1 (c : Dev nD) (i : grid0.Coords) (arg1 : Memref sig .tc .vmem S1024x1024 .f32) (harg1 : arg1.IsWhole) (arg2 : Memref sig .tc .vmem S1024x1024 .f32) (harg2 : arg2.IsWhole) (arg3 : Memref sig .tc .vmem S1024x1 .f32) (harg3 : arg3.IsWhole) (arg4 : Memref sig .tc .vmem S1x1024x1024 .f32) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .smem S1x1 .f32) (harg10 : arg10.IsWhole) (hc0 : ¬cond0_0 i) (hc1 : ¬cond0_1 i) (hc2 : cond0_2 i) (hc3 : ¬cond0_3 i)
    (x0 : Vec F S1024x1024 .f32) (x1 : Vec F S1024x1024 .f32) (x2 : Vec F S1024x1 .f32) (x3 : Vec F S1x1024x1024 .f32) (xs1 : Vec F S1024x1024 .f32) (xs2 : Vec F S1024x1024 .f32) (xs3 : Vec F S1024x1 .f32) (xs4 : Vec F S1x1 .f32) : Vec F S1024x1024 .f32 := xs1

/-- Case C stores nothing into scratch `arg8`: it holds what the point before left. -/
def sout0_C_2 (c : Dev nD) (i : grid0.Coords) (arg1 : Memref sig .tc .vmem S1024x1024 .f32) (harg1 : arg1.IsWhole) (arg2 : Memref sig .tc .vmem S1024x1024 .f32) (harg2 : arg2.IsWhole) (arg3 : Memref sig .tc .vmem S1024x1 .f32) (harg3 : arg3.IsWhole) (arg4 : Memref sig .tc .vmem S1x1024x1024 .f32) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .smem S1x1 .f32) (harg10 : arg10.IsWhole) (hc0 : ¬cond0_0 i) (hc1 : ¬cond0_1 i) (hc2 : cond0_2 i) (hc3 : ¬cond0_3 i)
    (x0 : Vec F S1024x1024 .f32) (x1 : Vec F S1024x1024 .f32) (x2 : Vec F S1024x1 .f32) (x3 : Vec F S1x1024x1024 .f32) (xs1 : Vec F S1024x1024 .f32) (xs2 : Vec F S1024x1024 .f32) (xs3 : Vec F S1024x1 .f32) (xs4 : Vec F S1x1 .f32) : Vec F S1024x1024 .f32 := xs2

/-- Case C stores nothing into scratch `arg9`: it holds what the point before left. -/
def sout0_C_3 (c : Dev nD) (i : grid0.Coords) (arg1 : Memref sig .tc .vmem S1024x1024 .f32) (harg1 : arg1.IsWhole) (arg2 : Memref sig .tc .vmem S1024x1024 .f32) (harg2 : arg2.IsWhole) (arg3 : Memref sig .tc .vmem S1024x1 .f32) (harg3 : arg3.IsWhole) (arg4 : Memref sig .tc .vmem S1x1024x1024 .f32) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .smem S1x1 .f32) (harg10 : arg10.IsWhole) (hc0 : ¬cond0_0 i) (hc1 : ¬cond0_1 i) (hc2 : cond0_2 i) (hc3 : ¬cond0_3 i)
    (x0 : Vec F S1024x1024 .f32) (x1 : Vec F S1024x1024 .f32) (x2 : Vec F S1024x1 .f32) (x3 : Vec F S1x1024x1024 .f32) (xs1 : Vec F S1024x1024 .f32) (xs2 : Vec F S1024x1024 .f32) (xs3 : Vec F S1024x1 .f32) (xs4 : Vec F S1x1 .f32) : Vec F S1024x1 .f32 := xs3

/-- Case C's pieces for scratch `arg10`, which the kernel carries between points, cover it: 1 piece of `S1x1` tiling it (Lib/Ring.lean `Piece.tiledL`). -/
theorem scover0_C_4 (c : Dev nD) (i : grid0.Coords) (arg1 : Memref sig .tc .vmem S1024x1024 .f32) (harg1 : arg1.IsWhole) (arg2 : Memref sig .tc .vmem S1024x1024 .f32) (harg2 : arg2.IsWhole) (arg3 : Memref sig .tc .vmem S1024x1 .f32) (harg3 : arg3.IsWhole) (arg4 : Memref sig .tc .vmem S1x1024x1024 .f32) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .smem S1x1 .f32) (harg10 : arg10.IsWhole) (hc0 : ¬cond0_0 i) (hc1 : ¬cond0_1 i) (hc2 : cond0_2 i) (hc3 : ¬cond0_3 i)
    (x0 : Vec F S1024x1024 .f32) (x1 : Vec F S1024x1024 .f32) (x2 : Vec F S1024x1 .f32) (x3 : Vec F S1x1024x1024 .f32) (xs1 : Vec F S1024x1024 .f32) (xs2 : Vec F S1024x1024 .f32) (xs3 : Vec F S1024x1 .f32) (xs4 : Vec F S1x1 .f32) (y : S1x1.Idx) :
    ∃ pc ∈ (kernelRun0_C c i arg1 harg1 arg2 harg2 arg3 harg3 arg4 harg4 arg5 harg5 arg6 harg6 arg7 harg7 arg8 harg8 arg9 harg9 arg10 harg10 hc0 hc1 hc2 hc3 x0 x1 x2 x3 xs1 xs2 xs3 xs4).2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 hc2 hc3 x0 x1 x2 x3 xs1 xs2 xs3 xs4).2.2.2.2.1 S1x1.size (by sl_kernel_rfl) y

/-- What case C leaves in scratch `arg10`: its pieces read back over junk. -/
def sout0_C_4 (c : Dev nD) (i : grid0.Coords) (arg1 : Memref sig .tc .vmem S1024x1024 .f32) (harg1 : arg1.IsWhole) (arg2 : Memref sig .tc .vmem S1024x1024 .f32) (harg2 : arg2.IsWhole) (arg3 : Memref sig .tc .vmem S1024x1 .f32) (harg3 : arg3.IsWhole) (arg4 : Memref sig .tc .vmem S1x1024x1024 .f32) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .smem S1x1 .f32) (harg10 : arg10.IsWhole) (hc0 : ¬cond0_0 i) (hc1 : ¬cond0_1 i) (hc2 : cond0_2 i) (hc3 : ¬cond0_3 i)
    (x0 : Vec F S1024x1024 .f32) (x1 : Vec F S1024x1024 .f32) (x2 : Vec F S1024x1 .f32) (x3 : Vec F S1x1024x1024 .f32) (xs1 : Vec F S1024x1024 .f32) (xs2 : Vec F S1024x1024 .f32) (xs3 : Vec F S1024x1 .f32) (xs4 : Vec F S1x1 .f32) : Vec F S1x1 .f32 :=
  VS0_4.read (Elt F) (VS0_4.writes (Elt F) VS0_4.junk (kernelRun0_C c i arg1 harg1 arg2 harg2 arg3 harg3 arg4 harg4 arg5 harg5 arg6 harg6 arg7 harg7 arg8 harg8 arg9 harg9 arg10 harg10 hc0 hc1 hc2 hc3 x0 x1 x2 x3 xs1 xs2 xs3 xs4).2.2.2.2.1)

/-- Case D's pieces for output 4 tile its block (1 store of `S1x1`), so they cover it. -/
theorem cover0_D_4 (c : Dev nD) (i : grid0.Coords) (arg1 : Memref sig .tc .vmem S1024x1024 .f32) (harg1 : arg1.IsWhole) (arg2 : Memref sig .tc .vmem S1024x1024 .f32) (harg2 : arg2.IsWhole) (arg3 : Memref sig .tc .vmem S1024x1 .f32) (harg3 : arg3.IsWhole) (arg4 : Memref sig .tc .vmem S1x1024x1024 .f32) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .smem S1x1 .f32) (harg10 : arg10.IsWhole) (hc0 : ¬cond0_0 i) (hc1 : ¬cond0_1 i) (hc2 : cond0_2 i) (hc3 : cond0_3 i)
    (x0 : Vec F S1024x1024 .f32) (x1 : Vec F S1024x1024 .f32) (x2 : Vec F S1024x1 .f32) (x3 : Vec F S1x1024x1024 .f32) (xs1 : Vec F S1024x1024 .f32) (xs2 : Vec F S1024x1024 .f32) (xs3 : Vec F S1024x1 .f32) (xs4 : Vec F S1x1 .f32) (y : S1x1.Idx) :
    ∃ pc ∈ (kernelRun0_D c i arg1 harg1 arg2 harg2 arg3 harg3 arg4 harg4 arg5 harg5 arg6 harg6 arg7 harg7 arg8 harg8 arg9 harg9 arg10 harg10 hc0 hc1 hc2 hc3 x0 x1 x2 x3 xs1 xs2 xs3 xs4).1, y ∈ pc.1.set :=
  View.cover_of_tiledL (kernelRun0_D c i arg1 harg1 arg2 harg2 arg3 harg3 arg4 harg4 arg5 harg5 arg6 harg6 arg7 harg7 arg8 harg8 arg9 harg9 arg10 harg10 hc0 hc1 hc2 hc3 x0 x1 x2 x3 xs1 xs2 xs3 xs4).1 S1x1.size (by sl_kernel_rfl) y

/-- What case D leaves in output 4's staging buffer: its pieces read back over junk. -/
def out0_D_4 (c : Dev nD) (i : grid0.Coords) (arg1 : Memref sig .tc .vmem S1024x1024 .f32) (harg1 : arg1.IsWhole) (arg2 : Memref sig .tc .vmem S1024x1024 .f32) (harg2 : arg2.IsWhole) (arg3 : Memref sig .tc .vmem S1024x1 .f32) (harg3 : arg3.IsWhole) (arg4 : Memref sig .tc .vmem S1x1024x1024 .f32) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .smem S1x1 .f32) (harg10 : arg10.IsWhole) (hc0 : ¬cond0_0 i) (hc1 : ¬cond0_1 i) (hc2 : cond0_2 i) (hc3 : cond0_3 i)
    (x0 : Vec F S1024x1024 .f32) (x1 : Vec F S1024x1024 .f32) (x2 : Vec F S1024x1 .f32) (x3 : Vec F S1x1024x1024 .f32) (xs1 : Vec F S1024x1024 .f32) (xs2 : Vec F S1024x1024 .f32) (xs3 : Vec F S1024x1 .f32) (xs4 : Vec F S1x1 .f32) : Vec F S1x1 .f32 :=
  VO0_4.read (Elt F) (VO0_4.writes (Elt F) VO0_4.junk (kernelRun0_D c i arg1 harg1 arg2 harg2 arg3 harg3 arg4 harg4 arg5 harg5 arg6 harg6 arg7 harg7 arg8 harg8 arg9 harg9 arg10 harg10 hc0 hc1 hc2 hc3 x0 x1 x2 x3 xs1 xs2 xs3 xs4).1)

/-- Case D stores nothing into scratch `arg7`: it holds what the point before left. -/
def sout0_D_1 (c : Dev nD) (i : grid0.Coords) (arg1 : Memref sig .tc .vmem S1024x1024 .f32) (harg1 : arg1.IsWhole) (arg2 : Memref sig .tc .vmem S1024x1024 .f32) (harg2 : arg2.IsWhole) (arg3 : Memref sig .tc .vmem S1024x1 .f32) (harg3 : arg3.IsWhole) (arg4 : Memref sig .tc .vmem S1x1024x1024 .f32) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .smem S1x1 .f32) (harg10 : arg10.IsWhole) (hc0 : ¬cond0_0 i) (hc1 : ¬cond0_1 i) (hc2 : cond0_2 i) (hc3 : cond0_3 i)
    (x0 : Vec F S1024x1024 .f32) (x1 : Vec F S1024x1024 .f32) (x2 : Vec F S1024x1 .f32) (x3 : Vec F S1x1024x1024 .f32) (xs1 : Vec F S1024x1024 .f32) (xs2 : Vec F S1024x1024 .f32) (xs3 : Vec F S1024x1 .f32) (xs4 : Vec F S1x1 .f32) : Vec F S1024x1024 .f32 := xs1

/-- Case D stores nothing into scratch `arg8`: it holds what the point before left. -/
def sout0_D_2 (c : Dev nD) (i : grid0.Coords) (arg1 : Memref sig .tc .vmem S1024x1024 .f32) (harg1 : arg1.IsWhole) (arg2 : Memref sig .tc .vmem S1024x1024 .f32) (harg2 : arg2.IsWhole) (arg3 : Memref sig .tc .vmem S1024x1 .f32) (harg3 : arg3.IsWhole) (arg4 : Memref sig .tc .vmem S1x1024x1024 .f32) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .smem S1x1 .f32) (harg10 : arg10.IsWhole) (hc0 : ¬cond0_0 i) (hc1 : ¬cond0_1 i) (hc2 : cond0_2 i) (hc3 : cond0_3 i)
    (x0 : Vec F S1024x1024 .f32) (x1 : Vec F S1024x1024 .f32) (x2 : Vec F S1024x1 .f32) (x3 : Vec F S1x1024x1024 .f32) (xs1 : Vec F S1024x1024 .f32) (xs2 : Vec F S1024x1024 .f32) (xs3 : Vec F S1024x1 .f32) (xs4 : Vec F S1x1 .f32) : Vec F S1024x1024 .f32 := xs2

/-- Case D stores nothing into scratch `arg9`: it holds what the point before left. -/
def sout0_D_3 (c : Dev nD) (i : grid0.Coords) (arg1 : Memref sig .tc .vmem S1024x1024 .f32) (harg1 : arg1.IsWhole) (arg2 : Memref sig .tc .vmem S1024x1024 .f32) (harg2 : arg2.IsWhole) (arg3 : Memref sig .tc .vmem S1024x1 .f32) (harg3 : arg3.IsWhole) (arg4 : Memref sig .tc .vmem S1x1024x1024 .f32) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .smem S1x1 .f32) (harg10 : arg10.IsWhole) (hc0 : ¬cond0_0 i) (hc1 : ¬cond0_1 i) (hc2 : cond0_2 i) (hc3 : cond0_3 i)
    (x0 : Vec F S1024x1024 .f32) (x1 : Vec F S1024x1024 .f32) (x2 : Vec F S1024x1 .f32) (x3 : Vec F S1x1024x1024 .f32) (xs1 : Vec F S1024x1024 .f32) (xs2 : Vec F S1024x1024 .f32) (xs3 : Vec F S1024x1 .f32) (xs4 : Vec F S1x1 .f32) : Vec F S1024x1 .f32 := xs3

/-- Case D's pieces for scratch `arg10`, which the kernel carries between points, cover it: 1 piece of `S1x1` tiling it (Lib/Ring.lean `Piece.tiledL`). -/
theorem scover0_D_4 (c : Dev nD) (i : grid0.Coords) (arg1 : Memref sig .tc .vmem S1024x1024 .f32) (harg1 : arg1.IsWhole) (arg2 : Memref sig .tc .vmem S1024x1024 .f32) (harg2 : arg2.IsWhole) (arg3 : Memref sig .tc .vmem S1024x1 .f32) (harg3 : arg3.IsWhole) (arg4 : Memref sig .tc .vmem S1x1024x1024 .f32) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .smem S1x1 .f32) (harg10 : arg10.IsWhole) (hc0 : ¬cond0_0 i) (hc1 : ¬cond0_1 i) (hc2 : cond0_2 i) (hc3 : cond0_3 i)
    (x0 : Vec F S1024x1024 .f32) (x1 : Vec F S1024x1024 .f32) (x2 : Vec F S1024x1 .f32) (x3 : Vec F S1x1024x1024 .f32) (xs1 : Vec F S1024x1024 .f32) (xs2 : Vec F S1024x1024 .f32) (xs3 : Vec F S1024x1 .f32) (xs4 : Vec F S1x1 .f32) (y : S1x1.Idx) :
    ∃ pc ∈ (kernelRun0_D c i arg1 harg1 arg2 harg2 arg3 harg3 arg4 harg4 arg5 harg5 arg6 harg6 arg7 harg7 arg8 harg8 arg9 harg9 arg10 harg10 hc0 hc1 hc2 hc3 x0 x1 x2 x3 xs1 xs2 xs3 xs4).2.2.2.2.1, y ∈ pc.1.set :=
  View.cover_of_tiledL (kernelRun0_D c i arg1 harg1 arg2 harg2 arg3 harg3 arg4 harg4 arg5 harg5 arg6 harg6 arg7 harg7 arg8 harg8 arg9 harg9 arg10 harg10 hc0 hc1 hc2 hc3 x0 x1 x2 x3 xs1 xs2 xs3 xs4).2.2.2.2.1 S1x1.size (by sl_kernel_rfl) y

/-- What case D leaves in scratch `arg10`: its pieces read back over junk. -/
def sout0_D_4 (c : Dev nD) (i : grid0.Coords) (arg1 : Memref sig .tc .vmem S1024x1024 .f32) (harg1 : arg1.IsWhole) (arg2 : Memref sig .tc .vmem S1024x1024 .f32) (harg2 : arg2.IsWhole) (arg3 : Memref sig .tc .vmem S1024x1 .f32) (harg3 : arg3.IsWhole) (arg4 : Memref sig .tc .vmem S1x1024x1024 .f32) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .smem S1x1 .f32) (harg10 : arg10.IsWhole) (hc0 : ¬cond0_0 i) (hc1 : ¬cond0_1 i) (hc2 : cond0_2 i) (hc3 : cond0_3 i)
    (x0 : Vec F S1024x1024 .f32) (x1 : Vec F S1024x1024 .f32) (x2 : Vec F S1024x1 .f32) (x3 : Vec F S1x1024x1024 .f32) (xs1 : Vec F S1024x1024 .f32) (xs2 : Vec F S1024x1024 .f32) (xs3 : Vec F S1024x1 .f32) (xs4 : Vec F S1x1 .f32) : Vec F S1x1 .f32 :=
  VS0_4.read (Elt F) (VS0_4.writes (Elt F) VS0_4.junk (kernelRun0_D c i arg1 harg1 arg2 harg2 arg3 harg3 arg4 harg4 arg5 harg5 arg6 harg6 arg7 harg7 arg8 harg8 arg9 harg9 arg10 harg10 hc0 hc1 hc2 hc3 x0 x1 x2 x3 xs1 xs2 xs3 xs4).2.2.2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x1 .f32 × Vec F S1024x1024 .f32 × Vec F S1024x1024 .f32 × Vec F S1024x1 .f32 × Vec F S1x1 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (fun h => (fun h => by (try dsimp only at h); omega) ((hcond0_3 ⟨0, hn⟩).mp h)) (iblk m c 0 ⟨0, hn⟩) (iblk m c 1 ⟨0, hn⟩) (iblk m c 2 ⟨0, hn⟩) (iblk m c 3 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (fun h => (fun h => by (try dsimp only at h); omega) ((hcond0_3 ⟨0, hn⟩).mp h)) (iblk m c 0 ⟨0, hn⟩) (iblk m c 1 ⟨0, hn⟩) (iblk m c 2 ⟨0, hn⟩) (iblk m c 3 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (fun h => (fun h => by (try dsimp only at h); omega) ((hcond0_3 ⟨0, hn⟩).mp h)) (iblk m c 0 ⟨0, hn⟩) (iblk m c 1 ⟨0, hn⟩) (iblk m c 2 ⟨0, hn⟩) (iblk m c 3 ⟨0, hn⟩), sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (fun h => (fun h => by (try dsimp only at h); omega) ((hcond0_3 ⟨0, hn⟩).mp h)) (iblk m c 0 ⟨0, hn⟩) (iblk m c 1 ⟨0, hn⟩) (iblk m c 2 ⟨0, hn⟩) (iblk m c 3 ⟨0, hn⟩), sout0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (fun h => (fun h => by (try dsimp only at h); omega) ((hcond0_3 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 16 = 0 then
      if h1 : (1 ≤ (n + 1) % 16 ∧ (n + 1) % 16 ≤ 5) then
        False.elim (by have hN : n + 1 < 16 := lt_of_lt_of_eq hn (show cfg0.N = 16 from N_0); omega)
      else
        if h2 : 6 ≤ (n + 1) then
          False.elim (by have hN : n + 1 < 16 := lt_of_lt_of_eq hn (show cfg0.N = 16 from N_0); omega)
        else
          if h3 : (n + 1) % 16 = 15 then
            False.elim (by have hN : n + 1 < 16 := lt_of_lt_of_eq hn (show cfg0.N = 16 from N_0); omega)
          else
            (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩), sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩), sout0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (1 ≤ (n + 1) % 16 ∧ (n + 1) % 16 ≤ 5) then
        if h2 : 6 ≤ (n + 1) then
          False.elim (by have hN : n + 1 < 16 := lt_of_lt_of_eq hn (show cfg0.N = 16 from N_0); omega)
        else
          if h3 : (n + 1) % 16 = 15 then
            False.elim (by have hN : n + 1 < 16 := lt_of_lt_of_eq hn (show cfg0.N = 16 from N_0); omega)
          else
            (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2)
      else
        if h2 : 6 ≤ (n + 1) then
          if h3 : (n + 1) % 16 = 15 then
            (out0_D_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) ((hcond0_2 ⟨n + 1, hn⟩).mpr h2) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_D_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) ((hcond0_2 ⟨n + 1, hn⟩).mpr h2) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_D_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) ((hcond0_2 ⟨n + 1, hn⟩).mpr h2) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_D_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) ((hcond0_2 ⟨n + 1, hn⟩).mpr h2) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_D_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) ((hcond0_2 ⟨n + 1, hn⟩).mpr h2) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2)
          else
            (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2)
        else
          False.elim (by have hN : n + 1 < 16 := lt_of_lt_of_eq hn (show cfg0.N = 16 from N_0); omega)

/-- `outsAt0` at a point of case A: that case's contents. -/
theorem outsAt0_A (c : Dev nD) (t : Fin cfg0.N) (h0 : t.val % 16 = 0) (h1 : ¬(1 ≤ t.val % 16 ∧ t.val % 16 ≤ 5)) (h2 : ¬6 ≤ t.val) (h3 : ¬t.val % 16 = 15) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (fun h => h2 ((hcond0_2 t).mp h)) (fun h => h3 ((hcond0_3 t).mp h)) (iblk m c 0 t) (iblk m c 1 t) (iblk m c 2 t) (iblk m c 3 t), sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (fun h => h2 ((hcond0_2 t).mp h)) (fun h => h3 ((hcond0_3 t).mp h)) (iblk m c 0 t) (iblk m c 1 t) (iblk m c 2 t) (iblk m c 3 t), sout0_A_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (fun h => h2 ((hcond0_2 t).mp h)) (fun h => h3 ((hcond0_3 t).mp h)) (iblk m c 0 t) (iblk m c 1 t) (iblk m c 2 t) (iblk m c 3 t), sout0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (fun h => h2 ((hcond0_2 t).mp h)) (fun h => h3 ((hcond0_3 t).mp h)) (iblk m c 0 t) (iblk m c 1 t) (iblk m c 2 t) (iblk m c 3 t), sout0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (fun h => h2 ((hcond0_2 t).mp h)) (fun h => h3 ((hcond0_3 t).mp h)) (iblk m c 0 t) (iblk m c 1 t) (iblk m c 2 t) (iblk m c 3 t)) := by
  obtain ⟨n, hn⟩ := t
  cases n with
  | zero => exact rfl
  | succ n => exact (dif_pos h0).trans ((dif_neg h1).trans ((dif_neg h2).trans ((dif_neg h3).trans rfl)))

/-- `outsAt0` at a point of case B: that case's contents, over what the point before left. -/
theorem outsAt0_B (c : Dev nD) (t : Fin cfg0.N) (h0 : ¬t.val % 16 = 0) (h1 : (1 ≤ t.val % 16 ∧ t.val % 16 ≤ 5)) (h2 : ¬6 ≤ t.val) (h3 : ¬t.val % 16 = 15) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans ((dif_neg h2).trans ((dif_neg h3).trans rfl)))

/-- `outsAt0` at a point of case C: that case's contents, over what the point before left. -/
theorem outsAt0_C (c : Dev nD) (t : Fin cfg0.N) (h0 : ¬t.val % 16 = 0) (h1 : ¬(1 ≤ t.val % 16 ∧ t.val % 16 ≤ 5)) (h2 : 6 ≤ t.val) (h3 : ¬t.val % 16 = 15) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_C_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans ((dif_pos h2).trans ((dif_neg h3).trans rfl)))

/-- `outsAt0` at a point of case D: that case's contents, over what the point before left. -/
theorem outsAt0_D (c : Dev nD) (t : Fin cfg0.N) (h0 : ¬t.val % 16 = 0) (h1 : ¬(1 ≤ t.val % 16 ∧ t.val % 16 ≤ 5)) (h2 : 6 ≤ t.val) (h3 : t.val % 16 = 15) :
    outsAt0 m c t.val t.isLt = (out0_D_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_D_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_D_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_D_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_D_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans ((dif_pos h2).trans ((dif_pos h3).trans rfl)))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare ((outsAt0 m c n hn).2.1) ∗ owns (c : Thread nD τ) scM0_2 fullShare ((outsAt0 m c n hn).2.2.1) ∗ owns (c : Thread nD τ) scM0_3 fullShare ((outsAt0 m c n hn).2.2.2.1) ∗ owns (c : Thread nD τ) scM0_4 fullShare ((outsAt0 m c n hn).2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ owns (c : Thread nD τ) scM0_1 fullShare ((outsAt0 m c n hn).2.1) ∗ owns (c : Thread nD τ) scM0_2 fullShare ((outsAt0 m c n hn).2.2.1) ∗ owns (c : Thread nD τ) scM0_3 fullShare ((outsAt0 m c n hn).2.2.2.1) ∗ owns (c : Thread nD τ) scM0_4 fullShare ((outsAt0 m c n hn).2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare ((outsAt0 m c (n - 1) (by omega)).2.1) ∗ owns (c : Thread nD τ) scM0_2 fullShare ((outsAt0 m c (n - 1) (by omega)).2.2.1) ∗ owns (c : Thread nD τ) scM0_3 fullShare ((outsAt0 m c (n - 1) (by omega)).2.2.2.1) ∗ owns (c : Thread nD τ) scM0_4 fullShare ((outsAt0 m c (n - 1) (by omega)).2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 12800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  by_cases h0 : t.val % 16 = 0
  · by_cases h1 : (1 ≤ t.val % 16 ∧ t.val % 16 ≤ 5)
    · exfalso; omega
    · by_cases h2 : 6 ≤ t.val
      · exfalso; omega
      · by_cases h3 : t.val % 16 = 15
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [Dat.leavesExact_idle (dats m 0 c) 4 t (idleAt0_4_A t ((hcond0_0 t).mpr h0) (fun h => h1 ((hcond0_1 t).mp h)) (fun h => h2 ((hcond0_2 t).mp h)) (fun h => h3 ((hcond0_3 t).mp h))) (noFlush0_4_A t ((hcond0_0 t).mpr h0) (fun h => h1 ((hcond0_1 t).mp h)) (fun h => h2 ((hcond0_2 t).mp h)) (fun h => h3 ((hcond0_3 t).mp h)))]
          by_cases hz : t.val = 0
          · rw [PhiS_castSucc m c t, PhiS_zero m c _ _ hz, PhiA0_eq]
            rw [outsAt0_A m c t h0 h1 h2 h3]
            unfold sout0_A_1 sout0_A_2 sout0_A_3 sout0_A_4; (try dsimp only)
            iintro ⟨⟨⟨HS0, HS1, HS2, HS3, HS4⟩, Hg⟩, Ho, ⟨%d0, H0⟩, ⟨%d1, H1⟩, ⟨%d2, H2⟩, ⟨%d3, H3⟩, ⟨%d4, H4⟩⟩
            iapply ((kernelRun0_A c (grid0.coords t) _ _ _ _ _ _ _ _ _ _ _ _ _ _ _ _ _ _ _ _ ((hcond0_0 t).mpr h0) (fun h => h1 ((hcond0_1 t).mp h)) (fun h => h2 ((hcond0_2 t).mp h)) (fun h => h3 ((hcond0_3 t).mp h)) (iblk m c 0 t) (iblk m c 1 t) (iblk m c 2 t) (iblk m c 3 t)).2.2.2.2.2 _ Set.univ _)
            isplitl [H0]; · iexact H0
            isplitl [H1]; · iexact H1
            isplitl [H2]; · iexact H2
            isplitl [H3]; · iexact H3
            isplitl [H4]; · iexact H4
            isplitl [HS0]; · iexact HS0
            isplitl [HS1]; · iexact HS1
            isplitl [HS2]; · iexact HS2
            isplitl [HS3]; · iexact HS3
            isplitl [HS4]; · iexact HS4
            iintro ⟨H0, H1, H2, H3, H4, HS0, ⟨%es1, HS1⟩, ⟨%es2, HS2⟩, ⟨%es3, HS3⟩, ⟨%es4, HS4⟩⟩
            isplitl [HS0 HS1 HS2 HS3 HS4 Hg]
            · isplitl [HS0 HS1 HS2 HS3 HS4]
              · isplitl [HS0]
                · iexact HS0
                isplitl [HS1]
                · unfold owns; iexists _; isplitr
                  swap; · iexact HS1
                  ipureintro; exact View.read_writes_of_cover _ _ _ _ _ (scover0_A_1 c _ _ _ _ _ _ _ _ _ _ _ _ _ _ _ _ _ _ _ _ _ _ _ _ _ _ _ _ _)
                isplitl [HS2]
                · unfold owns; iexists _; isplitr
                  swap; · iexact HS2
                  ipureintro; exact View.read_writes_of_cover _ _ _ _ _ (scover0_A_2 c _ _ _ _ _ _ _ _ _ _ _ _ _ _ _ _ _ _ _ _ _ _ _ _ _ _ _ _ _)
                isplitl [HS3]
                · unfold owns; iexists _; isplitr
                  swap; · iexact HS3
                  ipureintro; exact View.read_writes_of_cover _ _ _ _ _ (scover0_A_3 c _ _ _ _ _ _ _ _ _ _ _ _ _ _ _ _ _ _ _ _ _ _ _ _ _ _ _ _ _)
                unfold owns; iexists _; isplitr
                swap; · iexact HS4
                ipureintro; exact View.read_writes_of_cover _ _ _ _ _ (scover0_A_4 c _ _ _ _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            iexists _; iexact H4
          · exfalso; have hN : t.val < 16 := lt_of_lt_of_eq t.isLt (show cfg0.N = 16 from N_0); omega
  · by_cases h1 : (1 ≤ t.val % 16 ∧ t.val % 16 ≤ 5)
    · by_cases h2 : 6 ≤ t.val
      · exfalso; omega
      · by_cases h3 : t.val % 16 = 15
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [Dat.leavesExact_idle (dats m 0 c) 4 t (idleAt0_4_B t (fun h => h0 ((hcond0_0 t).mp h)) ((hcond0_1 t).mpr h1) (fun h => h2 ((hcond0_2 t).mp h)) (fun h => h3 ((hcond0_3 t).mp h))) (noFlush0_4_B t (fun h => h0 ((hcond0_0 t).mp h)) ((hcond0_1 t).mpr h1) (fun h => h2 ((hcond0_2 t).mp h)) (fun h => h3 ((hcond0_3 t).mp h)))]
          by_cases hz : t.val = 0
          · exfalso; have hN : t.val < 16 := lt_of_lt_of_eq t.isLt (show cfg0.N = 16 from N_0); omega
          · rw [PhiS_castSucc m c t, PhiS_pos m c _ _ hz]
            rw [outsAt0_B m c t h0 h1 h2 h3]
            unfold sout0_B_1 sout0_B_2 sout0_B_3 sout0_B_4; (try dsimp only)
            iintro ⟨⟨⟨HS0, HS1, HS2, HS3, HS4⟩, Hg⟩, Ho, ⟨%d0, H0⟩, ⟨%d1, H1⟩, ⟨%d2, H2⟩, ⟨%d3, H3⟩, ⟨%d4, H4⟩⟩
            iapply ((kernelRun0_B c (grid0.coords t) _ _ _ _ _ _ _ _ _ _ _ _ _ _ _ _ _ _ _ _ (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) _ _ _ _).2.2.2.2.2 _ Set.univ _)
            isplitl [H0]; · iexact H0
            isplitl [H1]; · iexact H1
            isplitl [H2]; · iexact H2
            isplitl [H3]; · iexact H3
            isplitl [H4]; · iexact H4
            isplitl [HS0]; · iexact HS0
            isplitl [HS1]; · iexact HS1
            isplitl [HS2]; · iexact HS2
            isplitl [HS3]; · iexact HS3
            isplitl [HS4]; · iexact HS4
            iintro ⟨H0, H1, H2, H3, H4, HS0, HS1, HS2, HS3, ⟨%es4, HS4⟩⟩
            isplitl [HS0 HS1 HS2 HS3 HS4 Hg]
            · isplitl [HS0 HS1 HS2 HS3 HS4]
              · isplitl [HS0]
                · iexact HS0
                isplitl [HS1]
                · iexact HS1
                isplitl [HS2]
                · iexact HS2
                isplitl [HS3]
                · iexact HS3
                unfold owns; iexists _; isplitr
                swap; · iexact HS4
                ipureintro; exact View.read_writes_of_cover _ _ _ _ _ (scover0_B_4 c _ _ _ _ _ _ _ _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            iexists _; iexact H4
    · by_cases h2 : 6 ≤ t.val
      · by_cases h3 : t.val % 16 = 15
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4_D t (fun h => h0 ((hcond0_0 t).mp h)) (fun h => h1 ((hcond0_1 t).mp h)) ((hcond0_2 t).mpr h2) ((hcond0_3 t).mpr h3)], after0_4]
          by_cases hz : t.val = 0
          · exfalso; have hN : t.val < 16 := lt_of_lt_of_eq t.isLt (show cfg0.N = 16 from N_0); omega
          · rw [PhiS_castSucc m c t, PhiS_pos m c _ _ hz]
            rw [outsAt0_D m c t h0 h1 h2 h3]
            unfold out0_D_4 sout0_D_1 sout0_D_2 sout0_D_3 sout0_D_4; (try dsimp only)
            iintro ⟨⟨⟨HS0, HS1, HS2, HS3, HS4⟩, Hg⟩, Ho, ⟨%d0, H0⟩, ⟨%d1, H1⟩, ⟨%d2, H2⟩, ⟨%d3, H3⟩, ⟨%d4, H4⟩⟩
            iapply ((kernelRun0_D c (grid0.coords t) _ _ _ _ _ _ _ _ _ _ _ _ _ _ _ _ _ _ _ _ (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) _ _ _ _).2.2.2.2.2 Set.univ _)
            isplitl [H0]; · iexact H0
            isplitl [H1]; · iexact H1
            isplitl [H2]; · iexact H2
            isplitl [H3]; · iexact H3
            isplitl [H4]; · iexists _; iexact H4
            isplitl [HS0]; · iexact HS0
            isplitl [HS1]; · iexact HS1
            isplitl [HS2]; · iexact HS2
            isplitl [HS3]; · iexact HS3
            isplitl [HS4]; · iexact HS4
            iintro ⟨H0, H1, H2, H3, ⟨%e4, H4⟩, HS0, HS1, HS2, HS3, ⟨%es4, HS4⟩⟩
            isplitl [HS0 HS1 HS2 HS3 HS4 Hg]
            · isplitl [HS0 HS1 HS2 HS3 HS4]
              · isplitl [HS0]
                · iexact HS0
                isplitl [HS1]
                · iexact HS1
                isplitl [HS2]
                · iexact HS2
                isplitl [HS3]
                · iexact HS3
                unfold owns; iexists _; isplitr
                swap; · iexact HS4
                ipureintro; exact View.read_writes_of_cover _ _ _ _ _ (scover0_D_4 c _ _ _ _ _ _ _ _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            unfold owns; iexists _; isplitr
            swap; · iexact H4
            ipureintro; exact View.read_writes_of_cover _ _ _ _ _ (cover0_D_4 c _ _ _ _ _ _ _ _ _ _ _ _ _ _ _ _ _ _ _ _ _ _ _ _ _ _ _ _ _ _ _ _ _)
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [Dat.leavesExact_idle (dats m 0 c) 4 t (idleAt0_4_C t (fun h => h0 ((hcond0_0 t).mp h)) (fun h => h1 ((hcond0_1 t).mp h)) ((hcond0_2 t).mpr h2) (fun h => h3 ((hcond0_3 t).mp h))) (noFlush0_4_C t (fun h => h0 ((hcond0_0 t).mp h)) (fun h => h1 ((hcond0_1 t).mp h)) ((hcond0_2 t).mpr h2) (fun h => h3 ((hcond0_3 t).mp h)))]
          by_cases hz : t.val = 0
          · exfalso; have hN : t.val < 16 := lt_of_lt_of_eq t.isLt (show cfg0.N = 16 from N_0); omega
          · rw [PhiS_castSucc m c t, PhiS_pos m c _ _ hz]
            rw [outsAt0_C m c t h0 h1 h2 h3]
            unfold sout0_C_1 sout0_C_2 sout0_C_3 sout0_C_4; (try dsimp only)
            iintro ⟨⟨⟨HS0, HS1, HS2, HS3, HS4⟩, Hg⟩, Ho, ⟨%d0, H0⟩, ⟨%d1, H1⟩, ⟨%d2, H2⟩, ⟨%d3, H3⟩, ⟨%d4, H4⟩⟩
            iapply ((kernelRun0_C c (grid0.coords t) _ _ _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) _ _ _ _).2.2.2.2.2 _ Set.univ _)
            isplitl [H0]; · iexact H0
            isplitl [H1]; · iexact H1
            isplitl [H2]; · iexact H2
            isplitl [H3]; · iexact H3
            isplitl [H4]; · iexact H4
            isplitl [HS0]; · iexact HS0
            isplitl [HS1]; · iexact HS1
            isplitl [HS2]; · iexact HS2
            isplitl [HS3]; · iexact HS3
            isplitl [HS4]; · iexact HS4
            iintro ⟨H0, H1, H2, H3, H4, HS0, HS1, HS2, HS3, ⟨%es4, HS4⟩⟩
            isplitl [HS0 HS1 HS2 HS3 HS4 Hg]
            · isplitl [HS0 HS1 HS2 HS3 HS4]
              · isplitl [HS0]
                · iexact HS0
                isplitl [HS1]
                · iexact HS1
                isplitl [HS2]
                · iexact HS2
                isplitl [HS3]
                · iexact HS3
                unfold owns; iexists _; isplitr
                swap; · iexact HS4
                ipureintro; exact View.read_writes_of_cover _ _ _ _ _ (scover0_C_4 c _ _ _ _ _ _ _ _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            iexists _; iexact H4
      · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4⟩, Hg⟩
  isplitl [HS0 HS1 HS2 HS3 HS4]
  · isplitl [HS0]
    · iexact HS0
    isplitl [HS1]
    · iexists _; iexact HS1
    isplitl [HS2]
    · iexists _; iexact HS2
    isplitl [HS3]
    · iexists _; iexact HS3
    iexists _; iexact HS4
  iexact Hg

/-- The same after the last point. -/
theorem hout (c : Dev nD) : (dats m 0 c).Φ (Fin.last cfg0.N) ⊢ Pipeline.ΦA spec0 c :=
  Phi_out m c _ (by rw [Fin.val_last]; have : cfg0.N = 16 := N_0; omega)

/-! ## The run and the frame -/

set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.KernelIdeal.Gen

end
-- ==== Proof.RunIdeal.Value.lean ====
/- The value form of the run: the arrays after the pipeline as folds over the grid points. -/
module

public import proofs.«01_k».proof.Proof.RunIdeal.Frame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 4's array: the run's contents for that window after the body (`Gen.outsAt0`: its component 0), read through the window's block. -/
theorem flushed4 (c : Dev nD) (t : Fin cfg0.N) :
    (dats m 0 c).flushed 4 t = (cfg0.win 4).cut (grid0.coords t) ((outsAt0 m c t.val t.isLt).1) := by
  show (cfg0.win 4).cut (grid0.coords t) ((dats m 0 c).after 4 t) = _
  rw [after0_4]

/-- … so at a point where case A runs, what its write-back would write is that case's NAMED TERM for the window (`Gen.out0_A_4`: the pieces
    its run found, read back) at the point's memrefs and input blocks, and for an output the case reads back what the point before left (`Gen.outsAt0` at `t - 1`) — by the frame's rewriting lemma for the case. -/
theorem flushed4_A (c : Dev nD) (t : Fin cfg0.N) (h0 : t.val % 16 = 0) (h1 : ¬(1 ≤ t.val % 16 ∧ t.val % 16 ≤ 5)) (h2 : ¬6 ≤ t.val) (h3 : ¬t.val % 16 = 15) :
    (dats m 0 c).flushed 4 t = (cfg0.win 4).cut (grid0.coords t) (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (fun h => h2 ((hcond0_2 t).mp h)) (fun h => h3 ((hcond0_3 t).mp h)) (iblk m c 0 t) (iblk m c 1 t) (iblk m c 2 t) (iblk m c 3 t)) := by
  simp only [flushed4, outsAt0_A m c t h0 h1 h2 h3]

/-- … so at a point where case B runs, what its write-back would write is that case's NAMED TERM for the window (`Gen.out0_B_4`: the pieces
    its run found, read back) at the point's memrefs and input blocks, and for an output the case reads back what the point before left (`Gen.outsAt0` at `t - 1`) — by the frame's rewriting lemma for the case. -/
theorem flushed4_B (c : Dev nD) (t : Fin cfg0.N) (h0 : ¬t.val % 16 = 0) (h1 : (1 ≤ t.val % 16 ∧ t.val % 16 ≤ 5)) (h2 : ¬6 ≤ t.val) (h3 : ¬t.val % 16 = 15) :
    (dats m 0 c).flushed 4 t = (cfg0.win 4).cut (grid0.coords t) (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  simp only [flushed4, outsAt0_B m c t h0 h1 h2 h3]

/-- … so at a point where case C runs, what its write-back would write is that case's NAMED TERM for the window (`Gen.out0_C_4`: the pieces
    its run found, read back) at the point's memrefs and input blocks, and for an output the case reads back what the point before left (`Gen.outsAt0` at `t - 1`) — by the frame's rewriting lemma for the case. -/
theorem flushed4_C (c : Dev nD) (t : Fin cfg0.N) (h0 : ¬t.val % 16 = 0) (h1 : ¬(1 ≤ t.val % 16 ∧ t.val % 16 ≤ 5)) (h2 : 6 ≤ t.val) (h3 : ¬t.val % 16 = 15) :
    (dats m 0 c).flushed 4 t = (cfg0.win 4).cut (grid0.coords t) (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  simp only [flushed4, outsAt0_C m c t h0 h1 h2 h3]

/-- … so at a point where case D runs, what its write-back would write is that case's NAMED TERM for the window (`Gen.out0_D_4`: the pieces
    its run found, read back) at the point's memrefs and input blocks, and for an output the case reads back what the point before left (`Gen.outsAt0` at `t - 1`) — by the frame's rewriting lemma for the case. -/
theorem flushed4_D (c : Dev nD) (t : Fin cfg0.N) (h0 : ¬t.val % 16 = 0) (h1 : ¬(1 ≤ t.val % 16 ∧ t.val % 16 ≤ 5)) (h2 : 6 ≤ t.val) (h3 : t.val % 16 = 15) :
    (dats m 0 c).flushed 4 t = (cfg0.win 4).cut (grid0.coords t) (out0_D_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  simp only [flushed4, outsAt0_D m c t h0 h1 h2 h3]

/-- An index that no flushing point's block covers keeps output window 4's array contents at region entry. -/
theorem entry4 (c : Dev nD) (i : S1x1.Idx) (h : ∀ t : Fin cfg0.N, (cfg0.win 4).flush t = true → i ∉ ((cfg0.win 4).blk t).view.set) :
    (dats m 0 c).arrAt 4 cfg0.N i = V m c (Pipeline.arrRef spec0 4) i := by
  rw [(dats m 0 c).arrAt_apply_of_forall_not_mem 4 cfg0.N i (fun t _ hf => h t hf), A_eq]

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v164) = (dats m 0 c).arrAt 4 cfg0.N :=
  (h c).1 4

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v164) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨post4 m r h c,
      kept_main_arg0 m r h c,
      kept_main_arg1 m r h c⟩)
    (run_main m ρ)

/-! ## Carried scratch 1: what each point leaves in it, and its fold -/

/-- What point `n` leaves in carried scratch 1, over what the point before left in it (`acc`): the case the conditions'
    closed forms select at `n`, the frame's own term for it (`Gen.sout0_κ_1`; anything else the case takes of the point
    before, another carried scratch or an output it reads back, stays `Gen.outsAt0`'s at `n - 1`); a case at the first point
    stores the scratch whole without reading what it held, and `acc` does not enter there (nor where no point meets the
    conditions: `acc`, never read). -/
def scAt0_1 (c : Dev nD) (n : ℕ) (hb : n < cfg0.N) (acc : Vec F S1024x1024 .f32) : Vec F S1024x1024 .f32 :=
  if h0 : n % 16 = 0 then
    if h1 : (1 ≤ n % 16 ∧ n % 16 ≤ 5) then
      acc
    else
      if h2 : 6 ≤ n then
        acc
      else
        if h3 : n % 16 = 15 then
          acc
        else
          sout0_A_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) ((hcond0_0 (⟨n, hb⟩ : Fin cfg0.N)).mpr h0) (fun h => h1 ((hcond0_1 (⟨n, hb⟩ : Fin cfg0.N)).mp h)) (fun h => h2 ((hcond0_2 (⟨n, hb⟩ : Fin cfg0.N)).mp h)) (fun h => h3 ((hcond0_3 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N))
  else
    if h1 : (1 ≤ n % 16 ∧ n % 16 ≤ 5) then
      if h2 : 6 ≤ n then
        acc
      else
        if h3 : n % 16 = 15 then
          acc
        else
          sout0_B_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) ((hcond0_1 (⟨n, hb⟩ : Fin cfg0.N)).mpr h1) (fun h => h2 ((hcond0_2 (⟨n, hb⟩ : Fin cfg0.N)).mp h)) (fun h => h3 ((hcond0_3 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc (outsAt0 m c ((⟨n, hb⟩ : Fin cfg0.N).val - 1) (Nat.lt_of_le_of_lt (Nat.sub_le _ _) (⟨n, hb⟩ : Fin cfg0.N).isLt)).2.2.1 (outsAt0 m c ((⟨n, hb⟩ : Fin cfg0.N).val - 1) (Nat.lt_of_le_of_lt (Nat.sub_le _ _) (⟨n, hb⟩ : Fin cfg0.N).isLt)).2.2.2.1 (outsAt0 m c ((⟨n, hb⟩ : Fin cfg0.N).val - 1) (Nat.lt_of_le_of_lt (Nat.sub_le _ _) (⟨n, hb⟩ : Fin cfg0.N).isLt)).2.2.2.2
    else
      if h2 : 6 ≤ n then
        if h3 : n % 16 = 15 then
          sout0_D_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) (fun h => h1 ((hcond0_1 (⟨n, hb⟩ : Fin cfg0.N)).mp h)) ((hcond0_2 (⟨n, hb⟩ : Fin cfg0.N)).mpr h2) ((hcond0_3 (⟨n, hb⟩ : Fin cfg0.N)).mpr h3) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc (outsAt0 m c ((⟨n, hb⟩ : Fin cfg0.N).val - 1) (Nat.lt_of_le_of_lt (Nat.sub_le _ _) (⟨n, hb⟩ : Fin cfg0.N).isLt)).2.2.1 (outsAt0 m c ((⟨n, hb⟩ : Fin cfg0.N).val - 1) (Nat.lt_of_le_of_lt (Nat.sub_le _ _) (⟨n, hb⟩ : Fin cfg0.N).isLt)).2.2.2.1 (outsAt0 m c ((⟨n, hb⟩ : Fin cfg0.N).val - 1) (Nat.lt_of_le_of_lt (Nat.sub_le _ _) (⟨n, hb⟩ : Fin cfg0.N).isLt)).2.2.2.2
        else
          sout0_C_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) (fun h => h1 ((hcond0_1 (⟨n, hb⟩ : Fin cfg0.N)).mp h)) ((hcond0_2 (⟨n, hb⟩ : Fin cfg0.N)).mpr h2) (fun h => h3 ((hcond0_3 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc (outsAt0 m c ((⟨n, hb⟩ : Fin cfg0.N).val - 1) (Nat.lt_of_le_of_lt (Nat.sub_le _ _) (⟨n, hb⟩ : Fin cfg0.N).isLt)).2.2.1 (outsAt0 m c ((⟨n, hb⟩ : Fin cfg0.N).val - 1) (Nat.lt_of_le_of_lt (Nat.sub_le _ _) (⟨n, hb⟩ : Fin cfg0.N).isLt)).2.2.2.1 (outsAt0 m c ((⟨n, hb⟩ : Fin cfg0.N).val - 1) (Nat.lt_of_le_of_lt (Nat.sub_le _ _) (⟨n, hb⟩ : Fin cfg0.N).isLt)).2.2.2.2
      else
        acc

/-- WHAT CARRIED SCRATCH 1 HOLDS after point `t`: the fold of its run up to `t`, from the reset at the run's first point
    `16·(t / 16)` (Lib/Pipeline/Value.lean `Pipeline.eq_accAt_of_mod`, by the frame's `outsAt0_κ`; without enumerating the points). -/
theorem soutsAt0_1_eq (c : Dev nD) (t : Fin cfg0.N) :
    (outsAt0 m c t.val t.isLt).2.1 = Pipeline.accAt (fun n h => scAt0_1 m c n h (VS0_1.read (Elt F) VS0_1.junk)) (scAt0_1 m c) (16 * (t.val / 16)) (t.val % 16)
      (by have h1 := t.isLt; have h2 := Nat.div_add_mod t.val 16; omega) :=
  Pipeline.eq_accAt_of_mod (fun n h => (outsAt0 m c n h).2.1) 16 (fun n h => scAt0_1 m c n h (VS0_1.read (Elt F) VS0_1.junk)) (scAt0_1 m c)
    (fun n h hn => by
      have hN := lt_of_lt_of_eq h (show cfg0.N = 16 from N_0)
      by_cases h0 : n % 16 = 0 <;> by_cases h1 : (1 ≤ n % 16 ∧ n % 16 ≤ 5) <;> by_cases h2 : 6 ≤ n <;> by_cases h3 : n % 16 = 15
      all_goals first | (exfalso; omega) | (rw [outsAt0_A m c ⟨n, h⟩ h0 h1 h2 h3]; dsimp only; unfold scAt0_1; rw [dif_pos h0, dif_neg h1, dif_neg h2, dif_neg h3] <;> try rfl) | (rw [outsAt0_B m c ⟨n, h⟩ h0 h1 h2 h3]; dsimp only; unfold scAt0_1; rw [dif_neg h0, dif_pos h1, dif_neg h2, dif_neg h3] <;> try rfl) | (rw [outsAt0_C m c ⟨n, h⟩ h0 h1 h2 h3]; dsimp only; unfold scAt0_1; rw [dif_neg h0, dif_neg h1, dif_pos h2, dif_neg h3] <;> try rfl) | (rw [outsAt0_D m c ⟨n, h⟩ h0 h1 h2 h3]; dsimp only; unfold scAt0_1; rw [dif_neg h0, dif_neg h1, dif_pos h2, dif_pos h3] <;> try rfl))
    (fun n h hn => by
      have hN := lt_of_lt_of_eq h (show cfg0.N = 16 from N_0)
      by_cases h0 : (n + 1) % 16 = 0 <;> by_cases h1 : (1 ≤ (n + 1) % 16 ∧ (n + 1) % 16 ≤ 5) <;> by_cases h2 : 6 ≤ (n + 1) <;> by_cases h3 : (n + 1) % 16 = 15
      all_goals first | (exfalso; omega) | (rw [outsAt0_A m c ⟨n + 1, h⟩ h0 h1 h2 h3]; dsimp only; unfold scAt0_1; rw [dif_pos h0, dif_neg h1, dif_neg h2, dif_neg h3] <;> try rfl) | (rw [outsAt0_B m c ⟨n + 1, h⟩ h0 h1 h2 h3]; dsimp only; unfold scAt0_1; rw [dif_neg h0, dif_pos h1, dif_neg h2, dif_neg h3] <;> try rfl) | (rw [outsAt0_C m c ⟨n + 1, h⟩ h0 h1 h2 h3]; dsimp only; unfold scAt0_1; rw [dif_neg h0, dif_neg h1, dif_pos h2, dif_neg h3] <;> try rfl) | (rw [outsAt0_D m c ⟨n + 1, h⟩ h0 h1 h2 h3]; dsimp only; unfold scAt0_1; rw [dif_neg h0, dif_neg h1, dif_pos h2, dif_pos h3] <;> try rfl))
    (by decide) t.val t.isLt _

/-- One run spans the grid (the only reset is at point 0): after point `n` the scratch is the fold from 0 to `n`. -/
theorem soutsAt0_1_sweep (c : Dev nD) (n : ℕ) (hn : n < cfg0.N) :
    (outsAt0 m c n hn).2.1 = Pipeline.accAt (fun n h => scAt0_1 m c n h (VS0_1.read (Elt F) VS0_1.junk)) (scAt0_1 m c) 0 n (by omega) := by
  have e := soutsAt0_1_eq m c ⟨n, hn⟩
  have hN := lt_of_lt_of_eq hn (show cfg0.N = 16 from N_0)
  have hd : n / 16 = 0 := Nat.div_eq_of_lt hN
  have hm : n % 16 = n := Nat.mod_eq_of_lt hN
  simpa only [hd, hm, Nat.mul_zero] using e

/-! ## Carried scratch 2: what each point leaves in it, and its fold -/

/-- What point `n` leaves in carried scratch 2, over what the point before left in it (`acc`): the case the conditions'
    closed forms select at `n`, the frame's own term for it (`Gen.sout0_κ_2`; anything else the case takes of the point
    before, another carried scratch or an output it reads back, stays `Gen.outsAt0`'s at `n - 1`); a case at the first point
    stores the scratch whole without reading what it held, and `acc` does not enter there (nor where no point meets the
    conditions: `acc`, never read). -/
def scAt0_2 (c : Dev nD) (n : ℕ) (hb : n < cfg0.N) (acc : Vec F S1024x1024 .f32) : Vec F S1024x1024 .f32 :=
  if h0 : n % 16 = 0 then
    if h1 : (1 ≤ n % 16 ∧ n % 16 ≤ 5) then
      acc
    else
      if h2 : 6 ≤ n then
        acc
      else
        if h3 : n % 16 = 15 then
          acc
        else
          sout0_A_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) ((hcond0_0 (⟨n, hb⟩ : Fin cfg0.N)).mpr h0) (fun h => h1 ((hcond0_1 (⟨n, hb⟩ : Fin cfg0.N)).mp h)) (fun h => h2 ((hcond0_2 (⟨n, hb⟩ : Fin cfg0.N)).mp h)) (fun h => h3 ((hcond0_3 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N))
  else
    if h1 : (1 ≤ n % 16 ∧ n % 16 ≤ 5) then
      if h2 : 6 ≤ n then
        acc
      else
        if h3 : n % 16 = 15 then
          acc
        else
          sout0_B_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) ((hcond0_1 (⟨n, hb⟩ : Fin cfg0.N)).mpr h1) (fun h => h2 ((hcond0_2 (⟨n, hb⟩ : Fin cfg0.N)).mp h)) (fun h => h3 ((hcond0_3 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (outsAt0 m c ((⟨n, hb⟩ : Fin cfg0.N).val - 1) (Nat.lt_of_le_of_lt (Nat.sub_le _ _) (⟨n, hb⟩ : Fin cfg0.N).isLt)).2.1 acc (outsAt0 m c ((⟨n, hb⟩ : Fin cfg0.N).val - 1) (Nat.lt_of_le_of_lt (Nat.sub_le _ _) (⟨n, hb⟩ : Fin cfg0.N).isLt)).2.2.2.1 (outsAt0 m c ((⟨n, hb⟩ : Fin cfg0.N).val - 1) (Nat.lt_of_le_of_lt (Nat.sub_le _ _) (⟨n, hb⟩ : Fin cfg0.N).isLt)).2.2.2.2
    else
      if h2 : 6 ≤ n then
        if h3 : n % 16 = 15 then
          sout0_D_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) (fun h => h1 ((hcond0_1 (⟨n, hb⟩ : Fin cfg0.N)).mp h)) ((hcond0_2 (⟨n, hb⟩ : Fin cfg0.N)).mpr h2) ((hcond0_3 (⟨n, hb⟩ : Fin cfg0.N)).mpr h3) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (outsAt0 m c ((⟨n, hb⟩ : Fin cfg0.N).val - 1) (Nat.lt_of_le_of_lt (Nat.sub_le _ _) (⟨n, hb⟩ : Fin cfg0.N).isLt)).2.1 acc (outsAt0 m c ((⟨n, hb⟩ : Fin cfg0.N).val - 1) (Nat.lt_of_le_of_lt (Nat.sub_le _ _) (⟨n, hb⟩ : Fin cfg0.N).isLt)).2.2.2.1 (outsAt0 m c ((⟨n, hb⟩ : Fin cfg0.N).val - 1) (Nat.lt_of_le_of_lt (Nat.sub_le _ _) (⟨n, hb⟩ : Fin cfg0.N).isLt)).2.2.2.2
        else
          sout0_C_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) (fun h => h1 ((hcond0_1 (⟨n, hb⟩ : Fin cfg0.N)).mp h)) ((hcond0_2 (⟨n, hb⟩ : Fin cfg0.N)).mpr h2) (fun h => h3 ((hcond0_3 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (outsAt0 m c ((⟨n, hb⟩ : Fin cfg0.N).val - 1) (Nat.lt_of_le_of_lt (Nat.sub_le _ _) (⟨n, hb⟩ : Fin cfg0.N).isLt)).2.1 acc (outsAt0 m c ((⟨n, hb⟩ : Fin cfg0.N).val - 1) (Nat.lt_of_le_of_lt (Nat.sub_le _ _) (⟨n, hb⟩ : Fin cfg0.N).isLt)).2.2.2.1 (outsAt0 m c ((⟨n, hb⟩ : Fin cfg0.N).val - 1) (Nat.lt_of_le_of_lt (Nat.sub_le _ _) (⟨n, hb⟩ : Fin cfg0.N).isLt)).2.2.2.2
      else
        acc

/-- WHAT CARRIED SCRATCH 2 HOLDS after point `t`: the fold of its run up to `t`, from the reset at the run's first point
    `16·(t / 16)` (Lib/Pipeline/Value.lean `Pipeline.eq_accAt_of_mod`, by the frame's `outsAt0_κ`; without enumerating the points). -/
theorem soutsAt0_2_eq (c : Dev nD) (t : Fin cfg0.N) :
    (outsAt0 m c t.val t.isLt).2.2.1 = Pipeline.accAt (fun n h => scAt0_2 m c n h (VS0_2.read (Elt F) VS0_2.junk)) (scAt0_2 m c) (16 * (t.val / 16)) (t.val % 16)
      (by have h1 := t.isLt; have h2 := Nat.div_add_mod t.val 16; omega) :=
  Pipeline.eq_accAt_of_mod (fun n h => (outsAt0 m c n h).2.2.1) 16 (fun n h => scAt0_2 m c n h (VS0_2.read (Elt F) VS0_2.junk)) (scAt0_2 m c)
    (fun n h hn => by
      have hN := lt_of_lt_of_eq h (show cfg0.N = 16 from N_0)
      by_cases h0 : n % 16 = 0 <;> by_cases h1 : (1 ≤ n % 16 ∧ n % 16 ≤ 5) <;> by_cases h2 : 6 ≤ n <;> by_cases h3 : n % 16 = 15
      all_goals first | (exfalso; omega) | (rw [outsAt0_A m c ⟨n, h⟩ h0 h1 h2 h3]; dsimp only; unfold scAt0_2; rw [dif_pos h0, dif_neg h1, dif_neg h2, dif_neg h3] <;> try rfl) | (rw [outsAt0_B m c ⟨n, h⟩ h0 h1 h2 h3]; dsimp only; unfold scAt0_2; rw [dif_neg h0, dif_pos h1, dif_neg h2, dif_neg h3] <;> try rfl) | (rw [outsAt0_C m c ⟨n, h⟩ h0 h1 h2 h3]; dsimp only; unfold scAt0_2; rw [dif_neg h0, dif_neg h1, dif_pos h2, dif_neg h3] <;> try rfl) | (rw [outsAt0_D m c ⟨n, h⟩ h0 h1 h2 h3]; dsimp only; unfold scAt0_2; rw [dif_neg h0, dif_neg h1, dif_pos h2, dif_pos h3] <;> try rfl))
    (fun n h hn => by
      have hN := lt_of_lt_of_eq h (show cfg0.N = 16 from N_0)
      by_cases h0 : (n + 1) % 16 = 0 <;> by_cases h1 : (1 ≤ (n + 1) % 16 ∧ (n + 1) % 16 ≤ 5) <;> by_cases h2 : 6 ≤ (n + 1) <;> by_cases h3 : (n + 1) % 16 = 15
      all_goals first | (exfalso; omega) | (rw [outsAt0_A m c ⟨n + 1, h⟩ h0 h1 h2 h3]; dsimp only; unfold scAt0_2; rw [dif_pos h0, dif_neg h1, dif_neg h2, dif_neg h3] <;> try rfl) | (rw [outsAt0_B m c ⟨n + 1, h⟩ h0 h1 h2 h3]; dsimp only; unfold scAt0_2; rw [dif_neg h0, dif_pos h1, dif_neg h2, dif_neg h3] <;> try rfl) | (rw [outsAt0_C m c ⟨n + 1, h⟩ h0 h1 h2 h3]; dsimp only; unfold scAt0_2; rw [dif_neg h0, dif_neg h1, dif_pos h2, dif_neg h3] <;> try rfl) | (rw [outsAt0_D m c ⟨n + 1, h⟩ h0 h1 h2 h3]; dsimp only; unfold scAt0_2; rw [dif_neg h0, dif_neg h1, dif_pos h2, dif_pos h3] <;> try rfl))
    (by decide) t.val t.isLt _

/-- One run spans the grid (the only reset is at point 0): after point `n` the scratch is the fold from 0 to `n`. -/
theorem soutsAt0_2_sweep (c : Dev nD) (n : ℕ) (hn : n < cfg0.N) :
    (outsAt0 m c n hn).2.2.1 = Pipeline.accAt (fun n h => scAt0_2 m c n h (VS0_2.read (Elt F) VS0_2.junk)) (scAt0_2 m c) 0 n (by omega) := by
  have e := soutsAt0_2_eq m c ⟨n, hn⟩
  have hN := lt_of_lt_of_eq hn (show cfg0.N = 16 from N_0)
  have hd : n / 16 = 0 := Nat.div_eq_of_lt hN
  have hm : n % 16 = n := Nat.mod_eq_of_lt hN
  simpa only [hd, hm, Nat.mul_zero] using e

/-! ## Carried scratch 3: what each point leaves in it, and its fold -/

/-- What point `n` leaves in carried scratch 3, over what the point before left in it (`acc`): the case the conditions'
    closed forms select at `n`, the frame's own term for it (`Gen.sout0_κ_3`; anything else the case takes of the point
    before, another carried scratch or an output it reads back, stays `Gen.outsAt0`'s at `n - 1`); a case at the first point
    stores the scratch whole without reading what it held, and `acc` does not enter there (nor where no point meets the
    conditions: `acc`, never read). -/
def scAt0_3 (c : Dev nD) (n : ℕ) (hb : n < cfg0.N) (acc : Vec F S1024x1 .f32) : Vec F S1024x1 .f32 :=
  if h0 : n % 16 = 0 then
    if h1 : (1 ≤ n % 16 ∧ n % 16 ≤ 5) then
      acc
    else
      if h2 : 6 ≤ n then
        acc
      else
        if h3 : n % 16 = 15 then
          acc
        else
          sout0_A_3 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) ((hcond0_0 (⟨n, hb⟩ : Fin cfg0.N)).mpr h0) (fun h => h1 ((hcond0_1 (⟨n, hb⟩ : Fin cfg0.N)).mp h)) (fun h => h2 ((hcond0_2 (⟨n, hb⟩ : Fin cfg0.N)).mp h)) (fun h => h3 ((hcond0_3 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N))
  else
    if h1 : (1 ≤ n % 16 ∧ n % 16 ≤ 5) then
      if h2 : 6 ≤ n then
        acc
      else
        if h3 : n % 16 = 15 then
          acc
        else
          sout0_B_3 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) ((hcond0_1 (⟨n, hb⟩ : Fin cfg0.N)).mpr h1) (fun h => h2 ((hcond0_2 (⟨n, hb⟩ : Fin cfg0.N)).mp h)) (fun h => h3 ((hcond0_3 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (outsAt0 m c ((⟨n, hb⟩ : Fin cfg0.N).val - 1) (Nat.lt_of_le_of_lt (Nat.sub_le _ _) (⟨n, hb⟩ : Fin cfg0.N).isLt)).2.1 (outsAt0 m c ((⟨n, hb⟩ : Fin cfg0.N).val - 1) (Nat.lt_of_le_of_lt (Nat.sub_le _ _) (⟨n, hb⟩ : Fin cfg0.N).isLt)).2.2.1 acc (outsAt0 m c ((⟨n, hb⟩ : Fin cfg0.N).val - 1) (Nat.lt_of_le_of_lt (Nat.sub_le _ _) (⟨n, hb⟩ : Fin cfg0.N).isLt)).2.2.2.2
    else
      if h2 : 6 ≤ n then
        if h3 : n % 16 = 15 then
          sout0_D_3 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) (fun h => h1 ((hcond0_1 (⟨n, hb⟩ : Fin cfg0.N)).mp h)) ((hcond0_2 (⟨n, hb⟩ : Fin cfg0.N)).mpr h2) ((hcond0_3 (⟨n, hb⟩ : Fin cfg0.N)).mpr h3) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (outsAt0 m c ((⟨n, hb⟩ : Fin cfg0.N).val - 1) (Nat.lt_of_le_of_lt (Nat.sub_le _ _) (⟨n, hb⟩ : Fin cfg0.N).isLt)).2.1 (outsAt0 m c ((⟨n, hb⟩ : Fin cfg0.N).val - 1) (Nat.lt_of_le_of_lt (Nat.sub_le _ _) (⟨n, hb⟩ : Fin cfg0.N).isLt)).2.2.1 acc (outsAt0 m c ((⟨n, hb⟩ : Fin cfg0.N).val - 1) (Nat.lt_of_le_of_lt (Nat.sub_le _ _) (⟨n, hb⟩ : Fin cfg0.N).isLt)).2.2.2.2
        else
          sout0_C_3 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) (fun h => h1 ((hcond0_1 (⟨n, hb⟩ : Fin cfg0.N)).mp h)) ((hcond0_2 (⟨n, hb⟩ : Fin cfg0.N)).mpr h2) (fun h => h3 ((hcond0_3 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (outsAt0 m c ((⟨n, hb⟩ : Fin cfg0.N).val - 1) (Nat.lt_of_le_of_lt (Nat.sub_le _ _) (⟨n, hb⟩ : Fin cfg0.N).isLt)).2.1 (outsAt0 m c ((⟨n, hb⟩ : Fin cfg0.N).val - 1) (Nat.lt_of_le_of_lt (Nat.sub_le _ _) (⟨n, hb⟩ : Fin cfg0.N).isLt)).2.2.1 acc (outsAt0 m c ((⟨n, hb⟩ : Fin cfg0.N).val - 1) (Nat.lt_of_le_of_lt (Nat.sub_le _ _) (⟨n, hb⟩ : Fin cfg0.N).isLt)).2.2.2.2
      else
        acc

/-- WHAT CARRIED SCRATCH 3 HOLDS after point `t`: the fold of its run up to `t`, from the reset at the run's first point
    `16·(t / 16)` (Lib/Pipeline/Value.lean `Pipeline.eq_accAt_of_mod`, by the frame's `outsAt0_κ`; without enumerating the points). -/
theorem soutsAt0_3_eq (c : Dev nD) (t : Fin cfg0.N) :
    (outsAt0 m c t.val t.isLt).2.2.2.1 = Pipeline.accAt (fun n h => scAt0_3 m c n h (VS0_3.read (Elt F) VS0_3.junk)) (scAt0_3 m c) (16 * (t.val / 16)) (t.val % 16)
      (by have h1 := t.isLt; have h2 := Nat.div_add_mod t.val 16; omega) :=
  Pipeline.eq_accAt_of_mod (fun n h => (outsAt0 m c n h).2.2.2.1) 16 (fun n h => scAt0_3 m c n h (VS0_3.read (Elt F) VS0_3.junk)) (scAt0_3 m c)
    (fun n h hn => by
      have hN := lt_of_lt_of_eq h (show cfg0.N = 16 from N_0)
      by_cases h0 : n % 16 = 0 <;> by_cases h1 : (1 ≤ n % 16 ∧ n % 16 ≤ 5) <;> by_cases h2 : 6 ≤ n <;> by_cases h3 : n % 16 = 15
      all_goals first | (exfalso; omega) | (rw [outsAt0_A m c ⟨n, h⟩ h0 h1 h2 h3]; dsimp only; unfold scAt0_3; rw [dif_pos h0, dif_neg h1, dif_neg h2, dif_neg h3] <;> try rfl) | (rw [outsAt0_B m c ⟨n, h⟩ h0 h1 h2 h3]; dsimp only; unfold scAt0_3; rw [dif_neg h0, dif_pos h1, dif_neg h2, dif_neg h3] <;> try rfl) | (rw [outsAt0_C m c ⟨n, h⟩ h0 h1 h2 h3]; dsimp only; unfold scAt0_3; rw [dif_neg h0, dif_neg h1, dif_pos h2, dif_neg h3] <;> try rfl) | (rw [outsAt0_D m c ⟨n, h⟩ h0 h1 h2 h3]; dsimp only; unfold scAt0_3; rw [dif_neg h0, dif_neg h1, dif_pos h2, dif_pos h3] <;> try rfl))
    (fun n h hn => by
      have hN := lt_of_lt_of_eq h (show cfg0.N = 16 from N_0)
      by_cases h0 : (n + 1) % 16 = 0 <;> by_cases h1 : (1 ≤ (n + 1) % 16 ∧ (n + 1) % 16 ≤ 5) <;> by_cases h2 : 6 ≤ (n + 1) <;> by_cases h3 : (n + 1) % 16 = 15
      all_goals first | (exfalso; omega) | (rw [outsAt0_A m c ⟨n + 1, h⟩ h0 h1 h2 h3]; dsimp only; unfold scAt0_3; rw [dif_pos h0, dif_neg h1, dif_neg h2, dif_neg h3] <;> try rfl) | (rw [outsAt0_B m c ⟨n + 1, h⟩ h0 h1 h2 h3]; dsimp only; unfold scAt0_3; rw [dif_neg h0, dif_pos h1, dif_neg h2, dif_neg h3] <;> try rfl) | (rw [outsAt0_C m c ⟨n + 1, h⟩ h0 h1 h2 h3]; dsimp only; unfold scAt0_3; rw [dif_neg h0, dif_neg h1, dif_pos h2, dif_neg h3] <;> try rfl) | (rw [outsAt0_D m c ⟨n + 1, h⟩ h0 h1 h2 h3]; dsimp only; unfold scAt0_3; rw [dif_neg h0, dif_neg h1, dif_pos h2, dif_pos h3] <;> try rfl))
    (by decide) t.val t.isLt _

/-- One run spans the grid (the only reset is at point 0): after point `n` the scratch is the fold from 0 to `n`. -/
theorem soutsAt0_3_sweep (c : Dev nD) (n : ℕ) (hn : n < cfg0.N) :
    (outsAt0 m c n hn).2.2.2.1 = Pipeline.accAt (fun n h => scAt0_3 m c n h (VS0_3.read (Elt F) VS0_3.junk)) (scAt0_3 m c) 0 n (by omega) := by
  have e := soutsAt0_3_eq m c ⟨n, hn⟩
  have hN := lt_of_lt_of_eq hn (show cfg0.N = 16 from N_0)
  have hd : n / 16 = 0 := Nat.div_eq_of_lt hN
  have hm : n % 16 = n := Nat.mod_eq_of_lt hN
  simpa only [hd, hm, Nat.mul_zero] using e

/-! ## Carried scratch 4: what each point leaves in it, and its fold -/

/-- What point `n` leaves in carried scratch 4, over what the point before left in it (`acc`): the case the conditions'
    closed forms select at `n`, the frame's own term for it (`Gen.sout0_κ_4`; anything else the case takes of the point
    before, another carried scratch or an output it reads back, stays `Gen.outsAt0`'s at `n - 1`); a case at the first point
    stores the scratch whole without reading what it held, and `acc` does not enter there (nor where no point meets the
    conditions: `acc`, never read). -/
def scAt0_4 (c : Dev nD) (n : ℕ) (hb : n < cfg0.N) (acc : Vec F S1x1 .f32) : Vec F S1x1 .f32 :=
  if h0 : n % 16 = 0 then
    if h1 : (1 ≤ n % 16 ∧ n % 16 ≤ 5) then
      acc
    else
      if h2 : 6 ≤ n then
        acc
      else
        if h3 : n % 16 = 15 then
          acc
        else
          sout0_A_4 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) ((hcond0_0 (⟨n, hb⟩ : Fin cfg0.N)).mpr h0) (fun h => h1 ((hcond0_1 (⟨n, hb⟩ : Fin cfg0.N)).mp h)) (fun h => h2 ((hcond0_2 (⟨n, hb⟩ : Fin cfg0.N)).mp h)) (fun h => h3 ((hcond0_3 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N))
  else
    if h1 : (1 ≤ n % 16 ∧ n % 16 ≤ 5) then
      if h2 : 6 ≤ n then
        acc
      else
        if h3 : n % 16 = 15 then
          acc
        else
          sout0_B_4 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) ((hcond0_1 (⟨n, hb⟩ : Fin cfg0.N)).mpr h1) (fun h => h2 ((hcond0_2 (⟨n, hb⟩ : Fin cfg0.N)).mp h)) (fun h => h3 ((hcond0_3 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (outsAt0 m c ((⟨n, hb⟩ : Fin cfg0.N).val - 1) (Nat.lt_of_le_of_lt (Nat.sub_le _ _) (⟨n, hb⟩ : Fin cfg0.N).isLt)).2.1 (outsAt0 m c ((⟨n, hb⟩ : Fin cfg0.N).val - 1) (Nat.lt_of_le_of_lt (Nat.sub_le _ _) (⟨n, hb⟩ : Fin cfg0.N).isLt)).2.2.1 (outsAt0 m c ((⟨n, hb⟩ : Fin cfg0.N).val - 1) (Nat.lt_of_le_of_lt (Nat.sub_le _ _) (⟨n, hb⟩ : Fin cfg0.N).isLt)).2.2.2.1 acc
    else
      if h2 : 6 ≤ n then
        if h3 : n % 16 = 15 then
          sout0_D_4 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) (fun h => h1 ((hcond0_1 (⟨n, hb⟩ : Fin cfg0.N)).mp h)) ((hcond0_2 (⟨n, hb⟩ : Fin cfg0.N)).mpr h2) ((hcond0_3 (⟨n, hb⟩ : Fin cfg0.N)).mpr h3) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (outsAt0 m c ((⟨n, hb⟩ : Fin cfg0.N).val - 1) (Nat.lt_of_le_of_lt (Nat.sub_le _ _) (⟨n, hb⟩ : Fin cfg0.N).isLt)).2.1 (outsAt0 m c ((⟨n, hb⟩ : Fin cfg0.N).val - 1) (Nat.lt_of_le_of_lt (Nat.sub_le _ _) (⟨n, hb⟩ : Fin cfg0.N).isLt)).2.2.1 (outsAt0 m c ((⟨n, hb⟩ : Fin cfg0.N).val - 1) (Nat.lt_of_le_of_lt (Nat.sub_le _ _) (⟨n, hb⟩ : Fin cfg0.N).isLt)).2.2.2.1 acc
        else
          sout0_C_4 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) (fun h => h1 ((hcond0_1 (⟨n, hb⟩ : Fin cfg0.N)).mp h)) ((hcond0_2 (⟨n, hb⟩ : Fin cfg0.N)).mpr h2) (fun h => h3 ((hcond0_3 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (outsAt0 m c ((⟨n, hb⟩ : Fin cfg0.N).val - 1) (Nat.lt_of_le_of_lt (Nat.sub_le _ _) (⟨n, hb⟩ : Fin cfg0.N).isLt)).2.1 (outsAt0 m c ((⟨n, hb⟩ : Fin cfg0.N).val - 1) (Nat.lt_of_le_of_lt (Nat.sub_le _ _) (⟨n, hb⟩ : Fin cfg0.N).isLt)).2.2.1 (outsAt0 m c ((⟨n, hb⟩ : Fin cfg0.N).val - 1) (Nat.lt_of_le_of_lt (Nat.sub_le _ _) (⟨n, hb⟩ : Fin cfg0.N).isLt)).2.2.2.1 acc
      else
        acc

/-- WHAT CARRIED SCRATCH 4 HOLDS after point `t`: the fold of its run up to `t`, from the reset at the run's first point
    `16·(t / 16)` (Lib/Pipeline/Value.lean `Pipeline.eq_accAt_of_mod`, by the frame's `outsAt0_κ`; without enumerating the points). -/
theorem soutsAt0_4_eq (c : Dev nD) (t : Fin cfg0.N) :
    (outsAt0 m c t.val t.isLt).2.2.2.2 = Pipeline.accAt (fun n h => scAt0_4 m c n h (VS0_4.read (Elt F) VS0_4.junk)) (scAt0_4 m c) (16 * (t.val / 16)) (t.val % 16)
      (by have h1 := t.isLt; have h2 := Nat.div_add_mod t.val 16; omega) :=
  Pipeline.eq_accAt_of_mod (fun n h => (outsAt0 m c n h).2.2.2.2) 16 (fun n h => scAt0_4 m c n h (VS0_4.read (Elt F) VS0_4.junk)) (scAt0_4 m c)
    (fun n h hn => by
      have hN := lt_of_lt_of_eq h (show cfg0.N = 16 from N_0)
      by_cases h0 : n % 16 = 0 <;> by_cases h1 : (1 ≤ n % 16 ∧ n % 16 ≤ 5) <;> by_cases h2 : 6 ≤ n <;> by_cases h3 : n % 16 = 15
      all_goals first | (exfalso; omega) | (rw [outsAt0_A m c ⟨n, h⟩ h0 h1 h2 h3]; dsimp only; unfold scAt0_4; rw [dif_pos h0, dif_neg h1, dif_neg h2, dif_neg h3] <;> try rfl) | (rw [outsAt0_B m c ⟨n, h⟩ h0 h1 h2 h3]; dsimp only; unfold scAt0_4; rw [dif_neg h0, dif_pos h1, dif_neg h2, dif_neg h3] <;> try rfl) | (rw [outsAt0_C m c ⟨n, h⟩ h0 h1 h2 h3]; dsimp only; unfold scAt0_4; rw [dif_neg h0, dif_neg h1, dif_pos h2, dif_neg h3] <;> try rfl) | (rw [outsAt0_D m c ⟨n, h⟩ h0 h1 h2 h3]; dsimp only; unfold scAt0_4; rw [dif_neg h0, dif_neg h1, dif_pos h2, dif_pos h3] <;> try rfl))
    (fun n h hn => by
      have hN := lt_of_lt_of_eq h (show cfg0.N = 16 from N_0)
      by_cases h0 : (n + 1) % 16 = 0 <;> by_cases h1 : (1 ≤ (n + 1) % 16 ∧ (n + 1) % 16 ≤ 5) <;> by_cases h2 : 6 ≤ (n + 1) <;> by_cases h3 : (n + 1) % 16 = 15
      all_goals first | (exfalso; omega) | (rw [outsAt0_A m c ⟨n + 1, h⟩ h0 h1 h2 h3]; dsimp only; unfold scAt0_4; rw [dif_pos h0, dif_neg h1, dif_neg h2, dif_neg h3] <;> try rfl) | (rw [outsAt0_B m c ⟨n + 1, h⟩ h0 h1 h2 h3]; dsimp only; unfold scAt0_4; rw [dif_neg h0, dif_pos h1, dif_neg h2, dif_neg h3] <;> try rfl) | (rw [outsAt0_C m c ⟨n + 1, h⟩ h0 h1 h2 h3]; dsimp only; unfold scAt0_4; rw [dif_neg h0, dif_neg h1, dif_pos h2, dif_neg h3] <;> try rfl) | (rw [outsAt0_D m c ⟨n + 1, h⟩ h0 h1 h2 h3]; dsimp only; unfold scAt0_4; rw [dif_neg h0, dif_neg h1, dif_pos h2, dif_pos h3] <;> try rfl))
    (by decide) t.val t.isLt _

/-- One run spans the grid (the only reset is at point 0): after point `n` the scratch is the fold from 0 to `n`. -/
theorem soutsAt0_4_sweep (c : Dev nD) (n : ℕ) (hn : n < cfg0.N) :
    (outsAt0 m c n hn).2.2.2.2 = Pipeline.accAt (fun n h => scAt0_4 m c n h (VS0_4.read (Elt F) VS0_4.junk)) (scAt0_4 m c) 0 n (by omega) := by
  have e := soutsAt0_4_eq m c ⟨n, hn⟩
  have hN := lt_of_lt_of_eq hn (show cfg0.N = 16 from N_0)
  have hd : n / 16 = 0 := Nat.div_eq_of_lt hN
  have hm : n % 16 = n := Nat.mod_eq_of_lt hN
  simpa only [hd, hm, Nat.mul_zero] using e

/-! ## The carried state as one fold: the named outputs and the carried scratch, from the first point -/

/-- What the fold starts from: NOTHING NAMED, each named output's and carried scratch's buffer read at junk. No case
    computes from it: the first point's case stores what it names before reading; only an output that case leaves
    idle keeps its junk component. -/
def junk0 : Vec F S1x1 .f32 × Vec F S1024x1024 .f32 × Vec F S1024x1024 .f32 × Vec F S1024x1 .f32 × Vec F S1x1 .f32 :=
  ((VO0_4.read (Elt F) VO0_4.junk, VS0_1.read (Elt F) VS0_1.junk, VS0_2.read (Elt F) VS0_2.junk, VS0_3.read (Elt F) VS0_3.junk, VS0_4.read (Elt F) VS0_4.junk) : Vec F S1x1 .f32 × Vec F S1024x1024 .f32 × Vec F S1024x1024 .f32 × Vec F S1024x1 .f32 × Vec F S1x1 .f32)

/-- THE STEP: what point `n` leaves in the named outputs and the carried scratch (`Gen.outsAt0`'s tuple), over what the
    point before left (`acc`) — `Gen.outsAt0`'s own successor arm: the case the closed forms select at `n`, its named
    terms at the point's memrefs and input blocks; whatever the case reads back, takes by name or carries idle is read
    off `acc`. An assignment of the conditions no point meets is no case (`False.elim`). -/
def stAt0 (c : Dev nD) (n : ℕ) (hb : n < cfg0.N) (acc : Vec F S1x1 .f32 × Vec F S1024x1024 .f32 × Vec F S1024x1024 .f32 × Vec F S1024x1 .f32 × Vec F S1x1 .f32) : Vec F S1x1 .f32 × Vec F S1024x1024 .f32 × Vec F S1024x1024 .f32 × Vec F S1024x1 .f32 × Vec F S1x1 .f32 :=
  if h0 : n % 16 = 0 then
    if h1 : (1 ≤ n % 16 ∧ n % 16 ≤ 5) then
      False.elim (by have hN : n < 16 := lt_of_lt_of_eq hb (show cfg0.N = 16 from N_0); omega)
    else
      if h2 : 6 ≤ n then
        False.elim (by have hN : n < 16 := lt_of_lt_of_eq hb (show cfg0.N = 16 from N_0); omega)
      else
        if h3 : n % 16 = 15 then
          False.elim (by have hN : n < 16 := lt_of_lt_of_eq hb (show cfg0.N = 16 from N_0); omega)
        else
          (out0_A_4 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) ((hcond0_0 (⟨n, hb⟩ : Fin cfg0.N)).mpr h0) (fun h => h1 ((hcond0_1 (⟨n, hb⟩ : Fin cfg0.N)).mp h)) (fun h => h2 ((hcond0_2 (⟨n, hb⟩ : Fin cfg0.N)).mp h)) (fun h => h3 ((hcond0_3 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)), sout0_A_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) ((hcond0_0 (⟨n, hb⟩ : Fin cfg0.N)).mpr h0) (fun h => h1 ((hcond0_1 (⟨n, hb⟩ : Fin cfg0.N)).mp h)) (fun h => h2 ((hcond0_2 (⟨n, hb⟩ : Fin cfg0.N)).mp h)) (fun h => h3 ((hcond0_3 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)), sout0_A_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) ((hcond0_0 (⟨n, hb⟩ : Fin cfg0.N)).mpr h0) (fun h => h1 ((hcond0_1 (⟨n, hb⟩ : Fin cfg0.N)).mp h)) (fun h => h2 ((hcond0_2 (⟨n, hb⟩ : Fin cfg0.N)).mp h)) (fun h => h3 ((hcond0_3 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)), sout0_A_3 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) ((hcond0_0 (⟨n, hb⟩ : Fin cfg0.N)).mpr h0) (fun h => h1 ((hcond0_1 (⟨n, hb⟩ : Fin cfg0.N)).mp h)) (fun h => h2 ((hcond0_2 (⟨n, hb⟩ : Fin cfg0.N)).mp h)) (fun h => h3 ((hcond0_3 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)), sout0_A_4 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) ((hcond0_0 (⟨n, hb⟩ : Fin cfg0.N)).mpr h0) (fun h => h1 ((hcond0_1 (⟨n, hb⟩ : Fin cfg0.N)).mp h)) (fun h => h2 ((hcond0_2 (⟨n, hb⟩ : Fin cfg0.N)).mp h)) (fun h => h3 ((hcond0_3 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)))
  else
    if h1 : (1 ≤ n % 16 ∧ n % 16 ≤ 5) then
      if h2 : 6 ≤ n then
        False.elim (by have hN : n < 16 := lt_of_lt_of_eq hb (show cfg0.N = 16 from N_0); omega)
      else
        if h3 : n % 16 = 15 then
          False.elim (by have hN : n < 16 := lt_of_lt_of_eq hb (show cfg0.N = 16 from N_0); omega)
        else
          (out0_B_4 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) ((hcond0_1 (⟨n, hb⟩ : Fin cfg0.N)).mpr h1) (fun h => h2 ((hcond0_2 (⟨n, hb⟩ : Fin cfg0.N)).mp h)) (fun h => h3 ((hcond0_3 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc.2.1 acc.2.2.1 acc.2.2.2.1 acc.2.2.2.2, sout0_B_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) ((hcond0_1 (⟨n, hb⟩ : Fin cfg0.N)).mpr h1) (fun h => h2 ((hcond0_2 (⟨n, hb⟩ : Fin cfg0.N)).mp h)) (fun h => h3 ((hcond0_3 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc.2.1 acc.2.2.1 acc.2.2.2.1 acc.2.2.2.2, sout0_B_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) ((hcond0_1 (⟨n, hb⟩ : Fin cfg0.N)).mpr h1) (fun h => h2 ((hcond0_2 (⟨n, hb⟩ : Fin cfg0.N)).mp h)) (fun h => h3 ((hcond0_3 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc.2.1 acc.2.2.1 acc.2.2.2.1 acc.2.2.2.2, sout0_B_3 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) ((hcond0_1 (⟨n, hb⟩ : Fin cfg0.N)).mpr h1) (fun h => h2 ((hcond0_2 (⟨n, hb⟩ : Fin cfg0.N)).mp h)) (fun h => h3 ((hcond0_3 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc.2.1 acc.2.2.1 acc.2.2.2.1 acc.2.2.2.2, sout0_B_4 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) ((hcond0_1 (⟨n, hb⟩ : Fin cfg0.N)).mpr h1) (fun h => h2 ((hcond0_2 (⟨n, hb⟩ : Fin cfg0.N)).mp h)) (fun h => h3 ((hcond0_3 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc.2.1 acc.2.2.1 acc.2.2.2.1 acc.2.2.2.2)
    else
      if h2 : 6 ≤ n then
        if h3 : n % 16 = 15 then
          (out0_D_4 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) (fun h => h1 ((hcond0_1 (⟨n, hb⟩ : Fin cfg0.N)).mp h)) ((hcond0_2 (⟨n, hb⟩ : Fin cfg0.N)).mpr h2) ((hcond0_3 (⟨n, hb⟩ : Fin cfg0.N)).mpr h3) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc.2.1 acc.2.2.1 acc.2.2.2.1 acc.2.2.2.2, sout0_D_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) (fun h => h1 ((hcond0_1 (⟨n, hb⟩ : Fin cfg0.N)).mp h)) ((hcond0_2 (⟨n, hb⟩ : Fin cfg0.N)).mpr h2) ((hcond0_3 (⟨n, hb⟩ : Fin cfg0.N)).mpr h3) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc.2.1 acc.2.2.1 acc.2.2.2.1 acc.2.2.2.2, sout0_D_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) (fun h => h1 ((hcond0_1 (⟨n, hb⟩ : Fin cfg0.N)).mp h)) ((hcond0_2 (⟨n, hb⟩ : Fin cfg0.N)).mpr h2) ((hcond0_3 (⟨n, hb⟩ : Fin cfg0.N)).mpr h3) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc.2.1 acc.2.2.1 acc.2.2.2.1 acc.2.2.2.2, sout0_D_3 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) (fun h => h1 ((hcond0_1 (⟨n, hb⟩ : Fin cfg0.N)).mp h)) ((hcond0_2 (⟨n, hb⟩ : Fin cfg0.N)).mpr h2) ((hcond0_3 (⟨n, hb⟩ : Fin cfg0.N)).mpr h3) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc.2.1 acc.2.2.1 acc.2.2.2.1 acc.2.2.2.2, sout0_D_4 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) (fun h => h1 ((hcond0_1 (⟨n, hb⟩ : Fin cfg0.N)).mp h)) ((hcond0_2 (⟨n, hb⟩ : Fin cfg0.N)).mpr h2) ((hcond0_3 (⟨n, hb⟩ : Fin cfg0.N)).mpr h3) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc.2.1 acc.2.2.1 acc.2.2.2.1 acc.2.2.2.2)
        else
          (out0_C_4 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) (fun h => h1 ((hcond0_1 (⟨n, hb⟩ : Fin cfg0.N)).mp h)) ((hcond0_2 (⟨n, hb⟩ : Fin cfg0.N)).mpr h2) (fun h => h3 ((hcond0_3 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc.2.1 acc.2.2.1 acc.2.2.2.1 acc.2.2.2.2, sout0_C_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) (fun h => h1 ((hcond0_1 (⟨n, hb⟩ : Fin cfg0.N)).mp h)) ((hcond0_2 (⟨n, hb⟩ : Fin cfg0.N)).mpr h2) (fun h => h3 ((hcond0_3 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc.2.1 acc.2.2.1 acc.2.2.2.1 acc.2.2.2.2, sout0_C_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) (fun h => h1 ((hcond0_1 (⟨n, hb⟩ : Fin cfg0.N)).mp h)) ((hcond0_2 (⟨n, hb⟩ : Fin cfg0.N)).mpr h2) (fun h => h3 ((hcond0_3 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc.2.1 acc.2.2.1 acc.2.2.2.1 acc.2.2.2.2, sout0_C_3 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) (fun h => h1 ((hcond0_1 (⟨n, hb⟩ : Fin cfg0.N)).mp h)) ((hcond0_2 (⟨n, hb⟩ : Fin cfg0.N)).mpr h2) (fun h => h3 ((hcond0_3 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc.2.1 acc.2.2.1 acc.2.2.2.1 acc.2.2.2.2, sout0_C_4 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) (fun h => h1 ((hcond0_1 (⟨n, hb⟩ : Fin cfg0.N)).mp h)) ((hcond0_2 (⟨n, hb⟩ : Fin cfg0.N)).mpr h2) (fun h => h3 ((hcond0_3 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc.2.1 acc.2.2.1 acc.2.2.2.1 acc.2.2.2.2)
      else
        False.elim (by have hN : n < 16 := lt_of_lt_of_eq hb (show cfg0.N = 16 from N_0); omega)

/-- `stAt0` at a point of case A: that case's contents. -/
theorem stAt0_A (c : Dev nD) (t : Fin cfg0.N) (acc : Vec F S1x1 .f32 × Vec F S1024x1024 .f32 × Vec F S1024x1024 .f32 × Vec F S1024x1 .f32 × Vec F S1x1 .f32) (h0 : t.val % 16 = 0) (h1 : ¬(1 ≤ t.val % 16 ∧ t.val % 16 ≤ 5)) (h2 : ¬6 ≤ t.val) (h3 : ¬t.val % 16 = 15) :
    stAt0 m c t.val t.isLt acc = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (fun h => h2 ((hcond0_2 t).mp h)) (fun h => h3 ((hcond0_3 t).mp h)) (iblk m c 0 t) (iblk m c 1 t) (iblk m c 2 t) (iblk m c 3 t), sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (fun h => h2 ((hcond0_2 t).mp h)) (fun h => h3 ((hcond0_3 t).mp h)) (iblk m c 0 t) (iblk m c 1 t) (iblk m c 2 t) (iblk m c 3 t), sout0_A_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (fun h => h2 ((hcond0_2 t).mp h)) (fun h => h3 ((hcond0_3 t).mp h)) (iblk m c 0 t) (iblk m c 1 t) (iblk m c 2 t) (iblk m c 3 t), sout0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (fun h => h2 ((hcond0_2 t).mp h)) (fun h => h3 ((hcond0_3 t).mp h)) (iblk m c 0 t) (iblk m c 1 t) (iblk m c 2 t) (iblk m c 3 t), sout0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (fun h => h2 ((hcond0_2 t).mp h)) (fun h => h3 ((hcond0_3 t).mp h)) (iblk m c 0 t) (iblk m c 1 t) (iblk m c 2 t) (iblk m c 3 t)) :=
  (dif_pos h0).trans ((dif_neg h1).trans ((dif_neg h2).trans ((dif_neg h3).trans rfl)))

/-- `stAt0` at a point of case B: that case's contents, over `acc`. -/
theorem stAt0_B (c : Dev nD) (t : Fin cfg0.N) (acc : Vec F S1x1 .f32 × Vec F S1024x1024 .f32 × Vec F S1024x1024 .f32 × Vec F S1024x1 .f32 × Vec F S1x1 .f32) (h0 : ¬t.val % 16 = 0) (h1 : (1 ≤ t.val % 16 ∧ t.val % 16 ≤ 5)) (h2 : ¬6 ≤ t.val) (h3 : ¬t.val % 16 = 15) :
    stAt0 m c t.val t.isLt acc = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) acc.2.1 acc.2.2.1 acc.2.2.2.1 acc.2.2.2.2, sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) acc.2.1 acc.2.2.1 acc.2.2.2.1 acc.2.2.2.2, sout0_B_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) acc.2.1 acc.2.2.1 acc.2.2.2.1 acc.2.2.2.2, sout0_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) acc.2.1 acc.2.2.1 acc.2.2.2.1 acc.2.2.2.2, sout0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) acc.2.1 acc.2.2.1 acc.2.2.2.1 acc.2.2.2.2) :=
  (dif_neg h0).trans ((dif_pos h1).trans ((dif_neg h2).trans ((dif_neg h3).trans rfl)))

/-- `stAt0` at a point of case C: that case's contents, over `acc`. -/
theorem stAt0_C (c : Dev nD) (t : Fin cfg0.N) (acc : Vec F S1x1 .f32 × Vec F S1024x1024 .f32 × Vec F S1024x1024 .f32 × Vec F S1024x1 .f32 × Vec F S1x1 .f32) (h0 : ¬t.val % 16 = 0) (h1 : ¬(1 ≤ t.val % 16 ∧ t.val % 16 ≤ 5)) (h2 : 6 ≤ t.val) (h3 : ¬t.val % 16 = 15) :
    stAt0 m c t.val t.isLt acc = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) acc.2.1 acc.2.2.1 acc.2.2.2.1 acc.2.2.2.2, sout0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) acc.2.1 acc.2.2.1 acc.2.2.2.1 acc.2.2.2.2, sout0_C_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) acc.2.1 acc.2.2.1 acc.2.2.2.1 acc.2.2.2.2, sout0_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) acc.2.1 acc.2.2.1 acc.2.2.2.1 acc.2.2.2.2, sout0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) acc.2.1 acc.2.2.1 acc.2.2.2.1 acc.2.2.2.2) :=
  (dif_neg h0).trans ((dif_neg h1).trans ((dif_pos h2).trans ((dif_neg h3).trans rfl)))

/-- `stAt0` at a point of case D: that case's contents, over `acc`. -/
theorem stAt0_D (c : Dev nD) (t : Fin cfg0.N) (acc : Vec F S1x1 .f32 × Vec F S1024x1024 .f32 × Vec F S1024x1024 .f32 × Vec F S1024x1 .f32 × Vec F S1x1 .f32) (h0 : ¬t.val % 16 = 0) (h1 : ¬(1 ≤ t.val % 16 ∧ t.val % 16 ≤ 5)) (h2 : 6 ≤ t.val) (h3 : t.val % 16 = 15) :
    stAt0 m c t.val t.isLt acc = (out0_D_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) acc.2.1 acc.2.2.1 acc.2.2.2.1 acc.2.2.2.2, sout0_D_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) acc.2.1 acc.2.2.1 acc.2.2.2.1 acc.2.2.2.2, sout0_D_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) acc.2.1 acc.2.2.1 acc.2.2.2.1 acc.2.2.2.2, sout0_D_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) acc.2.1 acc.2.2.1 acc.2.2.2.1 acc.2.2.2.2, sout0_D_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) acc.2.1 acc.2.2.1 acc.2.2.2.1 acc.2.2.2.2) :=
  (dif_neg h0).trans ((dif_neg h1).trans ((dif_pos h2).trans ((dif_pos h3).trans rfl)))

/-- The recursion's successor step is `stAt0`, by definition. -/
theorem outsAt0_succ (c : Dev nD) (n : ℕ) (hn : n + 1 < cfg0.N) :
    outsAt0 m c (n + 1) hn = stAt0 m c (n + 1) hn (outsAt0 m c n (Nat.lt_of_succ_lt hn)) := rfl

/-- At the first point the recursion is `stAt0` from `junk0`: its case (case A) reads nothing back. -/
theorem outsAt0_zero (c : Dev nD) (hn : 0 < cfg0.N) : outsAt0 m c 0 hn = stAt0 m c 0 hn junk0 := by
  rw [stAt0_A m c ⟨0, hn⟩ _ (Nat.zero_mod _) (fun h => by (try dsimp only at h); omega) (fun h => by (try dsimp only at h); omega) (fun h => by (try dsimp only at h); omega)]
  rfl

/-- WHAT THE NAMED OUTPUTS AND THE CARRIED SCRATCH HOLD after point `n`: the fold of `stAt0` from the first point,
    started at `junk0` (Lib/Pipeline/Value.lean `Pipeline.accAt`; by `eq_accAt_of_mod` at one run spanning the grid,
    without enumerating the points). -/
theorem outsAt0_sweep (c : Dev nD) (n : ℕ) (hn : n < cfg0.N) :
    outsAt0 m c n hn = Pipeline.accAt (fun n h => stAt0 m c n h junk0) (stAt0 m c) 0 n (by omega) := by
  have hN := lt_of_lt_of_eq hn (show cfg0.N = 16 from N_0)
  have e := Pipeline.eq_accAt_of_mod (fun n h => outsAt0 m c n h) 16 (fun n h => stAt0 m c n h junk0) (stAt0 m c)
    (fun n h _ => by
      have hN := lt_of_lt_of_eq h (show cfg0.N = 16 from N_0)
      obtain rfl : n = 0 := by omega
      exact outsAt0_zero m c h)
    (fun n h _ => outsAt0_succ m c n h)
    (by decide) n hn (by have := Nat.div_add_mod n 16; omega)
  have hd : n / 16 = 0 := Nat.div_eq_of_lt hN
  have hm : n % 16 = n := Nat.mod_eq_of_lt hN
  simpa only [hd, hm, Nat.mul_zero] using e

/-! ## Accumulated: each named output's array, the carried state's fold read at the window's flushing points -/

/-- Two folds from the first point of equal length are one (the bound's proof does not enter). -/
theorem fold0_congr (c : Dev nD) : ∀ (j : ℕ) (h : 0 + j < cfg0.N) (j' : ℕ) (h' : 0 + j' < cfg0.N), j = j' →
    Pipeline.accAt (fun n h => stAt0 m c n h junk0) (stAt0 m c) 0 j h = Pipeline.accAt (fun n h => stAt0 m c n h junk0) (stAt0 m c) 0 j' h' := by
  intro j h j' h' hj; subst hj; rfl

/-! ## Output window 4 -/

/-- The block of the array that holds index `i`, numbered in the order the points write the blocks back (one every 16 points),
    `i`'s place in it, and the point that writes it back (the last of its 16). -/
abbrev run4Of (i : S1x1.Idx) : ℕ := 1 * ((i 0).val / 1 - 0) + 1 * ((i 1).val / 1 - 0)
set_option backward.proofsInPublic true in
abbrev loc4Of (i : S1x1.Idx) : S1x1.Idx := fun a => match a with
  | ⟨0, _⟩ => ⟨(i 0).val % 1, Nat.mod_lt _ (by decide)⟩
  | ⟨1, _⟩ => ⟨(i 1).val % 1, Nat.mod_lt _ (by decide)⟩
abbrev pt4Of (i : S1x1.Idx) : ℕ := 16 * run4Of i + 15

/-- WHAT THE ARRAY ENDS HOLDING at index `i` inside the box the flushing blocks fill: output 4's component of the carried
    state's fold at the point that writes `i`'s block back, at `i`'s place in the block. `G4` states the array's contents
    only inside the box. -/
def G4 (c : Dev nD) : Buf (Elt F) ((c : Thread nD τ).loc main_v164) := fun i =>
  if h : pt4Of i < cfg0.N then
    (Pipeline.accAt (fun n h => stAt0 m c n h junk0) (stAt0 m c) 0 (pt4Of i) (by omega)).1 (loc4Of i)
  else V m c (Pipeline.arrRef spec0 4) i

/-- The printed index map, decided over the grid: output window 4's block indices stay in the box, and the block number
    read off them is the point's (`t / 16`). -/
theorem idx_facts4 : ∀ t : Fin cfg0.N, 0 ≤ win0_4.index t (0 : Fin 2) ∧ win0_4.index t (0 : Fin 2) ≤ 0
    ∧ 0 ≤ win0_4.index t (1 : Fin 2) ∧ win0_4.index t (1 : Fin 2) ≤ 0
    ∧ 1 * (win0_4.index t (0 : Fin 2) - 0) + 1 * (win0_4.index t (1 : Fin 2) - 0) = t.val / 16 :=
  (by decide +kernel : ∀ t : Fin grid0.N, _)

/-- Every block of the box is SOME flushing point's: `onto4Pt`, the point that writes back the block at place `q` of the box (the last point of its run). -/
abbrev onto4Pt (q0 : Fin 1) (q1 : Fin 1) : Fin grid0.N :=
  ⟨16 * (1 * q0.val + 1 * q1.val) + 15, lt_of_lt_of_eq (by omega) N_0.symm⟩
theorem idx_onto4 : ∀ (q0 : Fin 1) (q1 : Fin 1), ∃ t : Fin cfg0.N, (cfg0.win 4).flush t = true ∧ win0_4.index t = ![q0.val + 0, q1.val + 0] :=
  fun q0 q1 => ⟨onto4Pt q0 q1, (by decide +kernel : ∀ (q0 : Fin 1) (q1 : Fin 1), win0_4.flush (onto4Pt q0 q1) = true ∧ win0_4.index (onto4Pt q0 q1) = ![q0.val + 0, q1.val + 0]) q0 q1⟩

/-- WHAT A FLUSHING POINT `t` WRITES BACK is block `t` of `G4`: output 4's component of the fold up to `t`. -/
theorem flushed4_eq (c : Dev nD) (t : Fin cfg0.N) (hf : (cfg0.win 4).flush t = true) :
    (dats m 0 c).flushed 4 t = ((cfg0.win 4).blk t).view.read (Elt F) (G4 m c) := by
  show (cfg0.win 4).cut (grid0.coords t) ((dats m 0 c).after 4 t) = _
  rw [after0_4, outsAt0_sweep]
  have hm : t.val % 16 = 15 := (flush0_4 t).mp hf
  obtain ⟨e0, e1, e2⟩ := idx_facts4 t
  funext y
  have hy0 : (y 0).val < 1 := (y 0).isLt
  have hy1 : (y 1).val < 1 := (y 1).isLt
  have hb0 : (((cfg0.win 4).blk t).view.emb y 0).val = win0_4.index t (0 : Fin 2) * 1 + 1 * (y 0).val := rfl
  have hb1 : (((cfg0.win 4).blk t).view.emb y 1).val = win0_4.index t (1 : Fin 2) * 1 + 1 * (y 1).val := rfl
  have hr : run4Of (((cfg0.win 4).blk t).view.emb y) = t.val / 16 := by
    show 1 * ((((cfg0.win 4).blk t).view.emb y 0).val / 1 - 0) + 1 * ((((cfg0.win 4).blk t).view.emb y 1).val / 1 - 0) = _
    rw [hb0, hb1]
    rw [show (win0_4.index t (0 : Fin 2) * 1 + 1 * (y 0).val) / 1 = win0_4.index t (0 : Fin 2) from by omega]; rw [show (win0_4.index t (1 : Fin 2) * 1 + 1 * (y 1).val) / 1 = win0_4.index t (1 : Fin 2) from by omega]
    omega
  have hl : loc4Of (((cfg0.win 4).blk t).view.emb y) = (cfg0.win 4).xinj (grid0.coords t) y := by
    funext a; apply Fin.ext
    match a with
    | ⟨0, _⟩ => show (((cfg0.win 4).blk t).view.emb y 0).val % 1 = (y 0).val; rw [hb0]; omega
    | ⟨1, _⟩ => show (((cfg0.win 4).blk t).view.emb y 1).val % 1 = (y 1).val; rw [hb1]; omega
  have hp : pt4Of (((cfg0.win 4).blk t).view.emb y) = t.val := by
    show 16 * run4Of (((cfg0.win 4).blk t).view.emb y) + 15 = _
    rw [hr]; have := Nat.div_add_mod t.val 16; omega
  show (Pipeline.accAt (fun n h => stAt0 m c n h junk0) (stAt0 m c) 0 t.val _).1 ((cfg0.win 4).xinj (grid0.coords t) y) = G4 m c (((cfg0.win 4).blk t).view.emb y)
  unfold G4
  rw [dif_pos (by rw [hp]; exact t.isLt), hl, fold0_congr m c _ _ _ _ hp.symm]

/-- An index of the array is in point `t`'s block iff each coordinate is in the block's range on its axis. -/
theorem mem_blk4 (t : Fin cfg0.N) (i : S1x1.Idx) :
    i ∈ ((cfg0.win 4).blk t).view.set ↔ ∀ a : Fin 2, win0_4.index t a * S1x1.size a ≤ (i a).val ∧ (i a).val < win0_4.index t a * S1x1.size a + S1x1.size a := by
  show i ∈ ((View.whole main_v164).slice (win0_4.rect t)).set ↔ _
  rw [View.set_slice_whole, Rect.mem_set_unit]
  exact Iff.rfl

/-- THE COVERED INDICES: in some flushing point's block iff inside the box those blocks fill. -/
theorem covered_iff4 (i : S1x1.Idx) :
    (∃ t : Fin cfg0.N, (cfg0.win 4).flush t = true ∧ i ∈ ((cfg0.win 4).blk t).view.set) ↔ 0 ≤ (i 0).val ∧ (i 0).val < 1 ∧ 0 ≤ (i 1).val ∧ (i 1).val < 1 := by
  constructor
  · rintro ⟨t, -, hi⟩
    rw [mem_blk4] at hi
    have b0 : win0_4.index t (0 : Fin 2) * 1 ≤ (i 0).val ∧ (i 0).val < win0_4.index t (0 : Fin 2) * 1 + 1 := hi 0
    have b1 : win0_4.index t (1 : Fin 2) * 1 ≤ (i 1).val ∧ (i 1).val < win0_4.index t (1 : Fin 2) * 1 + 1 := hi 1
    obtain ⟨e0, e1, e2⟩ := idx_facts4 t
    omega
  · intro h
    have hi0 : (i 0).val < 1 := (i 0).isLt
    have hi1 : (i 1).val < 1 := (i 1).isLt
    obtain ⟨t, hft, ht⟩ := idx_onto4 ⟨(i 0).val / 1 - 0, by omega⟩ ⟨(i 1).val / 1 - 0, by omega⟩
    have q0 : win0_4.index t (0 : Fin 2) = (i 0).val / 1 - 0 + 0 := congrFun ht 0
    have q1 : win0_4.index t (1 : Fin 2) = (i 1).val / 1 - 0 + 0 := congrFun ht 1
    refine ⟨t, hft, ?_⟩
    rw [mem_blk4]
    intro a
    match a with
    | ⟨0, _⟩ => show win0_4.index t (0 : Fin 2) * 1 ≤ (i 0).val ∧ (i 0).val < win0_4.index t (0 : Fin 2) * 1 + 1; omega
    | ⟨1, _⟩ => show win0_4.index t (1 : Fin 2) * 1 ≤ (i 1).val ∧ (i 1).val < win0_4.index t (1 : Fin 2) * 1 + 1; omega

/-- THE ARRAY after the run: `G4` (the flushing blocks tile it). -/
theorem final4 (c : Dev nD) : (dats m 0 c).arrAt 4 cfg0.N = G4 m c :=
  (dats m 0 c).arrAt_eq_of_cover 4 _ (fun t hf => flushed4_eq m c t hf) (fun i => (covered_iff4 i).2 (by
    have h0 : (i 0).val < 1 := (i 0).isLt; have h1 : (i 1).val < 1 := (i 1).isLt; omega))

/-- Output 4 is written back ONCE, at the last point, and its block is its array: the array after the run is output 4's
    component of the fold over the whole grid — where a hand proof over this window starts. -/
theorem G4_last (c : Dev nD) :
    G4 m c = (Pipeline.accAt (fun n h => stAt0 m c n h junk0) (stAt0 m c) 0 15 (lt_of_lt_of_eq (by decide) N_0.symm)).1 := by
  funext i
  have hi0 : (i 0).val < 1 := (i 0).isLt
  have hi1 : (i 1).val < 1 := (i 1).isLt
  have hp : pt4Of i = 15 := by
    show 16 * (1 * ((i 0).val / 1 - 0) + 1 * ((i 1).val / 1 - 0)) + 15 = _
    omega
  have hl : loc4Of i = i := by
    funext a; apply Fin.ext
    match a with
    | ⟨0, _⟩ => show (i 0).val % 1 = (i 0).val; omega
    | ⟨1, _⟩ => show (i 1).val % 1 = (i 1).val; omega
  unfold G4
  rw [dif_pos (by rw [hp]; exact lt_of_lt_of_eq (by decide) N_0.symm), hl, fold0_congr m c _ _ _ _ hp]

/-! ## The run, read -/

/-- The frame run re-posted: each output array at the fold the runs leave in it, the arguments unchanged. -/
theorem run : θ_run defs (onTc (τ := τ) (main (F := F))) ⟨m, fun _ => 0, ρ⟩ fun r => ∀ c : Dev nD,
      r.2.mem ((c : Thread nD τ).loc main_v164) = G4 m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(post4 m r h c).trans (final4 m c),
      kept_main_arg0 m r h c,
      kept_main_arg1 m r h c⟩)
    (run_main m ρ)

end Cert.KernelIdeal.Value

end
-- ==== Proof.Math.Spec.lean ====
/- The loss as functions of single extended reals: the score, the log-weight, the weight, the sampling key, the
   contribution of a sample. Both programs are read to these functions, so the rest of the proof compares the two
   programs' values at one name each. The constants stay the words the programs print; the few facts needed about
   them are proved here once. -/
module

public import Idealize.ShloMosaic.PureOps.Ideal
public import Idealize.ShloMosaic.PureOps.Ideal.Laws

@[expose] public section

noncomputable section

namespace Cert.Loss

open Idealize.ShloMosaic
open scoped BigOperators

/-- `-0.03`. -/
abbrev cCut : EReal := Ideal.ofBits .f32 0xBCF5C28F#32
/-- `0.09`, the margin and the cutoff of the second weight. -/
abbrev cNine : EReal := Ideal.ofBits .f32 0x3DB851EC#32
/-- `1e-10`. -/
abbrev cTen : EReal := Ideal.ofBits .f32 0x2EDBE6FF#32
/-- `1e-20`. -/
abbrev cTwenty : EReal := Ideal.ofBits .f32 0x1E3CE508#32
/-- `2 - 1024`. -/
abbrev cA : EReal := Ideal.ofBits .f32 0xC47F8000#32
/-- `(1024 - 3) / 2`. -/
abbrev cB : EReal := Ideal.ofBits .f32 0x43FF4000#32
/-- `0.25`. -/
abbrev cQuarter : EReal := Ideal.ofBits .f32 0x3E800000#32

theorem one_f32 : Ideal.ofBits .f32 0x3F800000#32 = 1 := by
  simp [Ideal.ofBits, Ideal.ieee, -EReal.coe_mul]; norm_num

theorem two_f32 : Ideal.ofBits .f32 0x40000000#32 = ((2 : ℝ) : EReal) := by
  simp [Ideal.ofBits, Ideal.ieee, -EReal.coe_mul]; norm_num

theorem n1024_f32 : Ideal.ofBits .f32 0x44800000#32 = ((1024 : ℝ) : EReal) := by
  simp [Ideal.ofBits, Ideal.ieee, -EReal.coe_mul]; norm_num

theorem inv1024_f32 : Ideal.ofBits .f32 0x3A800000#32 = ((1 / 1024 : ℝ) : EReal) := by
  simp [Ideal.ofBits, Ideal.ieee, -EReal.coe_mul]; norm_num

theorem negInf_f32 : Ideal.ofBits .f32 0xFF800000#32 = ⊥ := by
  simp [Ideal.ofBits, Ideal.ieee]

theorem cTen_real : ∃ r : ℝ, 0 < r ∧ r ≤ 1 ∧ cTen = (r : EReal) := by
  refine ⟨_, ?_, ?_, by simp [Ideal.ofBits, Ideal.ieee, -EReal.coe_mul]; rfl⟩ <;> norm_num

theorem cTwenty_real : ∃ r : ℝ, 0 < r ∧ cTwenty = (r : EReal) := by
  refine ⟨_, ?_, by simp [Ideal.ofBits, Ideal.ieee, -EReal.coe_mul]; rfl⟩; norm_num

theorem cCut_bot : (⊥ : EReal) < cCut := by
  have h : ∃ r : ℝ, cCut = (r : EReal) := ⟨_, by simp [Ideal.ofBits, Ideal.ieee, -EReal.coe_mul]; rfl⟩
  obtain ⟨r, e⟩ := h
  rw [e]; exact EReal.bot_lt_coe r

theorem tiny_real : ∃ r : ℝ, 0 < r ∧ r < 1 ∧ Ideal.ofBits .f32 0x00800000#32 = (r : EReal) := by
  refine ⟨(2 : ℝ) ^ (-126 : ℤ), by positivity, by norm_num, ?_⟩
  simp [Ideal.ofBits, Ideal.ieee, -EReal.coe_mul]; norm_num

/-- A distance's score. -/
def score (x : EReal) : EReal := 1 - x

theorem score_eq (x : EReal) : -x + 1 = score x := by
  rw [score, sub_eq_add_neg, add_comm]

/-- The score the weight is taken of: a score too far below the row's own is replaced by `1e-10`. -/
def st (x g : EReal) : EReal := if score x - score g < cCut then cTen else score x

/-- The log-weight. -/
def lw (x g : EReal) : EReal := cA * Ideal.log (st x g) - cB * Ideal.log (1 - cQuarter * (st x g * st x g))

theorem st_ne_bot (x g : EReal) : st x g ≠ ⊥ := by
  unfold st
  split_ifs with h
  · obtain ⟨r, _, _, e⟩ := cTen_real
    rw [e]; exact EReal.coe_ne_bot r
  · intro hb
    rw [hb, sub_eq_add_neg, EReal.bot_add] at h
    exact h cCut_bot

/-- The square that the reference takes as a power is the product. -/
theorem pow_two (x : EReal) (h : x ≠ ⊥) : Ideal.pow x ((2 : ℝ) : EReal) = x * x := by
  induction x using EReal.rec with
  | bot => exact absurd rfl h
  | top =>
    have h2 : (0 : EReal) < ((2 : ℝ) : EReal) := EReal.coe_pos.mpr two_pos
    have e : Ideal.pow ⊤ ((2 : ℝ) : EReal) = ⊤ := if_pos h2
    rw [e, EReal.top_mul_top]
  | coe r =>
    have e : Ideal.pow (r : EReal) ((2 : ℝ) : EReal) = ((r ^ (2 : ℝ) : ℝ) : EReal) := rfl
    rw [e, Real.rpow_two, sq, EReal.coe_mul]

/-- The weight before normalisation: none on the diagonal. -/
def wt (m x g : EReal) (d : Prop) [Decidable d] : EReal :=
  (if d then 0 else Ideal.exp (lw x g - m)) * (if cNine < score x - score g then 1 else cTen)

/-- The normalised weight, over the row's sum `s`, moved away from zero: what the sampling divides by. -/
def qv (w s : EReal) : EReal := Ideal.div w (s + cTen) + cTwenty

theorem exp_unit {l m : EReal} (h : l ≤ m) : ∃ r : ℝ, 0 ≤ r ∧ r ≤ 1 ∧ Ideal.exp (l - m) = (r : EReal) := by
  have key : l - m = ⊥ ∨ ∃ r : ℝ, r ≤ 0 ∧ l - m = (r : EReal) := by
    induction l using EReal.rec with
    | bot => left; simp [sub_eq_add_neg]
    | top =>
      left; rw [top_le_iff.mp h]; simp [sub_eq_add_neg]
    | coe a =>
      induction m using EReal.rec with
      | bot => exact absurd h (by simp)
      | top => left; simp
      | coe b =>
        right
        refine ⟨a - b, ?_, by rw [EReal.coe_sub]⟩
        have := EReal.coe_le_coe_iff.mp h
        linarith
  rcases key with h | ⟨r, hr, h⟩
  · exact ⟨0, le_refl _, zero_le_one, by rw [h]; rfl⟩
  · refine ⟨Real.exp r, (Real.exp_pos r).le, Real.exp_le_one_iff.mpr hr, ?_⟩
    rw [h]; rfl

/-- A weight is a non-negative real. -/
theorem wt_real {m x g : EReal} (d : Prop) [Decidable d] (h : lw x g ≤ m) :
    ∃ r : ℝ, 0 ≤ r ∧ wt m x g d = (r : EReal) := by
  obtain ⟨t, ht, _, et⟩ := cTen_real
  obtain ⟨a, ha, _, ea⟩ := exp_unit h
  unfold wt
  split_ifs
  · exact ⟨0, le_refl _, by simp⟩
  · exact ⟨0, le_refl _, by simp⟩
  · exact ⟨a, ha, by rw [ea, mul_one]⟩
  · exact ⟨a * t, mul_nonneg ha ht.le, by rw [ea, et, EReal.coe_mul]⟩

/-- A sum of non-negative reals is one. -/
theorem sum_real {ι : Type} (s : Finset ι) (f : ι → EReal) (h : ∀ i, ∃ r : ℝ, 0 ≤ r ∧ f i = (r : EReal)) :
    ∃ r : ℝ, 0 ≤ r ∧ ∑ i ∈ s, f i = (r : EReal) := by
  classical
  induction s using Finset.induction_on with
  | empty => exact ⟨0, le_refl _, by simp⟩
  | insert a s ha ih =>
    obtain ⟨r, hr, e⟩ := ih
    obtain ⟨q, hq, eq⟩ := h a
    exact ⟨q + r, add_nonneg hq hr, by rw [Finset.sum_insert ha, e, eq, EReal.coe_add]⟩

theorem qv_real {w s : EReal} (hw : ∃ r : ℝ, 0 ≤ r ∧ w = (r : EReal)) (hs : ∃ r : ℝ, 0 ≤ r ∧ s = (r : EReal)) :
    ∃ r : ℝ, 0 < r ∧ qv w s = (r : EReal) := by
  obtain ⟨a, ha, rfl⟩ := hw
  obtain ⟨b, hb, rfl⟩ := hs
  obtain ⟨t, ht, _, et⟩ := cTen_real
  obtain ⟨q, hq, eq⟩ := cTwenty_real
  have hne : b + t ≠ 0 := (add_pos_of_nonneg_of_pos hb ht).ne'
  refine ⟨a * (1 / (b + t)) + q, add_pos_of_nonneg_of_pos (mul_nonneg ha ?_) hq, ?_⟩
  · exact (one_div_pos.mpr (add_pos_of_nonneg_of_pos hb ht)).le
  · rw [qv, et, eq, ← EReal.coe_add, Ideal.div_coe hne, ← EReal.coe_mul, ← EReal.coe_add]

/-- `j` is the first place where `f` is greatest. -/
def IsFirst {n : Nat} (f : Fin n → EReal) (j : Fin n) : Prop := (∀ k, f k ≤ f j) ∧ ∀ k, k < j → f k < f j

theorem IsFirst.unique {n : Nat} {f : Fin n → EReal} {i j : Fin n} (hi : IsFirst f i) (hj : IsFirst f j) : i = j := by
  rcases lt_trichotomy i j with h | h | h
  · exact absurd (hj.2 i h) (not_lt.mpr (hi.1 j))
  · exact h
  · exact absurd (hi.2 j h) (not_lt.mpr (hj.1 i))

theorem exists_isFirst {n : Nat} (f : Fin (n + 1) → EReal) : ∃ j, IsFirst f j := by
  classical
  obtain ⟨m, _, hm⟩ := Finset.exists_max_image Finset.univ f ⟨0, Finset.mem_univ _⟩
  have hne : (Finset.univ.filter fun j => f j = f m).Nonempty := ⟨m, by simp⟩
  refine ⟨(Finset.univ.filter fun j => f j = f m).min' hne, ?_, ?_⟩
  · have := (Finset.mem_filter.mp (Finset.min'_mem _ hne)).2
    intro k; rw [this]; exact hm k (Finset.mem_univ _)
  · have he := (Finset.mem_filter.mp (Finset.min'_mem _ hne)).2
    intro k hk
    rw [he]
    refine lt_of_le_of_ne (hm k (Finset.mem_univ _)) fun e => ?_
    exact absurd (Finset.min'_le _ k (by simp [e])) (not_le.mpr hk)

/-- The first place where `f` is greatest. -/
def firstMax {n : Nat} (f : Fin (n + 1) → EReal) : Fin (n + 1) := (exists_isFirst f).choose

theorem firstMax_spec {n : Nat} (f : Fin (n + 1) → EReal) : IsFirst f (firstMax f) := (exists_isFirst f).choose_spec

theorem IsFirst.eq_firstMax {n : Nat} {f : Fin (n + 1) → EReal} {j} (h : IsFirst f j) : j = firstMax f :=
  h.unique (firstMax_spec f)

theorem log_coe {r : ℝ} (h : 0 < r) : Ideal.log (r : EReal) = ((Real.log r : ℝ) : EReal) :=
  if_neg (not_le.mpr h)

/-- Two functions that order the places alike have the same first greatest place. -/
theorem IsFirst.congr {n : Nat} {f g : Fin n → EReal} (h : ∀ i j, f i ≤ f j ↔ g i ≤ g j) {j : Fin n}
    (hf : IsFirst f j) : IsFirst g j :=
  ⟨fun k => (h k j).mp (hf.1 k), fun k hk => not_le.mp fun hle => not_le.mpr (hf.2 k hk) ((h j k).mpr hle)⟩

/-- The kernel's sampling key: the log of the uniform number over the weight. -/
def rkey (l q : EReal) : EReal := l * Ideal.div 1 q

/-- The reference's: the log-weight plus Gumbel noise. -/
def zkey (l q : EReal) : EReal := -Ideal.log (-l) + Ideal.log q

/-- The two keys order the places alike: the reference's is `log (q / -l)`, the kernel's `-1 / (q / -l)`. -/
theorem key_le_iff {a b p q : ℝ} (ha : a < 0) (hb : b < 0) (hp : 0 < p) (hq : 0 < q) :
    zkey a p ≤ zkey b q ↔ rkey a p ≤ rkey b q := by
  have e : ∀ l v : ℝ, l < 0 → 0 < v → zkey l v = ((Real.log (v / -l) : ℝ) : EReal) := by
    intro l v hl hv
    unfold zkey
    rw [← EReal.coe_neg, log_coe (by linarith : 0 < -l), log_coe hv, ← EReal.coe_neg, ← EReal.coe_add, Real.log_div hv.ne' (by linarith)]
    congr 1; ring
  have e' : ∀ l v : ℝ, l < 0 → 0 < v → rkey l v = ((l / v : ℝ) : EReal) := by
    intro l v hl hv
    unfold rkey
    rw [Ideal.div_coe hv.ne', one_mul, ← EReal.coe_mul]
    congr 1; ring
  rw [e a p ha hp, e b q hb hq, e' a p ha hp, e' b q hb hq, EReal.coe_le_coe_iff, EReal.coe_le_coe_iff]
  rw [Real.log_le_log_iff (div_pos hp (by linarith)) (div_pos hq (by linarith)),
    div_le_div_iff₀ (by linarith) (by linarith), div_le_div_iff₀ hp hq]
  constructor <;> intro h <;> nlinarith

/-- A sample's contribution, of the row's own score and the sampled distance. -/
def contrib (o x : EReal) : EReal := max ((cNine + score o) - score x) 0

theorem contrib_nonneg (o x : EReal) : 0 ≤ contrib o x := le_max_right _ _

end Cert.Loss

end
-- ==== Proof.Math.FirstWord.lean ====
/- The first greatest place as the kernel computes it: the least index word among the places that equal the row's
   maximum, and the entry it selects as a sum with one term. -/
module

public import proofs.«01_k».proof.Proof.Math.Spec
public import Idealize.ShloMosaic.Lib.Pointwise

@[expose] public section

noncomputable section

namespace Cert.Loss

open Idealize.ShloMosaic

/-- The maximum folded from minus infinity is the value at the first greatest place. -/
theorem fold_max_eq {n : Nat} (f : Fin (n + 1) → EReal) :
    Finset.fold max (Ideal.ofBits .f32 0xFF800000#32) f Finset.univ = f (firstMax f) := by
  rw [negInf_f32]
  apply le_antisymm
  · exact (Finset.fold_max_le (f (firstMax f))).mpr ⟨bot_le, fun x _ => (firstMax_spec f).1 x⟩
  · exact (Finset.le_fold_max (f (firstMax f))).mpr (.inr ⟨_, Finset.mem_univ _, le_refl _⟩)

theorem toInt_minsi (a b : BitVec 32) : (IntOp.minsi a b).toInt = min a.toInt b.toInt := by
  unfold IntOp.minsi
  by_cases h : a.slt b = true
  · have := BitVec.slt_iff_toInt_lt.mp h
    simp only [h, if_true]; omega
  · have := mt BitVec.slt_iff_toInt_lt.mpr h
    simp only [h]; simp; omega

theorem toInt_ofNat_small {n : Nat} (h : n < 2 ^ 31) : (BitVec.ofNat 32 n).toInt = n := by
  rw [BitVec.toInt_eq_toNat_of_lt] <;> simp only [BitVec.toNat_ofNat] <;> omega

/-- The least index word among the places equal to the maximum is the first greatest place's. -/
theorem fold_minsi_eq (f : Fin 1024 → EReal) :
    Finset.fold IntOp.minsi (2147483647#32)
        (fun x => if f x = Finset.fold max (Ideal.ofBits .f32 0xFF800000#32) f Finset.univ then BitVec.ofNat 32 x.val
          else 1073741824#32) Finset.univ = BitVec.ofNat 32 (firstMax f).val := by
  rw [fold_max_eq]
  apply BitVec.eq_of_toInt_eq
  have hk := (firstMax f).isLt
  have ek : (BitVec.ofNat 32 (firstMax f).val).toInt = (firstMax f).val := toInt_ofNat_small (by omega)
  rw [← Finset.fold_hom (op' := min) toInt_minsi, ek]
  apply le_antisymm
  · refine (Finset.fold_min_le _).mpr (.inr ⟨firstMax f, Finset.mem_univ _, ?_⟩)
    rw [if_pos rfl, ek]
  · refine (Finset.le_fold_min _).mpr ⟨?_, fun x _ => ?_⟩
    · have : (2147483647#32).toInt = 2147483647 := rfl
      omega
    · split_ifs with h
      · have ex : (BitVec.ofNat 32 x.val).toInt = x.val := toInt_ofNat_small (by have := x.isLt; omega)
        have : firstMax f ≤ x := not_lt.mp fun hx => absurd h (ne_of_lt ((firstMax_spec f).2 x hx))
        rw [ex]; exact_mod_cast Fin.le_def.mp this
      · have : (1073741824#32).toInt = 1073741824 := rfl
        omega

/-- A sum that selects the place whose index word is `k`'s has one term. -/
theorem sum_select_word {n : Nat} (hn : n ≤ 2 ^ 31) (k : Fin n) (g : Fin n → EReal) :
    (∑ x : Fin n, Scalar.select (IntOp.cmpi .eq (BitVec.ofNat 32 x.val) (BitVec.ofNat 32 k.val)) (g x) 0) = g k := by
  have e : ∀ x : Fin n, Scalar.select (IntOp.cmpi .eq (BitVec.ofNat 32 x.val) (BitVec.ofNat 32 k.val)) (g x) 0
      = if x = k then g x else 0 := by
    intro x
    have hw : (BitVec.ofNat 32 x.val = BitVec.ofNat 32 k.val) ↔ x = k := by
      constructor
      · intro h
        have := congrArg BitVec.toNat h
        simp only [BitVec.toNat_ofNat] at this
        have h1 := x.isLt; have h2 := k.isLt
        exact Fin.ext (by omega)
      · rintro rfl; rfl
    by_cases h : x = k
    · subst h; simp [IntOp.cmpi, Scalar.select]
    · have := mt hw.mp h
      simp [IntOp.cmpi, Scalar.select, h, beq_eq_false_iff_ne.mpr this]
  rw [Finset.sum_congr rfl fun x _ => e x]
  simp

end Cert.Loss

end
-- ==== Proof.Value.Payload.lean ====
/- What the kernel's stored and carried values are, element by element, as the loss's functions of the loaded blocks. -/
module

public import proofs.«01_k».proof.Proof.Gen.KernelIdeal.Skeleton
public import proofs.«01_k».proof.Proof.Math.FirstWord

@[expose] public section

set_option maxRecDepth 16384

noncomputable section

namespace Cert.KernelIdeal.Gen

open Idealize.ShloMosaic Cert.Loss

/-- The log-weight block. -/
theorem pay12_apply (x : FVec Ideal S128x1024 .f32) (g : FVec Ideal S128x1 .f32) (i : Fin 128) (j : Fin 1024) :
    k0_pay12 (F := Ideal) x g (ix2 i j) = lw (x (ix2 i j)) (g (ix2 i 0)) := by
  pointwise [k0_pay12, k0_pay11, lw, st, score]

theorem pay13_apply (x : FVec Ideal S128x1024 .f32) (g : FVec Ideal S128x1 .f32) (i : Fin 128) (j : Fin 1024) :
    k0_pay13 (F := Ideal) x g (ix2 i j) = lw (x (ix2 i j)) (g (ix2 i 0)) := by
  unfold k0_pay13; rw [shapeCast_self, pay12_apply]

/-- The second half's text is the first half's. -/
theorem pay4_eq (x : FVec Ideal S128x1024 .f32) (g : FVec Ideal S128x1 .f32) : k0_pay4 (F := Ideal) x g = k0_pay13 x g := rfl

theorem pay5_eq (m : EReal) (x : FVec Ideal S128x1024 .f32) (g : FVec Ideal S128x1 .f32) :
    k0_pay5 (F := Ideal) m x g = k0_pay2 m (k0_pay12 x g) := rfl

theorem pay8_eq (a : EReal) (t : FVec Ideal S1x128x1024 .f32) (w x : FVec Ideal S128x1024 .f32) (g : FVec Ideal S128x1 .f32) :
    k0_pay8 (F := Ideal) a t w x g = k0_pay6 a t w x g := rfl

/-- The running maximum, by what bounds it. -/
theorem pay2_le (m c : EReal) (b : FVec Ideal S128x1024 .f32) :
    k0_pay2 (F := Ideal) m b ≤ c ↔ m ≤ c ∧ ∀ i : Fin 128, ∀ j : Fin 1024, b (ix2 i j) ≤ c := by
  have e : k0_pay2 (F := Ideal) m b = max m (Finset.fold max (Ideal.ofBits .f32 0xFF800000#32) (fun x : Fin 128 × Fin 1024 => b (ix2 x.1 x.2)) Finset.univ) := by
    pointwise [k0_pay2]
  rw [e, max_le_iff, Finset.fold_max_le, negInf_f32]
  exact and_congr_right fun _ => ⟨fun h i j => h.2 (i, j) (Finset.mem_univ _), fun h => ⟨bot_le, fun x _ => h x.1 x.2⟩⟩

/-- The iotas along the columns and along the rows. -/
abbrev colIota : IVec S128x1024 32 := iota .tc S128x1024 32 [1] iota_S128x1024_d1_w32
abbrev rowIota : IVec S128x1024 32 := iota .tc S128x1024 32 [0] iota_S128x1024_d0_w32

/-- The row word of block `t`'s row `i`. -/
theorem row_word {t : Nat} (ht : t < 8) (i : Fin 128) :
    IntOp.addi (Scalar.muli (Scf.iv 0#32 1#32 t) 128#32) (BitVec.ofNat 32 i.val) = BitVec.ofNat 32 (128 * t + i.val) := by
  apply BitVec.eq_of_toNat_eq
  simp only [IntOp.addi, Scalar.muli, Scf.iv, IntOp.muli, BitVec.toNat_add, BitVec.toNat_mul, BitVec.toNat_ofNat]
  omega

/-- Row `i` of block `t`. -/
def rowAt (t : Nat) (ht : t < 8) (i : Fin 128) : Fin 1024 := ⟨128 * t + i.val, by omega⟩

/-- The diagonal's score with the margin. -/
theorem pay14_apply (t : Fin k0_t1_loop.trips) (ht : t.val < 8) (x : FVec Ideal S128x1024 .f32) (i : Fin 128) :
    k0_pay1 (k0_pay14 (F := Ideal) colIota rowIota 0#32 1#32 t x) (ix2 i 0) = cNine + score (x (ix2 i (rowAt t ht i))) := by
  have e : k0_pay1 (k0_pay14 (F := Ideal) colIota rowIota 0#32 1#32 t x) (ix2 i 0)
      = cNine + ∑ k : Fin 1024, Scalar.select (IntOp.cmpi .eq (BitVec.ofNat 32 k.val)
          (IntOp.addi (Scalar.muli (Scf.iv 0#32 1#32 t.val) 128#32) (BitVec.ofNat 32 i.val))) (1 - x (ix2 i k)) 0 := by
    pointwise [k0_pay1, k0_pay14, k0_pay11]
  rw [e, row_word ht]
  exact congrArg (cNine + ·) (sum_select_word (by norm_num) (rowAt t ht i) fun k => 1 - x (ix2 i k))

/-- A weight as the loaded log-weight `l` gives it. -/
def wl (m l x g : EReal) (d : Prop) [Decidable d] : EReal :=
  (if d then 0 else Ideal.exp (l - m)) * (if cNine < score x - score g then 1 else cTen)

theorem select_row {α : Type} {t : Nat} (ht : t < 8) (i : Fin 128) (j : Fin 1024) (a b : α) :
    Scalar.select (IntOp.cmpi .eq (BitVec.ofNat 32 j.val)
          (IntOp.addi (Scalar.muli (Scf.iv 0#32 1#32 t) 128#32) (BitVec.ofNat 32 i.val))) a b
      = if rowAt t ht i = j then a else b := by
  rw [row_word ht]
  by_cases h : rowAt t ht i = j
  · subst h; simp [IntOp.cmpi, Scalar.select, rowAt]
  · have hw : ¬BitVec.ofNat 32 j.val = BitVec.ofNat 32 (128 * t + i.val) := by
      intro hh
      have := congrArg BitVec.toNat hh
      simp only [BitVec.toNat_ofNat] at this
      have h1 := j.isLt
      exact h (Fin.ext (by simp only [rowAt]; omega))
    simp [IntOp.cmpi, Scalar.select, h, beq_eq_false_iff_ne.mpr hw]

/-- The inverse normalised weight. -/
theorem pay15_apply (m : EReal) (t : Fin k0_t2_loop.trips) (ht : t.val < 8) (x : FVec Ideal S128x1024 .f32)
    (g : FVec Ideal S128x1 .f32) (l : FVec Ideal S128x1024 .f32) (i : Fin 128) (j : Fin 1024) :
    k0_pay15 (F := Ideal) colIota rowIota m 0#32 1#32 t x g l (ix2 i j)
      = Ideal.div 1 (qv (wl m (l (ix2 i j)) (x (ix2 i j)) (g (ix2 i 0)) (rowAt t ht i = j))
          (∑ k : Fin 1024, wl m (l (ix2 i k)) (x (ix2 i k)) (g (ix2 i 0)) (rowAt t ht i = k))) := by
  pointwise [k0_pay15, qv, wl, score]
  simp only [select_row ht, ite_mul, zero_mul]
  rfl

/-- The second half's text is the first half's. -/
theorem pay16_apply (m : EReal) (t : Fin k0_t4_loop.trips) (ht : t.val < 8) (x : FVec Ideal S128x1024 .f32)
    (g : FVec Ideal S128x1 .f32) (l : FVec Ideal S128x1024 .f32) (i : Fin 128) (j : Fin 1024) :
    k0_pay16 (F := Ideal) colIota rowIota m 0#32 1#32 t x g l (ix2 i j)
      = Ideal.div 1 (qv (wl m (l (ix2 i j)) (x (ix2 i j)) (g (ix2 i 0)) (rowAt t ht i = j))
          (∑ k : Fin 1024, wl m (l (ix2 i k)) (x (ix2 i k)) (g (ix2 i 0)) (rowAt t ht i = k))) :=
  pay15_apply m t ht x g l i j

/-- A block of samples' contributions, added to what came before. -/
theorem pay6_apply (a : EReal) (t : FVec Ideal S1x128x1024 .f32) (w x : FVec Ideal S128x1024 .f32) (g : FVec Ideal S128x1 .f32) :
    k0_pay6 (F := Ideal) a t w x g
      = a + ∑ i : Fin 128, max (g (ix2 i 0) - score (x (ix2 i (firstMax fun j : Fin 1024 => t (ix3 0 i j) * w (ix2 i j))))) 0 := by
  pointwise [k0_pay6]
  refine congrArg (a + ·) (Finset.sum_congr rfl fun i _ => ?_)
  rw [fold_minsi_eq fun j : Fin 1024 => t (ix3 0 i j) * w (ix2 i j)]
  rw [sum_select_word (by norm_num) _ fun k => x (ix2 i k)]
  exact Fin.sum_univ_one _

/-- The result. -/
theorem pay10_apply (a : EReal) (j : S1x1.Idx) :
    k0_pay10 (F := Ideal) a j = ((2 : ℝ) : EReal) + a * ((1 / 1024 : ℝ) : EReal) := by
  rw [← two_f32, ← inv1024_f32]; rfl

end Cert.KernelIdeal.Gen

end
-- ==== Proof.Value.Rows.lean ====
/- A loop walks a matrix in eight blocks of 128 rows: how a block is read, what the blocks' writes leave, and how a
   statement about the rows before a block grows by the block. -/
module

public import proofs.«01_k».proof.Proof.Value.Payload
public import Idealize.ShloMosaic.Lib.Pipeline.Value

@[expose] public section

set_option maxRecDepth 16384

noncomputable section

namespace Cert.KernelIdeal.Gen

open Idealize.ShloMosaic Cert.Loss
open Idealize.SL.Sem

/-- Block `t` of a [1024, 1024] buffer, read at row `i` and column `j`. -/
theorem read_rows {M : Memref sig .tc .vmem S1024x1024 .f32} (hM : M.IsWhole) (x : Vec Ideal S1024x1024 .f32)
    {t : Nat} (ht : t < 8) {off : Fin 2 → Nat} (ho : off = ![128 * t, 0]) (inb) (i : Fin 128) (j : Fin 1024) :
    View.readAt (Elt Ideal) M.view (Rect.unit (s := S1024x1024) off S128x1024.size inb).toLoadRect (hM.unread x) (ix2 i j)
      = x (ix2 (rowAt t ht i) j) := by
  subst ho
  rw [View.readAt_eq_ld, hM.read_unread]
  refine congrArg x (funext fun a => Fin.ext ?_)
  match a with
  | ⟨0, _⟩ => show 128 * t + 1 * i.val = 128 * t + i.val; omega
  | ⟨1, _⟩ => show 0 + 1 * j.val = j.val; omega

/-- The same of a column. -/
theorem read_col {M : Memref sig .tc .vmem S1024x1 .f32} (hM : M.IsWhole) (x : Vec Ideal S1024x1 .f32)
    {t : Nat} (ht : t < 8) {off : Fin 2 → Nat} (ho : off = ![128 * t, 0]) (inb) (i : Fin 128) :
    View.readAt (Elt Ideal) M.view (Rect.unit (s := S1024x1) off S128x1.size inb).toLoadRect (hM.unread x) (ix2 i 0)
      = x (ix2 (rowAt t ht i) 0) := by
  subst ho
  rw [View.readAt_eq_ld, hM.read_unread]
  refine congrArg x (funext fun a => Fin.ext ?_)
  match a with
  | ⟨0, _⟩ => show 128 * t + 1 * i.val = 128 * t + i.val; omega
  | ⟨1, _⟩ => rfl

/-- The same of one slab of the table. -/
theorem read_slab {M : Memref sig .tc .vmem S1x1024x1024 .f32} (hM : M.IsWhole) (x : Vec Ideal S1x1024x1024 .f32)
    {t : Nat} (ht : t < 8) {off : Fin 3 → Nat} (ho : off = ![0, 128 * t, 0]) (inb) (i : Fin 128) (j : Fin 1024) :
    View.readAt (Elt Ideal) M.view (Rect.unit (s := S1x1024x1024) off S1x128x1024.size inb).toLoadRect (hM.unread x) (ix3 0 i j)
      = x (ix3 0 (rowAt t ht i) j) := by
  subst ho
  rw [View.readAt_eq_ld, hM.read_unread]
  refine congrArg x (funext fun a => Fin.ext ?_)
  match a with
  | ⟨0, _⟩ => rfl
  | ⟨1, _⟩ => show 128 * t + 1 * i.val = 128 * t + i.val; omega
  | ⟨2, _⟩ => show 0 + 1 * j.val = j.val; omega

/-- Every write in the list writes `G`. -/
def Agrees {S : Shape} (L : List (View.Piece (Elt Ideal) S .f32)) (G : Vec Ideal S .f32) : Prop :=
  ∀ p ∈ L, ∀ x : p.1.shape.Idx, p.2 x = G (p.1.emb x)

theorem Agrees.nil {S : Shape} (G : Vec Ideal S .f32) : Agrees [] G := fun _ h => absurd h List.not_mem_nil

theorem Agrees.rows {L : List (View.Piece (Elt Ideal) S1024x1024 .f32)} {G : Vec Ideal S1024x1024 .f32} (h : Agrees L G)
    {t : Nat} (ht : t < 8) {off : Fin 2 → Nat} (ho : off = ![128 * t, 0]) (inb) (w : Vec Ideal S128x1024 .f32)
    (hw : ∀ i : Fin 128, ∀ j : Fin 1024, w (ix2 i j) = G (ix2 (rowAt t ht i) j)) :
    Agrees ((⟨Rect.unit (s := S1024x1024) off S128x1024.size inb, w⟩ : View.Piece (Elt Ideal) S1024x1024 .f32) :: L) G := by
  subst ho
  intro p hp
  rcases List.mem_cons.mp hp with rfl | hp
  · intro x
    have ex : x = ix2 (x 0) (x 1) := funext fun a => match a with | ⟨0, _⟩ => rfl | ⟨1, _⟩ => rfl
    refine (congrArg w ex).trans ((hw (x 0) (x 1)).trans (congrArg G (funext fun a => Fin.ext ?_)))
    match a with
    | ⟨0, _⟩ => show 128 * t + (x 0).val = 128 * t + 1 * (x 0).val; omega
    | ⟨1, _⟩ => show (x 1).val = 0 + 1 * (x 1).val; omega
  · exact h p hp

theorem Agrees.col {L : List (View.Piece (Elt Ideal) S1024x1 .f32)} {G : Vec Ideal S1024x1 .f32} (h : Agrees L G)
    {t : Nat} (ht : t < 8) {off : Fin 2 → Nat} (ho : off = ![128 * t, 0]) (inb) (w : Vec Ideal S128x1 .f32)
    (hw : ∀ i : Fin 128, w (ix2 i 0) = G (ix2 (rowAt t ht i) 0)) :
    Agrees ((⟨Rect.unit (s := S1024x1) off S128x1.size inb, w⟩ : View.Piece (Elt Ideal) S1024x1 .f32) :: L) G := by
  subst ho
  intro p hp
  rcases List.mem_cons.mp hp with rfl | hp
  · intro x
    have ex : x = ix2 (x 0) 0 := funext fun a => match a with | ⟨0, _⟩ => rfl | ⟨1, _⟩ => Subsingleton.elim (α := Fin 1) _ _
    refine (congrArg w ex).trans ((hw (x 0)).trans (congrArg G (funext fun a => ?_)))
    match a with
    | ⟨0, _⟩ => exact Fin.ext (by show 128 * t + (x 0).val = 128 * t + 1 * (x 0).val; omega)
    | ⟨1, _⟩ => exact Subsingleton.elim (α := Fin 1) _ _
  · exact h p hp

/-- Writes that agree with `G` and cover the buffer leave `G`, whatever was written before them. -/
theorem Agrees.canon_append {S : Shape} {G : Vec Ideal S .f32} (L' : List (View.Piece (Elt Ideal) S .f32)) :
    ∀ {L : List (View.Piece (Elt Ideal) S .f32)}, Agrees L G → (∀ y, ∃ p ∈ L, y ∈ p.1.set) → View.canon (L ++ L') = G := by
  intro L h hc
  funext y
  have hy := hc y
  clear hc
  induction L with
  | nil => obtain ⟨p, hp, _⟩ := hy; exact absurd hp List.not_mem_nil
  | cons p L ih =>
    rw [List.cons_append]
    by_cases hm : y ∈ p.1.set
    · obtain ⟨x, rfl⟩ := p.1.exists_idx_of_mem hm
      rw [show p.1.idx x = p.1.emb x from rfl, View.canon_cons_emb]
      exact h p List.mem_cons_self x
    · rw [View.canon_cons_of_not_mem _ _ hm]
      refine ih (fun q hq => h q (List.mem_cons_of_mem _ hq)) ?_
      obtain ⟨q, hq, hyq⟩ := hy
      rcases List.mem_cons.mp hq with rfl | hq'
      · exact absurd hyq hm
      · exact ⟨q, hq', hyq⟩

theorem Agrees.canon {S : Shape} {G : Vec Ideal S .f32} {L : List (View.Piece (Elt Ideal) S .f32)} (h : Agrees L G)
    (hc : ∀ y, ∃ p ∈ L, y ∈ p.1.set) : View.canon L = G := by
  have := h.canon_append [] hc
  rwa [List.append_nil] at this

theorem exists_rowAt {t : Nat} (ht : t < 8) {r : Fin 1024} (h1 : r.val < 128 * (t + 1)) (h2 : ¬r.val < 128 * t) :
    ∃ i : Fin 128, r = rowAt t ht i :=
  ⟨⟨r.val - 128 * t, by omega⟩, Fin.ext (by simp only [rowAt]; omega)⟩

/-- A statement about the rows before block `t + 1`: about those before block `t`, and about block `t`'s. -/
theorem rows_succ {t : Nat} (ht : t < 8) (P : Fin 1024 → Prop) :
    (∀ r : Fin 1024, r.val < 128 * (t + 1) → P r) ↔ (∀ r : Fin 1024, r.val < 128 * t → P r) ∧ ∀ i : Fin 128, P (rowAt t ht i) := by
  constructor
  · exact fun h => ⟨fun r hr => h r (by omega), fun i => h _ (by have := i.isLt; simp only [rowAt]; omega)⟩
  · rintro ⟨h, h'⟩ r hr
    by_cases h2 : r.val < 128 * t
    · exact h r h2
    · obtain ⟨i, rfl⟩ := exists_rowAt ht hr h2
      exact h' i

/-- The same of a sum. -/
theorem sum_rows_succ {t : Nat} (ht : t < 8) (f : Fin 1024 → EReal) :
    (∑ r ∈ Finset.univ.filter (fun r : Fin 1024 => r.val < 128 * (t + 1)), f r)
      = (∑ r ∈ Finset.univ.filter (fun r : Fin 1024 => r.val < 128 * t), f r) + ∑ i : Fin 128, f (rowAt t ht i) := by
  have inj : Function.Injective (rowAt t ht) := fun a b h => Fin.ext (by have := congrArg Fin.val h; simp only [rowAt] at this; omega)
  have e : Finset.univ.filter (fun r : Fin 1024 => r.val < 128 * (t + 1))
      = Finset.univ.filter (fun r : Fin 1024 => r.val < 128 * t) ∪ Finset.univ.map ⟨rowAt t ht, inj⟩ := by
    ext r
    simp only [Finset.mem_filter, Finset.mem_univ, true_and, Finset.mem_union, Finset.mem_map, Function.Embedding.coeFn_mk]
    constructor
    · intro h
      by_cases h2 : r.val < 128 * t
      · exact .inl h2
      · obtain ⟨i, rfl⟩ := exists_rowAt ht h h2
        exact .inr ⟨i, rfl⟩
    · rintro (h | ⟨i, rfl⟩)
      · omega
      · have := i.isLt; simp only [rowAt]; omega
  rw [e, Finset.sum_union, Finset.sum_map]
  · rfl
  · rw [Finset.disjoint_left]
    intro r h1 h2
    simp only [Finset.mem_filter, Finset.mem_univ, true_and, Finset.mem_map, Function.Embedding.coeFn_mk] at h1 h2
    obtain ⟨i, rfl⟩ := h2
    simp only [rowAt] at h1; omega

end Cert.KernelIdeal.Gen

end
-- ==== Proof.Value.Loops.lean ====
/- What each of the kernel's six loops carries and leaves, over the contents of the buffers it reads. -/
module

public import proofs.«01_k».proof.Proof.Gen.KernelIdeal.Loops
public import proofs.«01_k».proof.Proof.Value.Rows

@[expose] public section

set_option maxRecDepth 16384

noncomputable section

namespace Cert.KernelIdeal.Gen

open Idealize.ShloMosaic Idealize.ShloMosaic.TcCoe Idealize.ShloMosaic.Tactic Cert.Loss
open Idealize.SL Idealize.SL.Sem

theorem trips_t1 : k0_t1_loop.trips = 8 := by decide +kernel
theorem trips_t2 : k0_t2_loop.trips = 8 := by decide +kernel
theorem trips_t3 : k0_t3_loop.trips = 8 := by decide +kernel
theorem trips_t4 : k0_t4_loop.trips = 8 := by decide +kernel
theorem trips_t5 : k0_t5_loop.trips = 8 := by decide +kernel
theorem trips_t6 : k0_t6_loop.trips = 8 := by decide +kernel

/-- The table of log-weights. -/
def lwTab (x : Vec Ideal S1024x1024 .f32) (g : Vec Ideal S1024x1 .f32) : Vec Ideal S1024x1024 .f32 :=
  fun y => lw (x y) (g (ix2 (y 0) 0))

/-- The diagonal's scores with the margin. -/
def diagTab (x : Vec Ideal S1024x1024 .f32) : Vec Ideal S1024x1 .f32 := fun y => cNine + score (x (ix2 (y 0) (y 0)))

/-- The inverse normalised weight at row `r`, column `j`, from the log-weights `l` and their maximum `m`. -/
def invAt (m : EReal) (l x : Vec Ideal S1024x1024 .f32) (g : Vec Ideal S1024x1 .f32) (r j : Fin 1024) : EReal :=
  Ideal.div 1 (qv (wl m (l (ix2 r j)) (x (ix2 r j)) (g (ix2 r 0)) (r = j))
    (∑ k : Fin 1024, wl m (l (ix2 r k)) (x (ix2 r k)) (g (ix2 r 0)) (r = k)))

/-- Their table. -/
def invTab (m : EReal) (l x : Vec Ideal S1024x1024 .f32) (g : Vec Ideal S1024x1 .f32) : Vec Ideal S1024x1024 .f32 :=
  fun y => invAt m l x g (y 0) (y 1)

/-- Row `r`'s contribution with the samples `t`. -/
def rowTerm (t : Vec Ideal S1x1024x1024 .f32) (w x : Vec Ideal S1024x1024 .f32) (d : Vec Ideal S1024x1 .f32) (r : Fin 1024) : EReal :=
  max (d (ix2 r 0) - score (x (ix2 r (firstMax fun j : Fin 1024 => t (ix3 0 r j) * w (ix2 r j))))) 0

variable (𝒱 : Variants) (c : Dev nD) (bd : Option 𝒱.V) (i : grid0.Coords) (arg1 : Memref sig .tc .vmem S1024x1024 .f32) (harg1 : arg1.IsWhole) (arg2 : Memref sig .tc .vmem S1024x1024 .f32) (harg2 : arg2.IsWhole) (arg3 : Memref sig .tc .vmem S1024x1 .f32) (harg3 : arg3.IsWhole) (arg4 : Memref sig .tc .vmem S1x1024x1024 .f32) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .smem S1x1 .f32) (harg10 : arg10.IsWhole)

/-- The first loop: the maximum so far, by what bounds it, and the log-weight and diagonal writes. -/
theorem t1_state (h1 : k0_cond1 i = 1#1) (x : Vec Ideal S1024x1024 .f32) (g : Vec Ideal S1024x1 .f32) (init : EReal) :
    ∀ k : Nat, k ≤ 8 →
    (∀ b : EReal, (st_k0_t1 (F := Ideal) 𝒱 c bd i arg1 harg1 arg2 harg2 arg3 harg3 arg4 harg4 arg5 harg5 arg6 harg6 arg7 harg7 arg8 harg8 arg9 harg9 arg10 harg10 colIota rowIota h1 (harg1.unread x) (harg3.unread g) init k).1 ≤ b
      ↔ init ≤ b ∧ ∀ r : Fin 1024, r.val < 128 * k → ∀ j : Fin 1024, lwTab x g (ix2 r j) ≤ b)
    ∧ Agrees (st_k0_t1 (F := Ideal) 𝒱 c bd i arg1 harg1 arg2 harg2 arg3 harg3 arg4 harg4 arg5 harg5 arg6 harg6 arg7 harg7 arg8 harg8 arg9 harg9 arg10 harg10 colIota rowIota h1 (harg1.unread x) (harg3.unread g) init k).2.1 (lwTab x g)
    ∧ Agrees (st_k0_t1 (F := Ideal) 𝒱 c bd i arg1 harg1 arg2 harg2 arg3 harg3 arg4 harg4 arg5 harg5 arg6 harg6 arg7 harg7 arg8 harg8 arg9 harg9 arg10 harg10 colIota rowIota h1 (harg1.unread x) (harg3.unread g) init k).2.2 (diagTab x) := by
  intro k
  induction k with
  | zero => exact fun _ => ⟨fun b => ⟨fun h => ⟨h, fun r hr => absurd hr (by omega)⟩, fun h => h.1⟩, Agrees.nil _, Agrees.nil _⟩
  | succ k ih =>
    intro hk
    obtain ⟨hm, hl, hd⟩ := ih (by omega)
    have hk8 : k < 8 := by omega
    have e := st_k0_t1_succ (F := Ideal) 𝒱 c bd i arg1 harg1 arg2 harg2 arg3 harg3 arg4 harg4 arg5 harg5 arg6 harg6 arg7 harg7 arg8 harg8 arg9 harg9 arg10 harg10 colIota rowIota h1 (harg1.unread x) (harg3.unread g) init ⟨k, by rw [trips_t1]; exact hk8⟩
    dsimp only at e
    rw [e]
    refine ⟨fun b => ?_, ?_, ?_⟩
    · dsimp only; unfold tripR_k0_t1 trip_k0_t1; dsimp only; sl_unfold_run_names
      rw [pay2_le, hm b, rows_succ hk8, and_assoc]
      refine and_congr_right fun _ => and_congr_right fun _ => forall_congr' fun r => forall_congr' fun j => ?_
      rw [pay12_apply, read_rows harg1 x hk8 (k0_off1_eq _), read_col harg3 g hk8 (k0_off2_eq _)]
      rfl
    · dsimp only; unfold trip_k0_t1; dsimp only; sl_unfold_run_names
      refine hl.rows hk8 (k0_off1_eq _) _ _ fun r j => ?_
      rw [pay13_apply, read_rows harg1 x hk8 (k0_off1_eq _), read_col harg3 g hk8 (k0_off2_eq _)]
      rfl
    · dsimp only; unfold trip_k0_t1; dsimp only; sl_unfold_run_names
      refine hd.col hk8 (k0_off2_eq _) _ _ fun r => ?_
      rw [pay14_apply _ hk8, read_rows harg1 x hk8 (k0_off1_eq _)]
      rfl

/-- The third loop: the same of the second half, with no diagonal. -/
theorem t3_state (h1 : k0_cond1 i = 1#1) (x : Vec Ideal S1024x1024 .f32) (g : Vec Ideal S1024x1 .f32) (init : EReal) :
    ∀ k : Nat, k ≤ 8 →
    (∀ b : EReal, (st_k0_t3 (F := Ideal) 𝒱 c bd i arg1 harg1 arg2 harg2 arg3 harg3 arg4 harg4 arg5 harg5 arg6 harg6 arg7 harg7 arg8 harg8 arg9 harg9 arg10 harg10 h1 (harg2.unread x) (harg3.unread g) init k).1 ≤ b
      ↔ init ≤ b ∧ ∀ r : Fin 1024, r.val < 128 * k → ∀ j : Fin 1024, lwTab x g (ix2 r j) ≤ b)
    ∧ Agrees (st_k0_t3 (F := Ideal) 𝒱 c bd i arg1 harg1 arg2 harg2 arg3 harg3 arg4 harg4 arg5 harg5 arg6 harg6 arg7 harg7 arg8 harg8 arg9 harg9 arg10 harg10 h1 (harg2.unread x) (harg3.unread g) init k).2 (lwTab x g) := by
  intro k
  induction k with
  | zero => exact fun _ => ⟨fun b => ⟨fun h => ⟨h, fun r hr => absurd hr (by omega)⟩, fun h => h.1⟩, Agrees.nil _⟩
  | succ k ih =>
    intro hk
    obtain ⟨hm, hl⟩ := ih (by omega)
    have hk8 : k < 8 := by omega
    have e := st_k0_t3_succ (F := Ideal) 𝒱 c bd i arg1 harg1 arg2 harg2 arg3 harg3 arg4 harg4 arg5 harg5 arg6 harg6 arg7 harg7 arg8 harg8 arg9 harg9 arg10 harg10 h1 (harg2.unread x) (harg3.unread g) init ⟨k, by rw [trips_t3]; exact hk8⟩
    dsimp only at e
    rw [e]
    refine ⟨fun b => ?_, ?_⟩
    · dsimp only; unfold tripR_k0_t3 trip_k0_t3; dsimp only; sl_unfold_run_names
      rw [pay5_eq, pay2_le, hm b, rows_succ hk8, and_assoc]
      refine and_congr_right fun _ => and_congr_right fun _ => forall_congr' fun r => forall_congr' fun j => ?_
      rw [pay12_apply, read_rows harg2 x hk8 (k0_off5_eq _), read_col harg3 g hk8 (k0_off6_eq _)]
      rfl
    · dsimp only; unfold tripL_k0_t3 trip_k0_t3; dsimp only; sl_unfold_run_names
      refine hl.rows hk8 (k0_off5_eq _) _ _ fun r j => ?_
      rw [pay4_eq, pay13_apply, read_rows harg2 x hk8 (k0_off5_eq _), read_col harg3 g hk8 (k0_off6_eq _)]
      rfl

/-- The second loop's writes: the inverse normalised weights. -/
theorem t2_state (h1 : k0_cond1 i = 1#1) (m : EReal) (x l : Vec Ideal S1024x1024 .f32) (g : Vec Ideal S1024x1 .f32) :
    ∀ k : Nat, k ≤ 8 →
    Agrees (pb_k0_t2 (F := Ideal) 𝒱 c bd i arg1 harg1 arg2 harg2 arg3 harg3 arg4 harg4 arg5 harg5 arg6 harg6 arg7 harg7 arg8 harg8 arg9 harg9 arg10 harg10 colIota rowIota h1 m (harg1.unread x) (harg3.unread g) (harg6.unread l) k)
      (invTab m l x g) := by
  intro k
  induction k with
  | zero => exact fun _ => Agrees.nil _
  | succ k ih =>
    intro hk
    have hl := ih (by omega)
    have hk8 : k < 8 := by omega
    have hkt : k < k0_t2_loop.trips := by rw [trips_t2]; exact hk8
    have e := pb_k0_t2_succ (F := Ideal) 𝒱 c bd i arg1 harg1 arg2 harg2 arg3 harg3 arg4 harg4 arg5 harg5 arg6 harg6 arg7 harg7 arg8 harg8 arg9 harg9 arg10 harg10 colIota rowIota h1 m (harg1.unread x) (harg3.unread g) (harg6.unread l) ⟨k, hkt⟩
    dsimp only at e
    rw [e]
    unfold tripL_k0_t2 trip_k0_t2
    dsimp only
    sl_unfold_run_names
    refine hl.rows hk8 (k0_off3_eq _) _ _ fun r j => ?_
    rw [pay15_apply _ _ hk8]
    simp only [read_rows harg1 x hk8 (k0_off3_eq ⟨k, hkt⟩), read_rows harg6 l hk8 (k0_off3_eq ⟨k, hkt⟩), read_col harg3 g hk8 (k0_off4_eq ⟨k, hkt⟩)]
    rfl

/-- The fourth loop's writes: the same of the second half. -/
theorem t4_state (h1 : k0_cond1 i = 1#1) (m : EReal) (x l : Vec Ideal S1024x1024 .f32) (g : Vec Ideal S1024x1 .f32) :
    ∀ k : Nat, k ≤ 8 →
    Agrees (pb_k0_t4 (F := Ideal) 𝒱 c bd i arg1 harg1 arg2 harg2 arg3 harg3 arg4 harg4 arg5 harg5 arg6 harg6 arg7 harg7 arg8 harg8 arg9 harg9 arg10 harg10 colIota rowIota h1 m (harg2.unread x) (harg3.unread g) (harg6.unread l) k)
      (invTab m l x g) := by
  intro k
  induction k with
  | zero => exact fun _ => Agrees.nil _
  | succ k ih =>
    intro hk
    have hl := ih (by omega)
    have hk8 : k < 8 := by omega
    have hkt : k < k0_t4_loop.trips := by rw [trips_t4]; exact hk8
    have e := pb_k0_t4_succ (F := Ideal) 𝒱 c bd i arg1 harg1 arg2 harg2 arg3 harg3 arg4 harg4 arg5 harg5 arg6 harg6 arg7 harg7 arg8 harg8 arg9 harg9 arg10 harg10 colIota rowIota h1 m (harg2.unread x) (harg3.unread g) (harg6.unread l) ⟨k, hkt⟩
    dsimp only at e
    rw [e]
    unfold tripL_k0_t4 trip_k0_t4
    dsimp only
    sl_unfold_run_names
    refine hl.rows hk8 (k0_off7_eq _) _ _ fun r j => ?_
    rw [pay16_apply _ _ hk8]
    simp only [read_rows harg2 x hk8 (k0_off7_eq ⟨k, hkt⟩), read_rows harg6 l hk8 (k0_off7_eq ⟨k, hkt⟩), read_col harg3 g hk8 (k0_off8_eq ⟨k, hkt⟩)]
    rfl

/-- The fifth loop: the sum of the first half's contributions so far. -/
theorem t5_state (h2 : k0_cond2 i = 1#1) (x w : Vec Ideal S1024x1024 .f32) (t : Vec Ideal S1x1024x1024 .f32) (d : Vec Ideal S1024x1 .f32) (init : EReal) :
    ∀ k : Nat, k ≤ 8 →
    st_k0_t5 (F := Ideal) 𝒱 c bd i arg1 harg1 arg2 harg2 arg3 harg3 arg4 harg4 arg5 harg5 arg6 harg6 arg7 harg7 arg8 harg8 arg9 harg9 arg10 harg10 h2 (harg1.unread x) (harg4.unread t) (harg7.unread w) (harg9.unread d) init k
      = init + ∑ r ∈ Finset.univ.filter (fun r : Fin 1024 => r.val < 128 * k), rowTerm t w x d r := by
  intro k
  induction k with
  | zero => intro _; simp [st_k0_t5]
  | succ k ih =>
    intro hk
    have hk8 : k < 8 := by omega
    have hkt : k < k0_t5_loop.trips := by rw [trips_t5]; exact hk8
    have e := st_k0_t5_succ (F := Ideal) 𝒱 c bd i arg1 harg1 arg2 harg2 arg3 harg3 arg4 harg4 arg5 harg5 arg6 harg6 arg7 harg7 arg8 harg8 arg9 harg9 arg10 harg10 h2 (harg1.unread x) (harg4.unread t) (harg7.unread w) (harg9.unread d) init ⟨k, hkt⟩
    dsimp only at e
    rw [e, ih (by omega)]
    unfold tripR_k0_t5 trip_k0_t5
    dsimp only
    sl_unfold_run_names
    rw [pay6_apply, sum_rows_succ hk8, add_assoc]
    simp only [read_rows harg1 x hk8 (k0_off10_eq ⟨k, hkt⟩), read_rows harg7 w hk8 (k0_off10_eq ⟨k, hkt⟩), read_col harg9 d hk8 (k0_off11_eq ⟨k, hkt⟩),
      read_slab harg4 t hk8 (k0_off9_eq ⟨k, hkt⟩)]
    rfl

/-- The sixth loop: the sum of the second half's. -/
theorem t6_state (h3 : k0_cond3 i = 1#1) (x w : Vec Ideal S1024x1024 .f32) (t : Vec Ideal S1x1024x1024 .f32) (d : Vec Ideal S1024x1 .f32) (init : EReal) :
    ∀ k : Nat, k ≤ 8 →
    st_k0_t6 (F := Ideal) 𝒱 c bd i arg1 harg1 arg2 harg2 arg3 harg3 arg4 harg4 arg5 harg5 arg6 harg6 arg7 harg7 arg8 harg8 arg9 harg9 arg10 harg10 h3 (harg2.unread x) (harg4.unread t) (harg8.unread w) (harg9.unread d) init k
      = init + ∑ r ∈ Finset.univ.filter (fun r : Fin 1024 => r.val < 128 * k), rowTerm t w x d r := by
  intro k
  induction k with
  | zero => intro _; simp [st_k0_t6]
  | succ k ih =>
    intro hk
    have hk8 : k < 8 := by omega
    have hkt : k < k0_t6_loop.trips := by rw [trips_t6]; exact hk8
    have e := st_k0_t6_succ (F := Ideal) 𝒱 c bd i arg1 harg1 arg2 harg2 arg3 harg3 arg4 harg4 arg5 harg5 arg6 harg6 arg7 harg7 arg8 harg8 arg9 harg9 arg10 harg10 h3 (harg2.unread x) (harg4.unread t) (harg8.unread w) (harg9.unread d) init ⟨k, hkt⟩
    dsimp only at e
    rw [e, ih (by omega)]
    unfold tripR_k0_t6 trip_k0_t6
    dsimp only
    sl_unfold_run_names
    rw [pay8_eq, pay6_apply, sum_rows_succ hk8, add_assoc]
    simp only [read_rows harg2 x hk8 (k0_off13_eq ⟨k, hkt⟩), read_rows harg8 w hk8 (k0_off13_eq ⟨k, hkt⟩), read_col harg9 d hk8 (k0_off14_eq ⟨k, hkt⟩),
      read_slab harg4 t hk8 (k0_off12_eq ⟨k, hkt⟩)]
    rfl

end Cert.KernelIdeal.Gen

end
-- ==== Proof.Value.Cases.lean ====
/- What each case of the kernel's body leaves in the buffers it carries and in its output, over what it reads. -/
module

public import proofs.«01_k».proof.Proof.RunIdeal.Frame
public import proofs.«01_k».proof.Proof.Value.Loops

@[expose] public section

set_option maxRecDepth 16384

noncomputable section

namespace Cert.KernelIdeal.Gen

open Idealize.ShloMosaic Idealize.ShloMosaic.TcCoe Idealize.ShloMosaic.Tactic Cert.Loss
open Idealize.SL Idealize.SL.Sem

variable (c : Dev nD) (i : grid0.Coords) (arg1 : Memref sig .tc .vmem S1024x1024 .f32) (harg1 : arg1.IsWhole) (arg2 : Memref sig .tc .vmem S1024x1024 .f32) (harg2 : arg2.IsWhole) (arg3 : Memref sig .tc .vmem S1024x1 .f32) (harg3 : arg3.IsWhole) (arg4 : Memref sig .tc .vmem S1x1024x1024 .f32) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .smem S1x1 .f32) (harg10 : arg10.IsWhole)
variable (x0 x1 : Vec Ideal S1024x1024 .f32) (x2 : Vec Ideal S1024x1 .f32) (x3 : Vec Ideal S1x1024x1024 .f32)
variable (s1 s2 : Vec Ideal S1024x1024 .f32) (s3 : Vec Ideal S1024x1 .f32) (s4 : Vec Ideal S1x1 .f32)

/-- The greatest log-weight of the whole table. -/
def maxLw (x : Vec Ideal S1024x1024 .f32) (g : Vec Ideal S1024x1 .f32) : EReal :=
  Finset.univ.sup fun p : Fin 1024 × Fin 1024 => lwTab x g (ix2 p.1 p.2)

theorem maxLw_le (x : Vec Ideal S1024x1024 .f32) (g : Vec Ideal S1024x1 .f32) (b : EReal) :
    maxLw x g ≤ b ↔ ∀ r j : Fin 1024, lwTab x g (ix2 r j) ≤ b := by
  unfold maxLw
  rw [Finset.sup_le_iff]
  exact ⟨fun h r j => h (r, j) (Finset.mem_univ _), fun h p _ => h p.1 p.2⟩

/-- What is bounded as the maximum from minus infinity over all eight blocks of rows is the greatest log-weight. -/
theorem eq_maxLw {s : EReal} (x : Vec Ideal S1024x1024 .f32) (g : Vec Ideal S1024x1 .f32)
    (h : ∀ b : EReal, s ≤ b ↔ FloatOps.ofBits (F := Ideal) FTy.f32 4286578688#32 ≤ b ∧ ∀ r : Fin 1024, r.val < 128 * 8 → ∀ j : Fin 1024, lwTab x g (ix2 r j) ≤ b) :
    s = maxLw x g := by
  refine eq_of_forall_ge_iff fun b => ?_
  rw [h b, maxLw_le]
  have hb : FloatOps.ofBits (F := Ideal) FTy.f32 4286578688#32 ≤ b := by
    show Ideal.ofBits .f32 0xFF800000#32 ≤ b
    rw [negInf_f32]; exact bot_le
  exact ⟨fun h r j => h.2 r (by have := r.isLt; omega) j, fun h => ⟨hb, fun r _ j => h r j⟩⟩

/-- Each loop runs over the eight blocks of rows. -/
theorem eight_trips : Scf.trips (0#32) (Scalar.addi 0#32 8#32) 1#32 = 8 := by decide +kernel

theorem eight_trips_t6 : Scf.trips k0_t6_loop.lb k0_t6_loop.ub k0_t6_loop.st = 8 := by decide +kernel

theorem zeros2 : (![0, 0] : Fin 2 → Nat) = fun _ => 0 := funext fun a => by fin_cases a <;> rfl

/-- All rows lie before block eight. -/
theorem sum_all_rows (f : Fin 1024 → EReal) : (∑ r ∈ Finset.univ.filter (fun r : Fin 1024 => r.val < 128 * 8), f r) = ∑ r : Fin 1024, f r := by
  rw [Finset.filter_true_of_mem fun r _ => by have := r.isLt; omega]

/-- The weights of the first half, as the first point leaves them. -/
def weights (x : Vec Ideal S1024x1024 .f32) (g : Vec Ideal S1024x1 .f32) : Vec Ideal S1024x1024 .f32 := invTab (maxLw x g) (lwTab x g) x g

/-- The sum of all rows' contributions with the samples `t`. -/
def slabSum (t : Vec Ideal S1x1024x1024 .f32) (w x : Vec Ideal S1024x1024 .f32) (d : Vec Ideal S1024x1 .f32) : EReal :=
  ∑ r : Fin 1024, rowTerm t w x d r

/-- One point's step of the accumulator. -/
theorem acc_step (s : Vec Ideal S1x1 .f32) (v : EReal) {f : Fin 1024 → EReal}
    (h : v = FloatOps.ofBits (F := Ideal) FTy.f32 0#32 + ∑ r ∈ Finset.univ.filter (fun r : Fin 1024 => r.val < 128 * 8), f r) :
    s (Shape.Idx.first (s := S1x1) (by decide)) + v = s (ix2 0 0) + ∑ r : Fin 1024, f r := by
  rw [h, show FloatOps.ofBits (F := Ideal) FTy.f32 0#32 = 0 from Ideal.ofBits_zero _, zero_add, sum_all_rows]
  refine congrArg (· + _) (congrArg s (funext fun a => ?_))
  fin_cases a <;> exact Subsingleton.elim (α := Fin 1) _ _

theorem readAt_acc (s4 : Vec Ideal S1x1 .f32) :
    View.readAt (Elt Ideal) arg10.view (Rect.unit ![0, 0] S1x1.size inb_S1x1_S1x1_0_0).toLoadRect (harg10.unread s4) = s4 := by
  rw [View.readAt_eq_ld, harg10.read_unread, View.ld_unit_zero (S := S1x1) zeros2]

theorem sout0_A_1_eq (hc0 : cond0_0 i) (hc1 : ¬cond0_1 i) (hc2 : ¬cond0_2 i) (hc3 : ¬cond0_3 i) :
    sout0_A_1 (F := Ideal) c i arg1 harg1 arg2 harg2 arg3 harg3 arg4 harg4 arg5 harg5 arg6 harg6 arg7 harg7 arg8 harg8 arg9 harg9 arg10 harg10 hc0 hc1 hc2 hc3 x0 x1 x2 x3 = weights x0 x2 := by
  have hcov := scover0_A_1 (F := Ideal) c i arg1 harg1 arg2 harg2 arg3 harg3 arg4 harg4 arg5 harg5 arg6 harg6 arg7 harg7 arg8 harg8 arg9 harg9 arg10 harg10 hc0 hc1 hc2 hc3 x0 x1 x2 x3
  unfold sout0_A_1
  rw [View.read_writes_eq_canon _ _ _ hcov]
  unfold kernelRun0_A at hcov ⊢
  dsimp only at hcov ⊢
  sl_unfold_run_names
  simp only [eight_trips] at hcov ⊢
  obtain ⟨hm, hl, _⟩ := t1_state Variants.none c none i arg1 harg1 arg2 harg2 arg3 harg3 arg4 harg4 arg5 harg5 arg6 harg6 arg7 harg7 arg8 harg8 arg9 harg9 arg10 harg10 hc0 x0 x2 (FloatOps.ofBits (F := Ideal) FTy.f32 4286578688#32) 8 le_rfl
  refine Agrees.canon ?_ hcov
  rw [weights, ← eq_maxLw x0 x2 hm, ← Agrees.canon hl (View.cover_of_tiledL _ S128x1024.size (by sl_kernel_rfl))]
  exact t2_state Variants.none c none i arg1 harg1 arg2 harg2 arg3 harg3 arg4 harg4 arg5 harg5 arg6 harg6 arg7 harg7 arg8 harg8 arg9 harg9 arg10 harg10 hc0 _ x0 _ x2 8 le_rfl

theorem sout0_A_2_eq (hc0 : cond0_0 i) (hc1 : ¬cond0_1 i) (hc2 : ¬cond0_2 i) (hc3 : ¬cond0_3 i) :
    sout0_A_2 (F := Ideal) c i arg1 harg1 arg2 harg2 arg3 harg3 arg4 harg4 arg5 harg5 arg6 harg6 arg7 harg7 arg8 harg8 arg9 harg9 arg10 harg10 hc0 hc1 hc2 hc3 x0 x1 x2 x3 = weights x1 x2 := by
  have hcov := scover0_A_2 (F := Ideal) c i arg1 harg1 arg2 harg2 arg3 harg3 arg4 harg4 arg5 harg5 arg6 harg6 arg7 harg7 arg8 harg8 arg9 harg9 arg10 harg10 hc0 hc1 hc2 hc3 x0 x1 x2 x3
  unfold sout0_A_2
  rw [View.read_writes_eq_canon _ _ _ hcov]
  unfold kernelRun0_A at hcov ⊢
  dsimp only at hcov ⊢
  sl_unfold_run_names
  simp only [eight_trips] at hcov ⊢
  obtain ⟨hm, hl⟩ := t3_state Variants.none c none i arg1 harg1 arg2 harg2 arg3 harg3 arg4 harg4 arg5 harg5 arg6 harg6 arg7 harg7 arg8 harg8 arg9 harg9 arg10 harg10 hc0 x1 x2 (FloatOps.ofBits (F := Ideal) FTy.f32 4286578688#32) 8 le_rfl
  refine Agrees.canon ?_ hcov
  rw [weights, ← eq_maxLw x1 x2 hm, ← Agrees.canon_append (st_k0_t1 Variants.none c none i arg1 harg1 arg2 harg2 arg3 harg3 arg4 harg4 arg5 harg5 arg6 harg6 arg7 harg7 arg8 harg8 arg9 harg9 arg10 harg10 colIota rowIota hc0 (harg1.unread x0) (harg3.unread x2) (FloatOps.ofBits (F := Ideal) FTy.f32 4286578688#32) 8).2.1
    hl (View.cover_of_tiledL _ S128x1024.size (by sl_kernel_rfl))]
  exact t4_state Variants.none c none i arg1 harg1 arg2 harg2 arg3 harg3 arg4 harg4 arg5 harg5 arg6 harg6 arg7 harg7 arg8 harg8 arg9 harg9 arg10 harg10 hc0 _ x1 _ x2 8 le_rfl

theorem sout0_A_3_eq (hc0 : cond0_0 i) (hc1 : ¬cond0_1 i) (hc2 : ¬cond0_2 i) (hc3 : ¬cond0_3 i) :
    sout0_A_3 (F := Ideal) c i arg1 harg1 arg2 harg2 arg3 harg3 arg4 harg4 arg5 harg5 arg6 harg6 arg7 harg7 arg8 harg8 arg9 harg9 arg10 harg10 hc0 hc1 hc2 hc3 x0 x1 x2 x3 = diagTab x0 := by
  have hcov := scover0_A_3 (F := Ideal) c i arg1 harg1 arg2 harg2 arg3 harg3 arg4 harg4 arg5 harg5 arg6 harg6 arg7 harg7 arg8 harg8 arg9 harg9 arg10 harg10 hc0 hc1 hc2 hc3 x0 x1 x2 x3
  unfold sout0_A_3
  rw [View.read_writes_eq_canon _ _ _ hcov]
  unfold kernelRun0_A at hcov ⊢
  dsimp only at hcov ⊢
  sl_unfold_run_names
  simp only [eight_trips] at hcov ⊢
  exact Agrees.canon (t1_state Variants.none c none i arg1 harg1 arg2 harg2 arg3 harg3 arg4 harg4 arg5 harg5 arg6 harg6 arg7 harg7 arg8 harg8 arg9 harg9 arg10 harg10 hc0 x0 x2 (FloatOps.ofBits (F := Ideal) FTy.f32 4286578688#32) 8 le_rfl).2.2 hcov

theorem sout0_A_4_eq (hc0 : cond0_0 i) (hc1 : ¬cond0_1 i) (hc2 : ¬cond0_2 i) (hc3 : ¬cond0_3 i) :
    sout0_A_4 (F := Ideal) c i arg1 harg1 arg2 harg2 arg3 harg3 arg4 harg4 arg5 harg5 arg6 harg6 arg7 harg7 arg8 harg8 arg9 harg9 arg10 harg10 hc0 hc1 hc2 hc3 x0 x1 x2 x3 = fun _ => 0 := by
  unfold sout0_A_4
  rw [View.read_writes_eq_canon _ _ _ (scover0_A_4 c i arg1 harg1 arg2 harg2 arg3 harg3 arg4 harg4 arg5 harg5 arg6 harg6 arg7 harg7 arg8 harg8 arg9 harg9 arg10 harg10 hc0 hc1 hc2 hc3 x0 x1 x2 x3)]
  unfold kernelRun0_A
  dsimp only
  sl_unfold_run_names
  rw [View.canon_unit_zero zeros2]
  funext _
  exact Ideal.ofBits_zero _

theorem sout0_B_4_eq (hc0 : ¬cond0_0 i) (hc1 : cond0_1 i) (hc2 : ¬cond0_2 i) (hc3 : ¬cond0_3 i) :
    sout0_B_4 (F := Ideal) c i arg1 harg1 arg2 harg2 arg3 harg3 arg4 harg4 arg5 harg5 arg6 harg6 arg7 harg7 arg8 harg8 arg9 harg9 arg10 harg10 hc0 hc1 hc2 hc3 x0 x1 x2 x3 s1 s2 s3 s4 = fun _ => s4 (ix2 0 0) + slabSum x3 s1 x0 s3 := by
  unfold sout0_B_4
  rw [View.read_writes_eq_canon _ _ _ (scover0_B_4 c i arg1 harg1 arg2 harg2 arg3 harg3 arg4 harg4 arg5 harg5 arg6 harg6 arg7 harg7 arg8 harg8 arg9 harg9 arg10 harg10 hc0 hc1 hc2 hc3 x0 x1 x2 x3 s1 s2 s3 s4)]
  unfold kernelRun0_B
  dsimp only
  sl_unfold_run_names
  rw [View.canon_unit_zero zeros2, readAt_acc, eight_trips]
  funext _
  exact acc_step s4 _ (t5_state Variants.none c none i arg1 harg1 arg2 harg2 arg3 harg3 arg4 harg4 arg5 harg5 arg6 harg6 arg7 harg7 arg8 harg8 arg9 harg9 arg10 harg10 hc1 x0 s1 x3 s3 (FloatOps.ofBits (F := Ideal) FTy.f32 0#32) 8 le_rfl)

theorem sout0_C_4_eq (hc0 : ¬cond0_0 i) (hc1 : ¬cond0_1 i) (hc2 : cond0_2 i) (hc3 : ¬cond0_3 i) :
    sout0_C_4 (F := Ideal) c i arg1 harg1 arg2 harg2 arg3 harg3 arg4 harg4 arg5 harg5 arg6 harg6 arg7 harg7 arg8 harg8 arg9 harg9 arg10 harg10 hc0 hc1 hc2 hc3 x0 x1 x2 x3 s1 s2 s3 s4 = fun _ => s4 (ix2 0 0) + slabSum x3 s2 x1 s3 := by
  unfold sout0_C_4
  rw [View.read_writes_eq_canon _ _ _ (scover0_C_4 c i arg1 harg1 arg2 harg2 arg3 harg3 arg4 harg4 arg5 harg5 arg6 harg6 arg7 harg7 arg8 harg8 arg9 harg9 arg10 harg10 hc0 hc1 hc2 hc3 x0 x1 x2 x3 s1 s2 s3 s4)]
  unfold kernelRun0_C
  dsimp only
  sl_unfold_run_names
  rw [View.canon_unit_zero zeros2, readAt_acc, eight_trips]
  funext _
  exact acc_step s4 _ (t6_state Variants.none c none i arg1 harg1 arg2 harg2 arg3 harg3 arg4 harg4 arg5 harg5 arg6 harg6 arg7 harg7 arg8 harg8 arg9 harg9 arg10 harg10 hc2 x1 s2 x3 s3 (FloatOps.ofBits (F := Ideal) FTy.f32 0#32) 8 le_rfl)

theorem out0_D_4_eq (hc0 : ¬cond0_0 i) (hc1 : ¬cond0_1 i) (hc2 : cond0_2 i) (hc3 : cond0_3 i) :
    out0_D_4 (F := Ideal) c i arg1 harg1 arg2 harg2 arg3 harg3 arg4 harg4 arg5 harg5 arg6 harg6 arg7 harg7 arg8 harg8 arg9 harg9 arg10 harg10 hc0 hc1 hc2 hc3 x0 x1 x2 x3 s1 s2 s3 s4
      = fun _ => ((2 : ℝ) : EReal) + (s4 (ix2 0 0) + slabSum x3 s2 x1 s3) * ((1 / 1024 : ℝ) : EReal) := by
  unfold out0_D_4
  rw [View.read_writes_eq_canon _ _ _ (cover0_D_4 c i arg1 harg1 arg2 harg2 arg3 harg3 arg4 harg4 arg5 harg5 arg6 harg6 arg7 harg7 arg8 harg8 arg9 harg9 arg10 harg10 hc0 hc1 hc2 hc3 x0 x1 x2 x3 s1 s2 s3 s4)]
  unfold kernelRun0_D
  dsimp only
  sl_unfold_run_names
  rw [View.canon_unit_zero zeros2, readAt_acc, eight_trips_t6]
  funext y
  rw [pay10_apply]
  exact congrArg (fun a => ((2 : ℝ) : EReal) + a * ((1 / 1024 : ℝ) : EReal))
    (acc_step s4 _ (t6_state Variants.none c none i arg1 harg1 arg2 harg2 arg3 harg3 arg4 harg4 arg5 harg5 arg6 harg6 arg7 harg7 arg8 harg8 arg9 harg9 arg10 harg10 hc2 x1 s2 x3 s3 (FloatOps.ofBits (F := Ideal) FTy.f32 0#32) 8 le_rfl))

end Cert.KernelIdeal.Gen

end
-- ==== Proof.Value.Grid.lean ====
/- The kernel's run over its sixteen grid points: what the scratch buffers hold after each, and the result. -/
module

public import proofs.«01_k».proof.Proof.RunIdeal.Value
public import proofs.«01_k».proof.Proof.Value.Cases

@[expose] public section

set_option maxRecDepth 16384

noncomputable section

namespace Cert.KernelIdeal.Gen

open Idealize.ShloMosaic Idealize.ShloMosaic.TcCoe Idealize.ShloMosaic.Tactic Cert.Loss
open Idealize.SL Idealize.SL.Sem

variable (m : (ℓ : Loc nD τ sig) → Buf (Elt Ideal) ℓ) (c : Dev nD)

/-- The square of entries the loss is of. -/
def xsIn : Vec Ideal S1024x1024 .f32 := V m c main_v0
/-- Its transpose. -/
def xtIn : Vec Ideal S1024x1024 .f32 := V m c main_v1
/-- The column of the rows' own entries. -/
def gtIn : Vec Ideal S1024x1 .f32 := V m c main_v2
/-- The table of samples. -/
def tabIn : Vec Ideal S15x1024x1024 .f32 := V m c main_v163

/-- Slab `s` of the table (the last one beyond it). -/
def slab (s : Nat) : Vec Ideal S1x1024x1024 .f32 := fun y => tabIn m c (ix3 ⟨min s 14, by omega⟩ (y 1) (y 2))

theorem iblk_0 (t : Fin cfg0.N) : iblk m c 0 t = xsIn m c := by
  funext j
  unfold iblk xsIn
  rw [View.read_apply]
  show V m c main_v0 _ = V m c main_v0 _
  congr 1
  funext a
  apply Fin.ext
  match a with
  | ⟨0, _⟩ => show 0 * 1024 + 1 * (j 0).val = (j 0).val; omega
  | ⟨1, _⟩ => show 0 * 1024 + 1 * (j 1).val = (j 1).val; omega

theorem iblk_1 (t : Fin cfg0.N) : iblk m c 1 t = xtIn m c := by
  funext j
  unfold iblk xtIn
  rw [View.read_apply]
  show V m c main_v1 _ = V m c main_v1 _
  congr 1
  funext a
  apply Fin.ext
  match a with
  | ⟨0, _⟩ => show 0 * 1024 + 1 * (j 0).val = (j 0).val; omega
  | ⟨1, _⟩ => show 0 * 1024 + 1 * (j 1).val = (j 1).val; omega

theorem iblk_2 (t : Fin cfg0.N) : iblk m c 2 t = gtIn m c := by
  funext j
  unfold iblk gtIn
  rw [View.read_apply]
  show V m c main_v2 _ = V m c main_v2 _
  congr 1
  funext a
  apply Fin.ext
  match a with
  | ⟨0, _⟩ => show 0 * 1024 + 1 * (j 0).val = (j 0).val; omega
  | ⟨1, _⟩ => show 0 * 1 + 1 * (j 1).val = (j 1).val; omega

theorem index_3 : ∀ t : Fin cfg0.N, win0_3.index t 0 = t.val - 1 ∧ win0_3.index t 1 = 0 ∧ win0_3.index t 2 = 0 := by
  decide +kernel

theorem iblk_3 (t : Fin cfg0.N) : iblk m c 3 t = slab m c (t.val - 1) := by
  obtain ⟨h0, h1, h2⟩ := index_3 t
  have ht : t.val < 16 := lt_of_lt_of_eq t.isLt N_0
  funext j
  unfold iblk slab tabIn
  rw [View.read_apply]
  show V m c main_v163 _ = V m c main_v163 _
  congr 1
  funext a
  apply Fin.ext
  match a with
  | ⟨0, _⟩ => show win0_3.index t 0 * 1 + 1 * (j 0).val = min (t.val - 1) 14; have : (j 0).val < 1 := (j 0).isLt; rw [h0]; omega
  | ⟨1, _⟩ => show win0_3.index t 1 * 1024 + 1 * (j 1).val = (j 1).val; rw [h1]; omega
  | ⟨2, _⟩ => show win0_3.index t 2 * 1024 + 1 * (j 2).val = (j 2).val; rw [h2]; omega

/-- What sample `s` adds: the first five are of the first half, the others of the second. -/
def sampleTerm (s : Nat) : EReal :=
  if s < 5 then slabSum (slab m c s) (weights (xsIn m c) (gtIn m c)) (xsIn m c) (diagTab (xsIn m c))
  else slabSum (slab m c s) (weights (xtIn m c) (gtIn m c)) (xtIn m c) (diagTab (xsIn m c))

/-- What the scratch buffers hold after point `n`, before the last. -/
def ScratchAt (n : Nat) (o : Vec Ideal S1x1 .f32 × Vec Ideal S1024x1024 .f32 × Vec Ideal S1024x1024 .f32 × Vec Ideal S1024x1 .f32 × Vec Ideal S1x1 .f32) : Prop :=
  o.2.1 = weights (xsIn m c) (gtIn m c) ∧ o.2.2.1 = weights (xtIn m c) (gtIn m c) ∧ o.2.2.2.1 = diagTab (xsIn m c)
    ∧ o.2.2.2.2 = fun _ => ∑ s ∈ Finset.range n, sampleTerm m c s

theorem scratch_at : ∀ n : Nat, ∀ hn : n < cfg0.N, n < 15 → ScratchAt m c n (outsAt0 m c n hn) := by
  intro n
  induction n with
  | zero =>
    intro hn _
    rw [outsAt0_A m c ⟨0, hn⟩ (by dsimp only) (by dsimp only; omega) (by dsimp only; omega) (by dsimp only; omega)]
    refine ⟨?_, ?_, ?_, ?_⟩ <;> dsimp only
    · rw [sout0_A_1_eq, iblk_0, iblk_2]
    · rw [sout0_A_2_eq, iblk_1, iblk_2]
    · rw [sout0_A_3_eq, iblk_0]
    · rw [sout0_A_4_eq]; rfl
  | succ n ih =>
    intro hn h15
    obtain ⟨e1, e2, e3, e4⟩ := ih (by omega) (by omega)
    by_cases h5 : n + 1 ≤ 5
    · rw [outsAt0_B m c ⟨n + 1, hn⟩ (by dsimp only; omega) (by dsimp only; omega) (by dsimp only; omega) (by dsimp only; omega)]
      refine ⟨e1, e2, e3, ?_⟩
      dsimp only
      rw [sout0_B_4_eq, iblk_0, iblk_3, Finset.sum_range_succ, sampleTerm, if_pos (by omega)]
      simp only [Nat.add_sub_cancel, e1, e3, e4]
    · rw [outsAt0_C m c ⟨n + 1, hn⟩ (by dsimp only; omega) (by dsimp only; omega) (by dsimp only; omega) (by dsimp only; omega)]
      refine ⟨e1, e2, e3, ?_⟩
      dsimp only
      rw [sout0_C_4_eq, iblk_1, iblk_3, Finset.sum_range_succ, sampleTerm, if_neg (by omega)]
      simp only [Nat.add_sub_cancel, e2, e3, e4]

/-- The result: two, and the mean over the rows of all the samples' contributions. -/
theorem result_eq : Value.G4 m c = fun _ => ((2 : ℝ) : EReal) + (∑ s ∈ Finset.range 15, sampleTerm m c s) * ((1 / 1024 : ℝ) : EReal) := by
  have hn : 15 < cfg0.N := lt_of_lt_of_eq (by decide) N_0.symm
  obtain ⟨e1, e2, e3, e4⟩ := scratch_at m c 14 (by omega) (by omega)
  rw [Value.G4_last, ← Value.outsAt0_sweep m c 15 hn, outsAt0_D m c ⟨15, hn⟩ (by dsimp only; omega) (by dsimp only; omega) (by dsimp only; omega) (by dsimp only)]
  dsimp only
  rw [out0_D_4_eq, iblk_1, iblk_3, Finset.sum_range_succ, sampleTerm, if_neg (by omega)]
  simp only [Nat.add_one_sub_one, e2, e3, e4]
  rfl

end Cert.KernelIdeal.Gen

end
-- ==== Proof.Math.Word.lean ====
/- The random words: the Threefry-2x32 cipher's two words of a counter, exclusive-ored, over one element. -/
module

public import Idealize.ShloMosaic.PureOps
public import Idealize.ShloMosaic.Lib.Pointwise

@[expose] public section

noncomputable section

namespace Cert.Loss

open Idealize.ShloMosaic

/-- One round: add, rotate the second word by `l` bits (`r` is `32 - l`), exclusive-or. -/
def mix (l r : BitVec 32) (p : BitVec 32 × BitVec 32) : BitVec 32 × BitVec 32 :=
  (IntOp.addi p.1 p.2, IntOp.xori (IntOp.addi p.1 p.2) (IntOp.ori (IntOp.shli .host p.2 l) (IntOp.shrui .host p.2 r)))

/-- The first kind of four rounds. -/
def mixEven (p : BitVec 32 × BitVec 32) : BitVec 32 × BitVec 32 := mix 6#32 26#32 (mix 26#32 6#32 (mix 15#32 17#32 (mix 13#32 19#32 p)))

/-- The second kind of four rounds. -/
def mixOdd (p : BitVec 32 × BitVec 32) : BitVec 32 × BitVec 32 := mix 24#32 8#32 (mix 16#32 16#32 (mix 29#32 3#32 (mix 17#32 15#32 p)))

/-- A key's words added in, the second with the count `n`. -/
def feed (a b n : BitVec 32) (p : BitVec 32 × BitVec 32) : BitVec 32 × BitVec 32 := (IntOp.addi p.1 a, IntOp.addi (IntOp.addi p.2 b) n)

/-- The two words of the counter `(0, x)` under the key words `a`, `b` and their parity word `k`. -/
def cipher (a b k x : BitVec 32) : BitVec 32 × BitVec 32 :=
  feed k a 5#32 (mixEven (feed b k 4#32 (mixOdd (feed a b 3#32 (mixEven (feed k a 2#32 (mixOdd (feed b k 1#32 (mixEven
    (IntOp.addi 0#32 a, IntOp.addi x b))))))))))

/-- The random word at position `x`. -/
def word (a b k x : BitVec 32) : BitVec 32 := IntOp.xori (cipher a b k x).1 (cipher a b k x).2

/-- One round, with the exclusive-or's operands in the other order. -/
def mix' (l r : BitVec 32) (p : BitVec 32 × BitVec 32) : BitVec 32 × BitVec 32 :=
  (IntOp.addi p.1 p.2, IntOp.xori (IntOp.ori (IntOp.shli .host p.2 l) (IntOp.shrui .host p.2 r)) (IntOp.addi p.1 p.2))

def mixEven' (p : BitVec 32 × BitVec 32) : BitVec 32 × BitVec 32 := mix' 6#32 26#32 (mix' 26#32 6#32 (mix' 15#32 17#32 (mix' 13#32 19#32 p)))

def mixOdd' (p : BitVec 32 × BitVec 32) : BitVec 32 × BitVec 32 := mix' 24#32 8#32 (mix' 16#32 16#32 (mix' 29#32 3#32 (mix' 17#32 15#32 p)))

/-- A key's words added in, the second with its count already added. -/
def feed' (a b : BitVec 32) (p : BitVec 32 × BitVec 32) : BitVec 32 × BitVec 32 := (IntOp.addi p.1 a, IntOp.addi p.2 b)

/-- The same words, from key words with the counts already added: `b1 = k + 1`, `b2 = a + 2`, `b3 = b + 3`, `b4 = k + 4`, `b5 = a + 5`. -/
def cipher' (a b k b1 b2 b3 b4 b5 x : BitVec 32) : BitVec 32 × BitVec 32 :=
  feed' k b5 (mixEven' (feed' b b4 (mixOdd' (feed' a b3 (mixEven' (feed' k b2 (mixOdd' (feed' b b1 (mixEven'
    (IntOp.addi 0#32 a, IntOp.addi x b))))))))))

def word' (a b k b1 b2 b3 b4 b5 x : BitVec 32) : BitVec 32 := IntOp.xori (cipher' a b k b1 b2 b3 b4 b5 x).1 (cipher' a b k b1 b2 b3 b4 b5 x).2

theorem mix'_eq : mix' = mix := by
  funext l r p; exact Prod.ext rfl (BitVec.xor_comm _ _)

theorem feed'_eq {a b n b' : BitVec 32} (h : b' = IntOp.addi b n) : feed' a b' = feed a b n := by
  funext p; subst h; exact Prod.ext rfl (BitVec.add_assoc _ _ _).symm

/-- The two ways of adding the counts give the same word. -/
theorem word'_eq {a b k b1 b2 b3 b4 b5 : BitVec 32} (h1 : b1 = IntOp.addi k 1#32) (h2 : b2 = IntOp.addi a 2#32)
    (h3 : b3 = IntOp.addi b 3#32) (h4 : b4 = IntOp.addi k 4#32) (h5 : b5 = IntOp.addi a 5#32) (x : BitVec 32) :
    word' a b k b1 b2 b3 b4 b5 x = word a b k x := by
  have e : mixEven' = mixEven := by funext p; simp only [mixEven', mixEven, mix'_eq]
  have o : mixOdd' = mixOdd := by funext p; simp only [mixOdd', mixOdd, mix'_eq]
  unfold word' word cipher' cipher
  rw [e, o, feed'_eq h1, feed'_eq h2, feed'_eq h3, feed'_eq h4, feed'_eq h5]

end Cert.Loss

end
-- ==== Proof.Math.Uniform.lean ====
/- The uniform number of a random word: the bits of a number in `[1, 2)` less one, and the word's top bits times
   `2^-23`, are the same number; its logarithm, kept from zero, is negative and finite. -/
module

public import proofs.«01_k».proof.Proof.Math.Spec
public import proofs.«01_k».proof.Proof.Math.Word

@[expose] public section

set_option maxRecDepth 16384

noncomputable section

namespace Cert.Loss

open Idealize.ShloMosaic

/-- The uniform number of the word `w`. -/
def unif (w : BitVec 32) : EReal := Ideal.ofBits .f32 (IntOp.ori (IntOp.shrui .host w 9#32) 1065353216#32) - 1

/-- The sample's logarithm. -/
def logUnif (w : BitVec 32) : EReal := Ideal.log (max (Ideal.ofBits .f32 8388608#32) (unif w))

theorem top_bits (w : BitVec 32) : (IntOp.shrui .host w 9#32).toNat = w.toNat / 512 := by
  show (if (9#32).toNat < 32 then w >>> (9#32) else _).toNat = _
  rw [if_pos (by decide)]
  simp [Nat.shiftRight_eq_div_pow]

/-- A number in `[1, 2)` by its bits. -/
theorem one_to_two (n : Nat) (h : n < 2 ^ 23) (b : BitVec 32) (hb : b.toNat = 2 ^ 23 * 127 + n) :
    Ideal.ofBits .f32 b = ((1 + n * (2 : ℝ) ^ (-23 : ℤ) : ℝ) : EReal) := by
  have h1 : (b.extractLsb' (8 + 23) 1 == 1#1) = false := by
    refine beq_eq_false_iff_ne.mpr fun e => ?_
    have := congrArg BitVec.toNat e
    rw [BitVec.extractLsb'_toNat, hb, Nat.shiftRight_eq_div_pow] at this
    simp only [BitVec.toNat_ofNat] at this
    omega
  have h2 : (b.extractLsb' 23 8).toNat = 127 := by
    rw [BitVec.extractLsb'_toNat, hb, Nat.shiftRight_eq_div_pow]; omega
  have h3 : (b.extractLsb' 0 23).toNat = n := by
    rw [BitVec.extractLsb'_toNat, hb, Nat.shiftRight_eq_div_pow]; omega
  show Ideal.ieee 8 23 b = _
  unfold Ideal.ieee
  simp only [h1, h2, h3]
  rw [if_neg (by norm_num), if_neg (by norm_num)]
  congr 1
  push_cast
  norm_num
  ring

theorem scale_f32 : Ideal.ofBits .f32 0x34000000#32 = (((2 : ℝ) ^ (-23 : ℤ) : ℝ) : EReal) := by
  simp [Ideal.ofBits, Ideal.ieee, -EReal.coe_mul]; norm_num

/-- The uniform number is the word's top 23 bits over `2^23`. -/
theorem unif_real (w : BitVec 32) : unif w = (((w.toNat / 512 : ℕ) * (2 : ℝ) ^ (-23 : ℤ) : ℝ) : EReal) := by
  have hn : w.toNat / 512 < 2 ^ 23 := by have := w.isLt; omega
  have hb : (IntOp.ori (IntOp.shrui .host w 9#32) 1065353216#32).toNat = 2 ^ 23 * 127 + w.toNat / 512 := by
    show ((IntOp.shrui .host w 9#32) ||| 1065353216#32).toNat = _
    rw [BitVec.toNat_or, top_bits, Nat.or_comm, Nat.two_pow_add_eq_or_of_lt hn]
    rfl
  unfold unif
  rw [one_to_two _ hn _ hb, ← EReal.coe_one, ← EReal.coe_sub]
  congr 1
  ring

/-- The other way of writing it. -/
theorem unif_eq (w : BitVec 32) :
    FloatOps.sitofp (F := Ideal) FTy.f32 (IntOp.shrui .host w 9#32) * Ideal.ofBits .f32 0x34000000#32 = unif w := by
  have hn : w.toNat / 512 < 2 ^ 23 := by have := w.isLt; omega
  have e : (IntOp.shrui .host w 9#32).toInt = ((w.toNat / 512 : ℕ) : ℤ) := by
    rw [BitVec.toInt_eq_toNat_of_lt (by rw [top_bits]; omega), top_bits]
  show (((IntOp.shrui .host w 9#32).toInt : ℝ) : EReal) * _ = _
  rw [e, scale_f32, unif_real, ← EReal.coe_mul, Int.cast_natCast]

/-- The sample's logarithm is finite and negative. -/
theorem logUnif_real (w : BitVec 32) : ∃ r : ℝ, r < 0 ∧ logUnif w = (r : EReal) := by
  obtain ⟨t, ht0, ht1, et⟩ := tiny_real
  have hn : w.toNat / 512 < 2 ^ 23 := by have := w.isLt; omega
  have h1 : ((w.toNat / 512 : ℕ) * (2 : ℝ) ^ (-23 : ℤ) : ℝ) < 1 := by
    have : ((w.toNat / 512 : ℕ) : ℝ) < 2 ^ 23 := by exact_mod_cast hn
    rw [zpow_neg, ← div_eq_mul_inv, div_lt_one (by positivity)]
    exact_mod_cast this
  unfold logUnif
  rw [unif_real, et, ← EReal.coe_strictMono.monotone.map_max, log_coe (lt_max_of_lt_left ht0)]
  exact ⟨_, Real.log_neg (lt_max_of_lt_left ht0) (max_lt ht1 h1), rfl⟩

/-- The position of sample `s` at row `i`, column `j`. -/
def posWord (s : Nat) (i j : Fin 1024) : BitVec 32 := BitVec.ofNat 32 ((s * 1024 + i.val) * 1024 + j.val)

/-- The first half's samples' logarithms. -/
def logA (s : Nat) (i j : Fin 1024) : EReal := logUnif (word 1832780943#32 270669613#32 1724713080#32 (posWord s i j))

/-- The second half's. -/
def logB (s : Nat) (i j : Fin 1024) : EReal := logUnif (word 64467757#32 2916123636#32 3050711811#32 (posWord s i j))

end Cert.Loss

end
-- ==== Proof.Value.Host.lean ====
/- What the host hands the kernel: the slices of the argument and the table of samples, read at a place. -/
module

public import proofs.«01_k».proof.Proof.Value.Grid
public import proofs.«01_k».proof.Proof.Math.Uniform
public import Idealize.ShloMosaic.Lib.StableHlo.ReadAt
public import Idealize.ShloMosaic.Lib.Pointwise
public import Idealize.ShloMosaic.Lib.Tactic

@[expose] public section

set_option maxRecDepth 16384
set_option maxHeartbeats 40000000

noncomputable section

namespace Cert.KernelIdeal.Gen

open Idealize.ShloMosaic Idealize.ShloMosaic.TcCoe Idealize.ShloMosaic.Tactic Cert.Loss
open Idealize.SL Idealize.SL.Sem

variable (m : (ℓ : Loc nD τ sig) → Buf (Elt Ideal) ℓ) (c : Dev nD)

/-- The argument of distances, as the launch memory holds it. -/
def argIn : FVec Ideal S1024x1045 .f32 := m (c, Proc.devRef .tc main_arg0)

theorem xsIn_at (i j : Fin 1024) : xsIn m c (ix2 i j) = argIn m c (ix2 i ⟨21 + j.val, by omega⟩) := by
  unfold xsIn argIn V
  after_reads_at

theorem xtIn_at (i j : Fin 1024) : xtIn m c (ix2 i j) = argIn m c (ix2 j ⟨21 + i.val, by omega⟩) := by
  unfold xtIn argIn V
  after_reads_at

theorem gtIn_at (i : Fin 1024) : gtIn m c (ix2 i 0) = argIn m c (ix2 i ⟨0, by omega⟩) := by
  unfold gtIn argIn V
  after_reads_at

/-- The table at a place: the samples at positions below `5 · 1024 · 1024` are drawn by one key, the rest by another. -/
theorem tabIn_at (s : Fin 15) (i j : Fin 1024) (n : Nat) (hn : n = s.val * 1048576 + i.val * 1024 + j.val) (a b x : BitVec 32)
    (ha : a = Scalar.select (IntOp.cmpi CmpIPredicate.ult (BitVec.ofNat 32 n) 5242880#32) 1832780943#32 64467757#32)
    (hb : b = Scalar.select (IntOp.cmpi CmpIPredicate.ult (BitVec.ofNat 32 n) 5242880#32) 270669613#32 2916123636#32)
    (hx : x = Scalar.select (IntOp.cmpi CmpIPredicate.ult (BitVec.ofNat 32 n) 5242880#32) (BitVec.ofNat 32 n)
      (IntOp.subi (BitVec.ofNat 32 n) 5242880#32)) :
    tabIn m c (ix3 s i j) = logUnif (word a b (IntOp.xori (IntOp.xori a b) 466688986#32) x) := by
  unfold tabIn V
  after_reads_at
  subst ha hb hx hn
  sl_kernel_rfl

theorem ult_true {n : Nat} (h : n < 5242880) : IntOp.cmpi CmpIPredicate.ult (BitVec.ofNat 32 n) 5242880#32 = 1#1 := by
  show BitVec.ofBool ((BitVec.ofNat 32 n).ult 5242880#32) = _
  have e : (BitVec.ofNat 32 n).ult 5242880#32 = true := by
    rw [BitVec.ult_iff_lt, BitVec.lt_def]
    simp only [BitVec.toNat_ofNat]; omega
  rw [e]; rfl

theorem ult_false {n : Nat} (h : 5242880 ≤ n) (h' : n < 2 ^ 32) : IntOp.cmpi CmpIPredicate.ult (BitVec.ofNat 32 n) 5242880#32 = 0#1 := by
  show BitVec.ofBool ((BitVec.ofNat 32 n).ult 5242880#32) = _
  have e : (BitVec.ofNat 32 n).ult 5242880#32 = false := by
    refine Bool.eq_false_iff.mpr fun hh => ?_
    rw [BitVec.ult_iff_lt, BitVec.lt_def] at hh
    simp only [BitVec.toNat_ofNat] at hh; omega
  rw [e]; rfl

/-- The first five slabs are the first half's samples. -/
theorem table_a (s : Fin 15) (hs : s.val < 5) (i j : Fin 1024) : tabIn m c (ix3 s i j) = logA s.val i j := by
  have hc := ult_true (n := s.val * 1048576 + i.val * 1024 + j.val) (by omega)
  rw [tabIn_at m c s i j _ rfl _ _ _ rfl rfl rfl]
  simp only [hc]
  unfold logA posWord
  rw [show (s.val * 1024 + i.val) * 1024 + j.val = s.val * 1048576 + i.val * 1024 + j.val by omega]
  rfl

/-- The other ten are the second half's. -/
theorem table_b (s : Fin 15) (hs : 5 ≤ s.val) (i j : Fin 1024) : tabIn m c (ix3 s i j) = logB (s.val - 5) i j := by
  have hc := ult_false (n := s.val * 1048576 + i.val * 1024 + j.val) (by omega) (by omega)
  have hx : IntOp.subi (BitVec.ofNat 32 (s.val * 1048576 + i.val * 1024 + j.val)) 5242880#32 = posWord (s.val - 5) i j := by
    apply BitVec.eq_of_toNat_eq
    show ((BitVec.ofNat 32 (s.val * 1048576 + i.val * 1024 + j.val)) - 5242880#32).toNat = _
    unfold posWord
    simp only [BitVec.toNat_sub, BitVec.toNat_ofNat]
    omega
  rw [tabIn_at m c s i j _ rfl _ _ _ rfl rfl rfl]
  simp only [hc, hx]
  rfl

end Cert.KernelIdeal.Gen

end
-- ==== Proof.Math.Loss.lean ====
/- The loss itself, as a function of a square of distances, a column of them and the samples' logarithms. -/
module

public import proofs.«01_k».proof.Proof.Math.Spec

@[expose] public section

set_option maxRecDepth 16384

noncomputable section

namespace Cert.Loss

open Idealize.ShloMosaic

variable (X : Fin 1024 → Fin 1024 → EReal) (G : Fin 1024 → EReal)

/-- The greatest log-weight of the whole square. -/
def topLw : EReal := Finset.univ.sup fun p : Fin 1024 × Fin 1024 => lw (X p.1 p.2) (G p.1)

theorem topLw_le (b : EReal) : topLw X G ≤ b ↔ ∀ i j, lw (X i j) (G i) ≤ b := by
  unfold topLw
  rw [Finset.sup_le_iff]
  exact ⟨fun h i j => h (i, j) (Finset.mem_univ _), fun h p _ => h p.1 p.2⟩

/-- The weight at row `i`, column `j`. -/
def sqWt (i j : Fin 1024) : EReal := wt (topLw X G) (X i j) (G i) (i = j)

/-- The normalised weight there. -/
def sqQ (i j : Fin 1024) : EReal := qv (sqWt X G i j) (∑ k : Fin 1024, sqWt X G i k)

theorem sqWt_real (i j : Fin 1024) : ∃ r : ℝ, 0 ≤ r ∧ sqWt X G i j = (r : EReal) :=
  wt_real _ ((topLw_le X G _).mp (le_refl _) i j)

theorem sqQ_real (i j : Fin 1024) : ∃ r : ℝ, 0 < r ∧ sqQ X G i j = (r : EReal) :=
  qv_real (sqWt_real X G i j) (sum_real _ _ fun k => sqWt_real X G i k)

/-- Row `i`'s contribution, the sampled column being the first where the log-weight plus the noise is greatest. -/
def rowLoss (l : Fin 1024 → EReal) (i : Fin 1024) : EReal :=
  contrib (X i i) (X i (firstMax fun j : Fin 1024 => zkey (l j) (sqQ X G i j)))

/-- The column sampled by the other key is the same. -/
theorem firstMax_keys {l : Fin 1024 → EReal} (hl : ∀ j, ∃ r : ℝ, r < 0 ∧ l j = (r : EReal)) (i : Fin 1024) :
    (firstMax fun j : Fin 1024 => rkey (l j) (sqQ X G i j)) = firstMax fun j : Fin 1024 => zkey (l j) (sqQ X G i j) := by
  refine IsFirst.eq_firstMax (IsFirst.congr (fun a b => ?_) (firstMax_spec _))
  obtain ⟨p, hp, ep⟩ := hl a
  obtain ⟨q, hq, eq⟩ := hl b
  obtain ⟨u, hu, eu⟩ := sqQ_real X G i a
  obtain ⟨v, hv, ev⟩ := sqQ_real X G i b
  rw [ep, eq, eu, ev]
  exact (key_le_iff hp hq hu hv).symm

end Cert.Loss

end
-- ==== Proof.Math.Means.lean ====
/- The two halves' means, as one sum: `2 + (A + B) / 1024` against `mean (1 + A) + mean (1 + B)`. -/
module

public import proofs.«01_k».proof.Proof.Math.Spec

@[expose] public section

set_option maxRecDepth 16384

noncomputable section

namespace Cert.Loss

open Idealize.ShloMosaic

theorem div_1024 (x : EReal) : Ideal.div x ((1024 : ℝ) : EReal) = x * ((1 / 1024 : ℝ) : EReal) := by
  unfold Ideal.div
  rw [if_neg (EReal.coe_ne_zero.mpr (by norm_num)), ← EReal.coe_inv, one_div]

/-- A half's mean: one for each row and the contributions. -/
theorem mean_half {n : Nat} (f : Nat → Fin 1024 → EReal) (hf : ∀ s i, 0 ≤ f s i) :
    Ideal.div (∑ i : Fin 1024, (1 + ∑ s : Fin n, f s.val i)) ((1024 : ℝ) : EReal)
      = 1 + (∑ s ∈ Finset.range n, ∑ i : Fin 1024, f s i) * ((1 / 1024 : ℝ) : EReal) := by
  rw [div_1024, Finset.sum_add_distrib, Finset.sum_comm, Finset.sum_range fun s => ∑ i : Fin 1024, f s i]
  have h1 : (∑ _i : Fin 1024, (1 : EReal)) = ((1024 : ℝ) : EReal) := by
    rw [Finset.sum_const, Finset.card_univ, Fintype.card_fin, nsmul_one]; rfl
  have h0 : (0 : EReal) ≤ ∑ s : Fin n, ∑ i : Fin 1024, f s.val i :=
    Finset.sum_nonneg fun s _ => Finset.sum_nonneg fun i _ => hf _ _
  rw [h1, EReal.right_distrib_of_nonneg (EReal.coe_nonneg.mpr (by norm_num)) h0, ← EReal.coe_mul]
  norm_num

/-- The two halves together. -/
theorem two_means (a b t : Nat → Fin 1024 → EReal) (ha : ∀ s i, 0 ≤ a s i) (hb : ∀ s i, 0 ≤ b s i)
    (hta : ∀ s, s < 5 → ∀ i, t s i = a s i) (htb : ∀ s, s < 10 → ∀ i, t (5 + s) i = b s i) :
    ((2 : ℝ) : EReal) + (∑ s ∈ Finset.range 15, ∑ i : Fin 1024, t s i) * ((1 / 1024 : ℝ) : EReal)
      = Ideal.div (∑ i : Fin 1024, (1 + ∑ s : Fin 5, a s.val i)) ((1024 : ℝ) : EReal)
        + Ideal.div (∑ i : Fin 1024, (1 + ∑ s : Fin 10, b s.val i)) ((1024 : ℝ) : EReal) := by
  have e : ∑ s ∈ Finset.range 15, ∑ i : Fin 1024, t s i
      = (∑ s ∈ Finset.range 5, ∑ i : Fin 1024, a s i) + ∑ s ∈ Finset.range 10, ∑ i : Fin 1024, b s i := by
    rw [show 15 = 5 + 10 from rfl, Finset.sum_range_add]
    exact congrArg₂ (· + ·) (Finset.sum_congr rfl fun s hs => Finset.sum_congr rfl fun i _ => hta s (Finset.mem_range.mp hs) i)
      (Finset.sum_congr rfl fun s hs => Finset.sum_congr rfl fun i _ => htb s (Finset.mem_range.mp hs) i)
  rw [mean_half a ha, mean_half b hb, e, EReal.right_distrib_of_nonneg
    (Finset.sum_nonneg fun s _ => Finset.sum_nonneg fun i _ => ha _ _) (Finset.sum_nonneg fun s _ => Finset.sum_nonneg fun i _ => hb _ _)]
  rw [show ((2 : ℝ) : EReal) = 1 + 1 by rw [← EReal.coe_one, ← EReal.coe_add]; norm_num]
  exact add_add_add_comm _ _ _ _

end Cert.Loss

end
-- ==== Proof.Value.Total.lean ====
/- The kernel's result as the loss of its argument. -/
module

public import proofs.«01_k».proof.Proof.Value.Host
public import proofs.«01_k».proof.Proof.Math.Loss
public import proofs.«01_k».proof.Proof.Math.Means

@[expose] public section

set_option maxRecDepth 16384

noncomputable section

namespace Cert.KernelIdeal.Gen

open Idealize.ShloMosaic Idealize.ShloMosaic.TcCoe Idealize.ShloMosaic.Tactic Cert.Loss
open Idealize.SL Idealize.SL.Sem

section
variable (x : Vec Ideal S1024x1024 .f32) (g : Vec Ideal S1024x1 .f32) (X : Fin 1024 → Fin 1024 → EReal) (G : Fin 1024 → EReal)

/-- The kernel's inverse weights are those of the square it reads. -/
theorem weights_at (hx : ∀ i j, x (ix2 i j) = X i j) (hg : ∀ i, g (ix2 i 0) = G i) (i j : Fin 1024) :
    weights x g (ix2 i j) = Ideal.div 1 (sqQ X G i j) := by
  obtain rfl : X = fun i j => x (ix2 i j) := funext fun i => funext fun j => (hx i j).symm
  obtain rfl : G = fun i => g (ix2 i 0) := funext fun i => (hg i).symm
  rfl

/-- A row's contribution is the loss's. -/
theorem rowTerm_eq (hx : ∀ i j, x (ix2 i j) = X i j) (hg : ∀ i, g (ix2 i 0) = G i) (t : Vec Ideal S1x1024x1024 .f32)
    (d : Vec Ideal S1024x1 .f32) (hd : ∀ i, d (ix2 i 0) = cNine + score (X i i)) (l : Fin 1024 → Fin 1024 → EReal)
    (ht : ∀ i j, t (ix3 0 i j) = l i j) (hl : ∀ i j, ∃ r : ℝ, r < 0 ∧ l i j = (r : EReal)) (i : Fin 1024) :
    rowTerm t (weights x g) x d i = rowLoss X G (l i) i := by
  unfold rowTerm rowLoss contrib
  have hf : (fun j : Fin 1024 => t (ix3 0 i j) * weights x g (ix2 i j)) = fun j => rkey (l i j) (sqQ X G i j) :=
    funext fun j => by rw [ht, weights_at x g X G hx hg]; rfl
  rw [hf, firstMax_keys X G (hl i) i, hx, hd]
end

variable (m : (ℓ : Loc nD τ sig) → Buf (Elt Ideal) ℓ) (c : Dev nD)

/-- The distances the kernel reads. -/
def sqIn (i j : Fin 1024) : EReal := argIn m c (ix2 i ⟨21 + j.val, by omega⟩)

/-- The rows' own. -/
def ownIn (i : Fin 1024) : EReal := argIn m c (ix2 i ⟨0, by omega⟩)

/-- Sample `s`'s contributions. -/
def sampleRow (s : Nat) (i : Fin 1024) : EReal :=
  if s < 5 then rowLoss (sqIn m c) (ownIn m c) (logA s i) i else rowLoss (fun i j => sqIn m c j i) (ownIn m c) (logB (s - 5) i) i

theorem sampleTerm_eq (s : Nat) (hs : s < 15) : sampleTerm m c s = ∑ i : Fin 1024, sampleRow m c s i := by
  have hm : min s 14 = s := by omega
  have ht : ∀ i j, slab m c s (ix3 0 i j) = tabIn m c (ix3 ⟨s, hs⟩ i j) := fun i j =>
    congrArg (fun k : Fin 15 => tabIn m c (ix3 k i j)) (Fin.ext hm)
  unfold sampleTerm sampleRow slabSum
  by_cases h : s < 5
  · simp only [if_pos h]
    exact Finset.sum_congr rfl fun i _ => rowTerm_eq _ _ (sqIn m c) (ownIn m c) (xsIn_at m c) (gtIn_at m c) _ _
      (fun i => congrArg (fun y => cNine + score y) (xsIn_at m c i i)) (logA s)
      (fun i j => (ht i j).trans (table_a m c ⟨s, hs⟩ h i j)) (fun i j => logUnif_real _) i
  · simp only [if_neg h]
    exact Finset.sum_congr rfl fun i _ => rowTerm_eq _ _ (fun i j => sqIn m c j i) (ownIn m c) (xtIn_at m c) (gtIn_at m c) _ _
      (fun i => congrArg (fun y => cNine + score y) (xsIn_at m c i i)) (logB (s - 5))
      (fun i j => (ht i j).trans (table_b m c ⟨s, hs⟩ (by show 5 ≤ s; omega) i j)) (fun i j => logUnif_real _) i

/-- The kernel's result: the two halves' means. -/
theorem result_loss : Value.G4 m c = fun _ =>
    Ideal.div (∑ i : Fin 1024, (1 + ∑ s : Fin 5, rowLoss (sqIn m c) (ownIn m c) (logA s.val i) i)) ((1024 : ℝ) : EReal)
      + Ideal.div (∑ i : Fin 1024, (1 + ∑ s : Fin 10, rowLoss (fun i j => sqIn m c j i) (ownIn m c) (logB s.val i) i)) ((1024 : ℝ) : EReal) := by
  rw [result_eq]
  funext _
  rw [Finset.sum_congr rfl fun s hs => sampleTerm_eq m c s (Finset.mem_range.mp hs)]
  exact two_means (fun s i => rowLoss (sqIn m c) (ownIn m c) (logA s i) i)
    (fun s i => rowLoss (fun i j => sqIn m c j i) (ownIn m c) (logB s i) i) (sampleRow m c)
    (fun _ _ => contrib_nonneg _ _) (fun _ _ => contrib_nonneg _ _) (fun s hs i => if_pos hs)
    (fun s hs i => by
      unfold sampleRow
      rw [if_neg (by omega), show 5 + s - 5 = s by omega])

end Cert.KernelIdeal.Gen

end
-- ==== Proof.Ref.Logits.lean ====
/- The reference's logits: the text both halves share, as functions of a square of scores and a column of scores, read
   at a place. -/
module

public import proofs.«01_k».proof.Proof.Gen.ReferenceIdeal.Read
public import proofs.«01_k».proof.Proof.Math.Loss
public import Idealize.ShloMosaic.Lib.Pointwise
public import Idealize.ShloMosaic.Lib.Tactic

@[expose] public section

set_option maxRecDepth 16384

noncomputable section

namespace Cert.ReferenceIdeal.Read

open Cert.ReferenceIdeal Cert.ReferenceIdeal.Gen Idealize.ShloMosaic Idealize.ShloMosaic.TcCoe Idealize.ShloMosaic.Tactic Idealize.ShloMosaic.StableHlo Cert.Loss

variable (D L : FVec Ideal S1024x1024 .f32) (g : FVec Ideal S1024 .f32)

/-- The square that holds one number everywhere. -/
def filled (b : BitVec 32) : FVec Ideal S1024x1024 .f32 := broadcastInDim S1024x1024 ![] bcast_S_S1024x1024 (constant (F := Ideal) S_ .f32 b)

/-- A score less its row's own. -/
def diffSq : FVec Ideal S1024x1024 .f32 :=
  subf D (broadcastInDim S1024x1024 ![0, 1] bcast_S1024x1_S1024x1024_0_1 (broadcastInDim S1024x1 ![0] bcast_S1024_S1024x1_0 g))

/-- The scores the weights are taken of. -/
def stSq : FVec Ideal S1024x1024 .f32 := select (cmpf .olt (diffSq D g) (filled 0xBCF5C28F#32)) (filled 0x2EDBE6FF#32) D

/-- The log-weights. -/
def lwSq : FVec Ideal S1024x1024 .f32 :=
  subf (mulf (filled 0xC47F8000#32) (Host.log (stSq D g)))
    (mulf (filled 0x43FF4000#32) (Host.log (subf (filled 0x3F800000#32) (mulf (filled 0x3E800000#32) (Host.powf (stSq D g) (filled 0x40000000#32))))))

/-- Their maximum. -/
def topSq : FVec Ideal S_ .f32 := Host.reduce FloatOps.maximumf L (constant (F := Ideal) S_ .f32 0xFF800000#32) reducesTo_S1024x1024_S_d0_1 h_S_

/-- The weights, out of the log-weights. -/
def wtSq : FVec Ideal S1024x1024 .f32 :=
  mulf (mulf (Host.exp (subf L (broadcastInDim S1024x1024 ![] bcast_S_S1024x1024 (topSq L))))
      (subf (filled 0x3F800000#32) (uitofp .f32 (cmpi .eq (addi (iotaInDim S1024x1024 32 0) (broadcastInDim S1024x1024 ![] bcast_S_S1024x1024 (constantI S_ 32 0#32)))
        (iotaInDim S1024x1024 32 1)))))
    (select (cmpf .ogt (diffSq D g) (filled 0x3DB851EC#32)) (filled 0x3F800000#32) (filled 0x2EDBE6FF#32))

/-- The logits, out of the weights `L`. -/
def logSq : FVec Ideal S1024x1024 .f32 :=
  Host.log (addf (Host.divf L (broadcastInDim S1024x1024 ![0, 1] bcast_S1024x1_S1024x1024_0_1
      (addf (broadcastInDim S1024x1 ![0] bcast_S1024_S1024x1_0 (Host.reduceAdd L (constant (F := Ideal) S_ .f32 0x00000000#32) reducesTo_S1024x1024_S1024_d1 h_S_))
        (broadcastInDim S1024x1 ![] bcast_S_S1024x1 (constant (F := Ideal) S_ .f32 0x2EDBE6FF#32)))))
    (filled 0x1E3CE508#32))

/-- The first half's logits are those of the scores. -/
theorem logits_a (x0 : FVec Ideal S1024x1045 .f32) :
    val_main_v56 (F := Ideal) x0 = logSq (wtSq (val_main_v8 (F := Ideal) x0) (lwSq (val_main_v8 (F := Ideal) x0) (val_main_v4 (F := Ideal) x0)) (val_main_v4 (F := Ideal) x0)) := by
  sl_kernel_rfl

/-- The second half's are those of the transposed scores. -/
theorem logits_b (x0 : FVec Ideal S1024x1045 .f32) :
    val_main_v304 (F := Ideal) x0 = logSq (wtSq (val_main_v256 (F := Ideal) x0) (lwSq (val_main_v256 (F := Ideal) x0) (val_main_v4 (F := Ideal) x0)) (val_main_v4 (F := Ideal) x0)) := by
  sl_kernel_rfl

variable {D L g} {X : Fin 1024 → Fin 1024 → EReal} {G : Fin 1024 → EReal}

theorem lwSq_at (hD : ∀ i j, D (ix2 i j) = score (X i j)) (hg : ∀ i, g (ix1 i) = score (G i)) (i j : Fin 1024) :
    lwSq D g (ix2 i j) = lw (X i j) (G i) := by
  have e : stSq D g (ix2 i j) = st (X i j) (G i) := by
    pointwise [stSq, diffSq, filled, st, hD, hg]
  have e2 : lwSq D g (ix2 i j) = cA * Ideal.log (stSq D g (ix2 i j)) - cB * Ideal.log ((1 : EReal) - cQuarter * Ideal.pow (stSq D g (ix2 i j)) ((2 : ℝ) : EReal)) := by
    rw [← two_f32]
    pointwise [lwSq, filled]
  rw [e2, e, pow_two _ (st_ne_bot _ _)]
  rfl

theorem topSq_at (hL : ∀ i j, L (ix2 i j) = lw (X i j) (G i)) (u : S_.Idx) : topSq L u = topLw X G := by
  refine eq_of_forall_ge_iff fun b => ?_
  have e : topSq L u = Finset.fold max (Ideal.ofBits .f32 0xFF800000#32) (fun p : Fin 1024 × Fin 1024 => L (ix2 p.1 p.2)) Finset.univ := by
    pointwise [topSq]
  rw [e, Finset.fold_max_le, negInf_f32, topLw_le]
  exact ⟨fun h i j => hL i j ▸ h.2 (i, j) (Finset.mem_univ _), fun h => ⟨bot_le, fun p _ => (hL p.1 p.2).symm ▸ h p.1 p.2⟩⟩

/-- One less the identity matrix's entry. -/
theorem off_eye (i j : Fin 1024) :
    (1 : EReal) - FloatOps.uitofp (F := Ideal) FTy.f32 (IntOp.cmpi CmpIPredicate.eq (IntOp.addi (BitVec.ofNat 32 i.val) 0#32) (BitVec.ofNat 32 j.val))
      = if i = j then 0 else 1 := by
  have hw : (IntOp.addi (BitVec.ofNat 32 i.val) 0#32 = BitVec.ofNat 32 j.val) ↔ i = j := by
    rw [show IntOp.addi (BitVec.ofNat 32 i.val) 0#32 = BitVec.ofNat 32 i.val from BitVec.add_zero _]
    constructor
    · intro h
      have := congrArg BitVec.toNat h
      have hi := i.isLt
      have hj := j.isLt
      simp only [BitVec.toNat_ofNat] at this
      exact Fin.ext (by omega)
    · rintro rfl; rfl
  have e : IntOp.cmpi CmpIPredicate.eq (IntOp.addi (BitVec.ofNat 32 i.val) 0#32) (BitVec.ofNat 32 j.val) = BitVec.ofBool (decide (i = j)) := by
    show BitVec.ofBool (IntOp.addi (BitVec.ofNat 32 i.val) 0#32 == BitVec.ofNat 32 j.val) = _
    refine congrArg _ ?_
    by_cases h : i = j
    · rw [beq_iff_eq.mpr (hw.mpr h), decide_eq_true h]
    · rw [beq_eq_false_iff_ne.mpr (mt hw.mp h), decide_eq_false h]
  rw [e]
  by_cases h : i = j
  · rw [if_pos h, decide_eq_true h]
    show (1 : EReal) - (((1 : ℕ) : ℝ) : EReal) = 0
    rw [Nat.cast_one, EReal.coe_one]
    exact EReal.sub_self (by decide) (by decide)
  · rw [if_neg h, decide_eq_false h]
    show (1 : EReal) - (((0 : ℕ) : ℝ) : EReal) = 1
    rw [Nat.cast_zero, EReal.coe_zero, sub_zero]

theorem wtSq_at (hD : ∀ i j, D (ix2 i j) = score (X i j)) (hg : ∀ i, g (ix1 i) = score (G i))
    (hL : ∀ i j, L (ix2 i j) = lw (X i j) (G i)) (i j : Fin 1024) : wtSq D L g (ix2 i j) = sqWt X G i j := by
  unfold sqWt
  rw [← topSq_at hL ix0]
  generalize hT : topSq L = T
  pointwise [wtSq, diffSq, filled, hD, hg, hL, hT, wt]
  rw [off_eye]
  by_cases h : i = j
  · rw [if_pos h, if_pos h, mul_zero]
  · rw [if_neg h, if_neg h, mul_one]

theorem logSq_at (hL : ∀ i j, L (ix2 i j) = sqWt X G i j) (i j : Fin 1024) : logSq L (ix2 i j) = Ideal.log (sqQ X G i j) := by
  pointwise [logSq, filled, hL, sqQ, qv]

end Cert.ReferenceIdeal.Read

end
-- ==== Proof.Math.TopFirst.lean ====
/- The position that a top-1 of a line returns is the first place where the line is greatest. -/
module

public import Idealize.ShloMosaic.PureOps.ShapeOps
public import Idealize.ShloMosaic.Lib.ValueIdxCore
public import proofs.«01_k».proof.Proof.Math.Spec

@[expose] public section

set_option maxRecDepth 16384

noncomputable section

namespace Cert.Loss

open Idealize.ShloMosaic Idealize.ShloMosaic.ValueIdx

variable {n : Nat}

/-- The head of a stable sort by descending `f` of an increasing list: the first element where `f` is greatest. -/
theorem head_stableSort (f : Fin n → EReal) (before : Fin n → Fin n → Bool)
    (hb : ∀ a b, before a b = decide (f b < f a)) (l : List (Fin n)) (hl : l.Pairwise (· < ·)) (hne : l ≠ []) :
    ∃ h t, stableSort before l = h :: t ∧ h ∈ l ∧ (∀ x ∈ l, f x ≤ f h) ∧ ∀ x ∈ l, x < h → f x < f h := by
  induction l with
  | nil => exact absurd rfl hne
  | cons a l ih =>
    obtain ⟨ha, hl'⟩ := List.pairwise_cons.mp hl
    by_cases hne' : l = []
    · subst hne'
      refine ⟨a, [], rfl, by simp, by simp, ?_⟩
      intro x hx hlt
      rw [List.mem_singleton.mp hx] at hlt
      exact absurd hlt (lt_irrefl a)
    · obtain ⟨h, t, e, hm, hmax, hfirst⟩ := ih hl' hne'
      unfold stableSort
      rw [e]
      unfold insertBefore
      rw [hb]
      by_cases hc : f a < f h
      · refine ⟨h, insertBefore before a t, by rw [if_pos (by simpa using hc)], List.mem_cons_of_mem _ hm, ?_, ?_⟩
        · intro x hx
          rcases List.mem_cons.mp hx with rfl | hx
          · exact hc.le
          · exact hmax x hx
        · intro x hx hlt
          rcases List.mem_cons.mp hx with rfl | hx
          · exact hc
          · exact hfirst x hx hlt
      · refine ⟨a, h :: t, by rw [if_neg (by simpa using hc)], List.mem_cons_self, ?_, ?_⟩
        · intro x hx
          rcases List.mem_cons.mp hx with rfl | hx
          · exact le_refl _
          · exact (hmax x hx).trans (not_lt.mp hc)
        · intro x hx hlt
          rcases List.mem_cons.mp hx with rfl | hx
          · exact absurd hlt (lt_irrefl _)
          · exact absurd hlt (not_lt.mpr (ha x hx).le)

/-- The position a stable descending sort puts first. -/
theorem sortedFrom_first (f : Fin (n + 1) → EReal) (before : Fin (n + 1) → Fin (n + 1) → Bool)
    (hb : ∀ a b, before a b = decide (f b < f a)) (k : Fin (n + 1)) (hk : k.val = 0) :
    sortedFrom before k = firstMax f := by
  obtain ⟨h, t, e, -, hmax, hfirst⟩ := head_stableSort f before hb (List.finRange (n + 1))
    (List.pairwise_lt_finRange _) (by simp)
  have hh : sortedFrom before k = h := by
    unfold sortedFrom
    have e' : sortPositions (n + 1) before = h :: t := e
    rw [List.get_eq_getElem]
    simp only [e', Fin.val_cast, hk, List.getElem_cons_zero]
  rw [hh]
  exact IsFirst.eq_firstMax ⟨fun j => hmax j (List.mem_finRange j), fun j hj => hfirst j (List.mem_finRange j) hj⟩

/-- The positions of a top-1 along the last of three axes. -/
theorem topK_first {A B : Nat} (x : FVec Ideal (⟨3, ![A, B, n + 1]⟩ : Shape) .f32)
    (h : (⟨3, ![A, B, n + 1]⟩ : Shape).Slices (fun _ => 0) ⟨3, ![A, B, 1]⟩) (a : Fin A) (b : Fin B) (c : Fin 1) :
    (Host.topK (s := (⟨3, ![A, B, n + 1]⟩ : Shape)) ⟨3, ![A, B, 1]⟩ 2
        (FloatOps.cmpfTotal (F := Ideal) (φ := .f32) .gt) x h).2 (ix3 a b c)
      = BitVec.ofNat 32 (firstMax fun k => x (ix3 a b k)).val := by
  have key : ∀ j : (⟨3, ![A, B, n + 1]⟩ : Shape).Idx, (j 0).val = a.val → (j 1).val = b.val → (j 2).val = 0 →
      (Host.sort2 (⟨3, ![A, B, n + 1]⟩ : Shape) 2
        (fun l r : Ideal .f32 × BitVec 32 => FloatOps.cmpfTotal (F := Ideal) (φ := .f32) .gt l.1 r.1) x
        (fun i => if hd : 2 < 3 then iotaInDim (⟨3, ![A, B, n + 1]⟩ : Shape) 32 ⟨2, hd⟩ i else 0#32)).2 j
      = BitVec.ofNat 32 (firstMax fun k => x (ix3 a b k)).val := by
    intro j h0 h1 h2
    have hax : 2 < (⟨3, ![A, B, n + 1]⟩ : Shape).rank := by show 2 < 3; decide
    have hal : ∀ k : Fin ((⟨3, ![A, B, n + 1]⟩ : Shape).size ⟨2, hax⟩),
        j.along (⟨2, hax⟩ : Fin (⟨3, ![A, B, n + 1]⟩ : Shape).rank) k = ix3 a b k := by
      intro k
      unfold Shape.Idx.along
      funext d
      fin_cases d
      · exact Fin.ext h0
      · exact Fin.ext h1
      · rfl
    unfold Host.sort2
    rw [dif_pos hax]
    have hs : sortedFrom (fun k k' : Fin ((⟨3, ![A, B, n + 1]⟩ : Shape).size ⟨2, hax⟩) =>
        FloatOps.cmpfTotal (F := Ideal) (φ := .f32) .gt (x (j.along ⟨2, hax⟩ k)) (x (j.along ⟨2, hax⟩ k')) == 1#1) (j ⟨2, hax⟩)
        = firstMax fun k => x (ix3 a b k) := by
      refine sortedFrom_first (n := n) (fun k => x (ix3 a b k)) _ ?_ _ h2
      intro p q
      have e : (FloatOps.cmpfTotal (F := Ideal) (φ := .f32) .gt (x (j.along ⟨2, hax⟩ p)) (x (j.along ⟨2, hax⟩ q)) == 1#1)
          = (FloatOps.cmpfTotal (F := Ideal) (φ := .f32) .gt (x (ix3 a b p)) (x (ix3 a b q)) == 1#1) :=
        congrArg₂ (fun u v => FloatOps.cmpfTotal (F := Ideal) (φ := .f32) .gt (x u) (x v) == 1#1) (hal p) (hal q)
      refine e.trans ?_
      show (BitVec.ofBool (decide (x (ix3 a b q) < x (ix3 a b p))) == 1#1) = _
      by_cases hc : x (ix3 a b q) < x (ix3 a b p) <;> simp [hc]
    exact (congrArg (fun k => iotaInDim (⟨3, ![A, B, n + 1]⟩ : Shape) 32 ⟨2, hax⟩ (j.along ⟨2, hax⟩ k)) hs).trans
      (congrArg (iotaInDim (⟨3, ![A, B, n + 1]⟩ : Shape) 32 ⟨2, hax⟩) (hal _))
  unfold Host.topK
  exact key _ (Nat.zero_add _) (Nat.zero_add _) (by
    show 0 + c.val = 0
    omega)

end Cert.Loss

end
-- ==== Proof.Ref.Samples.lean ====
/- The reference's samples: the random words, the noise, the keys and the sampled columns of the two halves. -/
module

public import proofs.«01_k».proof.Proof.Ref.Logits
public import proofs.«01_k».proof.Proof.Math.Word
public import proofs.«01_k».proof.Proof.Math.Uniform
public import proofs.«01_k».proof.Proof.Math.TopFirst

@[expose] public section

set_option maxRecDepth 16384

noncomputable section

namespace Cert.ReferenceIdeal.Read

open Cert.ReferenceIdeal Cert.ReferenceIdeal.Gen Idealize.ShloMosaic Idealize.ShloMosaic.TcCoe Idealize.ShloMosaic.Tactic Idealize.ShloMosaic.StableHlo Cert.Loss

variable (x0 : FVec Ideal S1024x1045 .f32)

theorem word_a (y : S5x1024x1024.Idx) : val_main_v224 (F := Ideal) y = word' 1832780943#32 270669613#32 1724713080#32 1724713081#32
    1832780945#32 270669616#32 1724713084#32 1832780948#32 (val_main_v58 (F := Ideal) y) := by
  sl_kernel_rfl

theorem word_b (y : S10x1024x1024.Idx) : val_main_v472 (F := Ideal) y = word' 64467757#32 2916123636#32 3050711811#32 3050711812#32
    64467759#32 2916123639#32 3050711815#32 64467762#32 (val_main_v306 (F := Ideal) y) := by
  sl_kernel_rfl

theorem pos_a (s : Fin 5) (i j : Fin 1024) : val_main_v58 (F := Ideal) (ix3 s i j) = posWord s.val i j := by
  pointwise [val_main_v58, val_main_v57, posWord]
  refine congrArg _ ?_; omega

theorem pos_b (s : Fin 10) (i j : Fin 1024) : val_main_v306 (F := Ideal) (ix3 s i j) = posWord s.val i j := by
  pointwise [val_main_v306, val_main_v305, posWord]
  refine congrArg _ ?_; omega

theorem noise_a (s : Fin 5) (i j : Fin 1024) : val_main_v236 (F := Ideal) (ix3 s i j) = -Ideal.log (-logA s.val i j) := by
  have e : val_main_v236 (F := Ideal) (ix3 s i j) = -Ideal.log (-Ideal.log (max (Ideal.ofBits .f32 8388608#32)
      (FloatOps.sitofp (F := Ideal) FTy.f32 (IntOp.shrui .host (val_main_v224 (F := Ideal) (ix3 s i j)) 9#32) * Ideal.ofBits .f32 0x34000000#32))) := by
    pointwise [val_main_v236, val_main_v235, val_main_v234, val_main_v233, val_main_v232, val_main_v231, val_main_v230, val_main_v229,
      val_main_v228, val_main_v227, val_main_v226, val_main_v225, val_main_c_69, val_main_cst_70, val_main_cst_71]
    rfl
  rw [e, unif_eq, word_a, word'_eq (by decide) (by decide) (by decide) (by decide) (by decide), pos_a]
  rfl

theorem noise_b (s : Fin 10) (i j : Fin 1024) : val_main_v484 (F := Ideal) (ix3 s i j) = -Ideal.log (-logB s.val i j) := by
  have e : val_main_v484 (F := Ideal) (ix3 s i j) = -Ideal.log (-Ideal.log (max (Ideal.ofBits .f32 8388608#32)
      (FloatOps.sitofp (F := Ideal) FTy.f32 (IntOp.shrui .host (val_main_v472 (F := Ideal) (ix3 s i j)) 9#32) * Ideal.ofBits .f32 0x34000000#32))) := by
    pointwise [val_main_v484, val_main_v483, val_main_v482, val_main_v481, val_main_v480, val_main_v479, val_main_v478, val_main_v477,
      val_main_v476, val_main_v475, val_main_v474, val_main_v473, val_main_c_147, val_main_cst_148, val_main_cst_149]
    rfl
  rw [e, unif_eq, word_b, word'_eq (by decide) (by decide) (by decide) (by decide) (by decide), pos_b]
  rfl

/-- The distances: entries 21 on of a row. -/
def distSq (i j : Fin 1024) : EReal := x0 (ix2 i ⟨21 + j.val, by omega⟩)

/-- The rows' own distance: the first entry of a row. -/
def distOwn (i : Fin 1024) : EReal := x0 (ix2 i ⟨0, by omega⟩)

theorem score_a (i j : Fin 1024) : val_main_v8 (F := Ideal) x0 (ix2 i j) = score (distSq x0 i j) := by
  rw [← score_eq]
  pointwise [val_main_v8, val_main_v7, val_main_v6, val_main_v5, val_main_cst_0, distSq]

theorem score_b (i j : Fin 1024) : val_main_v256 (F := Ideal) x0 (ix2 i j) = score (distSq x0 j i) := by
  rw [← score_a]
  pointwise [val_main_v256]

theorem score_own (i : Fin 1024) : val_main_v4 (F := Ideal) x0 (ix1 i) = score (distOwn x0 i) := by
  rw [← score_eq]
  pointwise [val_main_v4, val_main_v3, val_main_v2, val_main_v1, val_main_v0, val_main_cst, distOwn]

theorem logit_a (i j : Fin 1024) : val_main_v56 (F := Ideal) x0 (ix2 i j) = Ideal.log (sqQ (distSq x0) (distOwn x0) i j) := by
  rw [logits_a]
  exact logSq_at (fun i j => wtSq_at (score_a x0) (score_own x0) (fun i j => lwSq_at (score_a x0) (score_own x0) i j) i j) i j

theorem logit_b (i j : Fin 1024) : val_main_v304 (F := Ideal) x0 (ix2 i j) = Ideal.log (sqQ (fun i j => distSq x0 j i) (distOwn x0) i j) := by
  rw [logits_b]
  exact logSq_at (fun i j => wtSq_at (X := fun i j => distSq x0 j i) (score_b x0) (score_own x0)
    (fun i j => lwSq_at (X := fun i j => distSq x0 j i) (score_b x0) (score_own x0) i j) i j) i j

theorem key_a (s : Fin 5) (i j : Fin 1024) : val_main_v239 (F := Ideal) x0 (ix3 s i j) = zkey (logA s.val i j) (sqQ (distSq x0) (distOwn x0) i j) := by
  have e : val_main_v239 (F := Ideal) x0 (ix3 s i j) = val_main_v236 (F := Ideal) (ix3 s i j) + val_main_v56 (F := Ideal) x0 (ix2 i j) := by
    pointwise [val_main_v239, val_main_v238, val_main_v237]
  rw [e, noise_a, logit_a]
  rfl

theorem key_b (s : Fin 10) (i j : Fin 1024) : val_main_v487 (F := Ideal) x0 (ix3 s i j)
    = zkey (logB s.val i j) (sqQ (fun i j => distSq x0 j i) (distOwn x0) i j) := by
  have e : val_main_v487 (F := Ideal) x0 (ix3 s i j) = val_main_v484 (F := Ideal) (ix3 s i j) + val_main_v304 (F := Ideal) x0 (ix2 i j) := by
    pointwise [val_main_v487, val_main_v486, val_main_v485]
  rw [e, noise_b, logit_b]
  rfl

/-- The column a sample takes: the first where the key is greatest. -/
def colA (i : Fin 1024) (s : Nat) : Fin 1024 := firstMax fun j : Fin 1024 => zkey (logA s i j) (sqQ (distSq x0) (distOwn x0) i j)

def colB (i : Fin 1024) (s : Nat) : Fin 1024 := firstMax fun j : Fin 1024 => zkey (logB s i j) (sqQ (fun i j => distSq x0 j i) (distOwn x0) i j)

theorem ix3_same {a b c : Nat} (i : Fin a) (j : Fin b) (k : Fin c) : ValueIdx.ix3 i j k = ix3 i j k := eq_ix3 _

theorem column_a (i : Fin 1024) (s : Fin 5) : val_main_v241 (F := Ideal) x0 (ix2 i s) = BitVec.ofNat 32 (colA x0 i s.val).val := by
  have e : val_main_v241 (F := Ideal) x0 (ix2 i s) = val_main_indices (F := Ideal) x0 (ix3 s i 0) := by
    pointwise [val_main_v241, val_main_v240]
  have t := topK_first (val_main_v239 (F := Ideal) x0) sliceFits_S5x1024x1024_S5x1024x1 s i 0
  simp only [ix3_same, key_a] at t
  rw [e]
  exact t

theorem column_b (i : Fin 1024) (s : Fin 10) : val_main_v489 (F := Ideal) x0 (ix2 i s) = BitVec.ofNat 32 (colB x0 i s.val).val := by
  have e : val_main_v489 (F := Ideal) x0 (ix2 i s) = val_main_indices_151 (F := Ideal) x0 (ix3 s i 0) := by
    pointwise [val_main_v489, val_main_v488]
  have t := topK_first (val_main_v487 (F := Ideal) x0) sliceFits_S10x1024x1024_S10x1024x1 s i 0
  simp only [ix3_same, key_b] at t
  rw [e]
  exact t

end Cert.ReferenceIdeal.Read

end
-- ==== Proof.Math.TakeCols.lean ====
/- Reading `take_along_axis` along the columns at a place: the gather whose rows are a batching axis, and the
   in-range mask that goes with it. -/
module

public import Idealize.ShloMosaic.PureOps.ShapeOps
public import Idealize.ShloMosaic.PureOps.Reduce
public import Idealize.ShloMosaic.Lib.ValueIdxCore

@[expose] public section

set_option maxRecDepth 16384

noncomputable section

namespace Cert.Loss

open Idealize.ShloMosaic Idealize.ShloMosaic.ValueIdx

/-- The dimension numbers of a take along the columns: operand `[R, C]`, start indices `[R, K, 1]`, result `[R, K]`,
    the rows a batching axis. -/
abbrev colsDims (R C K : Nat)
    (wf : GatherDims.WF ⟨2, ![R, C]⟩ ⟨3, ![R, K, 1]⟩ ⟨2, ![R, K]⟩ [] [1] [0] [1] [0] 2 ![1, 1]) :
    GatherDims ⟨2, ![R, C]⟩ ⟨3, ![R, K, 1]⟩ ⟨2, ![R, K]⟩ where
  offsetDims := []
  collapsedSliceDims := [1]
  operandBatchingDims := [0]
  startIndicesBatchingDims := [0]
  startIndexMap := [1]
  indexVectorDim := 2
  sliceSizes := ![1, 1]
  wf := wf

/-- The gather at row `i`, place `k`, where the start index is the column `c`: the operand at `(i, c)`. -/
theorem gather_cols {α : Type} {R C K : Nat}
    (wf : GatherDims.WF ⟨2, ![R, C]⟩ ⟨3, ![R, K, 1]⟩ ⟨2, ![R, K]⟩ [] [1] [0] [1] [0] 2 ![1, 1])
    (x : (⟨2, ![R, C]⟩ : Shape).Idx → α) (idx : IVec ⟨3, ![R, K, 1]⟩ 32) (i : Fin R) (k : Fin K) (c : Fin C)
    (hc : (idx (ix3 i k 0)).toInt.toNat = c.val) :
    Host.gather (colsDims R C K wf) x idx (ix2 i k) = x (ix2 i c) := by
  unfold Host.gather
  refine congrArg x (funext fun a => Fin.ext ?_)
  show (colsDims R C K wf).start (ix2 i k) idx a + (colsDims R C K wf).batchCoord (ix2 i k) a
      + (colsDims R C K wf).offCoord (ix2 i k) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ fun h => ((GatherDims.mem_sKept _ _).mp h).2 (List.mem_singleton.mpr rfl),
      Nat.zero_add, Nat.add_zero]
    unfold GatherDims.batchCoord
    rw [dif_pos (List.mem_singleton.mpr rfl)]
    rfl
  · rw [GatherDims.batchCoord_eq_zero _ _ _ (by simp),
      GatherDims.offCoord_eq_zero _ _ _ fun h => ((GatherDims.mem_sKept _ _).mp h).1 (List.mem_singleton.mpr rfl),
      Nat.add_zero]
    unfold GatherDims.start
    rw [dif_pos (show (1 : Fin 2) ∈ (colsDims R C K wf).startIndexMap from List.mem_singleton.mpr rfl)]
    have hsi : (colsDims R C K wf).siIdx (ix2 i k) ⟨List.idxOf (1 : Fin 2) (colsDims R C K wf).startIndexMap,
        List.idxOf_lt_length_iff.2 (List.mem_singleton.mpr rfl)⟩ = ix3 i k 0 := by
      funext b; refine Fin.ext ?_
      match b with
      | ⟨0, _⟩ => rfl
      | ⟨1, _⟩ => rfl
      | ⟨2, _⟩ => rfl
    rw [hsi, hc]
    show min c.val (C - 1) = c.val
    have := c.isLt
    omega

/-- A conjunction of bits that are all set is set. -/
theorem reduce_and_one {s t u : Shape} {axes : List (Fin s.rank)} (x : IVec s 1) (init : u.Idx → BitVec 1)
    (h : s.ReducesTo axes t) (hu : 0 < u.numel) (hi : ∀ y, init y = 1#1) (hx : ∀ y, x y = 1#1) (j : t.Idx) :
    Host.reduce IntOp.andi x init h hu j = 1#1 := by
  rw [Host.reduce_eq_fold, hi]
  generalize (Finset.univ.filter fun i => h.drop i = j) = S
  classical
  induction S using Finset.induction_on with
  | empty => rfl
  | insert a S ha ih => rw [Finset.fold_insert ha, ih, hx]; rfl

end Cert.Loss

end
-- ==== Proof.Ref.Take.lean ====
/- The reference's `take_along_axis`, as a function of the table, the column words and how many a row takes, read at a
   place whose word is a column's. -/
module

public import proofs.«01_k».proof.Proof.Gen.ReferenceIdeal.Read
public import proofs.«01_k».proof.Proof.Math.TakeCols
public import proofs.«01_k».proof.Proof.Math.FirstWord
public import Idealize.ShloMosaic.Lib.Pipeline.Value
public import Idealize.ShloMosaic.Lib.Pointwise
public import Idealize.ShloMosaic.Lib.Tactic

@[expose] public section

set_option maxRecDepth 16384

noncomputable section

namespace Cert.ReferenceIdeal.Read

open Cert.ReferenceIdeal Cert.ReferenceIdeal.Gen Idealize.ShloMosaic Idealize.ShloMosaic.TcCoe Idealize.ShloMosaic.Tactic Idealize.ShloMosaic.StableHlo Cert.Loss

variable {K : Nat}

/-- The column words with a negative one counted from the end. -/
def wrapped (hb : S_.BroadcastsInDim (⟨2, ![1024, K]⟩ : Shape) ![]) (w : IVec (⟨2, ![1024, K]⟩ : Shape) 32) : IVec (⟨2, ![1024, K]⟩ : Shape) 32 :=
  select (cmpi .slt w (broadcastInDim (⟨2, ![1024, K]⟩ : Shape) ![] hb (constantI S_ 32 0#32)))
    (addi w (broadcastInDim (⟨2, ![1024, K]⟩ : Shape) ![] hb (constantI S_ 32 1024#32))) w

/-- Which of the words `v` are columns of the table. -/
def inside (hz : S_.BroadcastsInDim (⟨3, ![1024, K, 1]⟩ : Shape) ![])
    (hl : S1x1x1.BroadcastsInDim (⟨3, ![1024, K, 1]⟩ : Shape) ![0, 1, 2]) (v : IVec (⟨3, ![1024, K, 1]⟩ : Shape) 32) : IVec (⟨3, ![1024, K, 1]⟩ : Shape) 1 :=
  andi (cmpi .sge v (broadcastInDim (⟨3, ![1024, K, 1]⟩ : Shape) ![] hz (constantI S_ 32 0#32)))
    (cmpi .sle v (broadcastInDim (⟨3, ![1024, K, 1]⟩ : Shape) ![0, 1, 2] hl (broadcastInDim S1x1x1 ![2] bcast_S1_S1x1x1_2 (constantI S1 32 1023#32))))

/-- The entries of `D` at the columns `w`, the place of a word outside filled. -/
def took (hb : S_.BroadcastsInDim (⟨2, ![1024, K]⟩ : Shape) ![]) (hs : (⟨2, ![1024, K]⟩ : Shape).ShapeCasts ⟨3, ![1024, K, 1]⟩)
    (hz : S_.BroadcastsInDim (⟨3, ![1024, K, 1]⟩ : Shape) ![]) (hl : S1x1x1.BroadcastsInDim (⟨3, ![1024, K, 1]⟩ : Shape) ![0, 1, 2])
    (hr : (⟨3, ![1024, K, 1]⟩ : Shape).ReducesTo [2] ⟨2, ![1024, K]⟩)
    (wf : GatherDims.WF ⟨2, ![1024, 1024]⟩ ⟨3, ![1024, K, 1]⟩ ⟨2, ![1024, K]⟩ [] [1] [0] [1] [0] 2 ![1, 1])
    (D : FVec Ideal S1024x1024 .f32) (w : IVec (⟨2, ![1024, K]⟩ : Shape) 32) : FVec Ideal (⟨2, ![1024, K]⟩ : Shape) .f32 :=
  select (Host.reduce IntOp.andi (inside hz hl (shapeCast _ (wrapped hb w) hs)) (constantI S_ 1 1#1) hr h_S_)
    (Host.gather (colsDims 1024 1024 K wf) D (shapeCast _ (wrapped hb w) hs))
    (broadcastInDim (⟨2, ![1024, K]⟩ : Shape) ![] hb (constant (F := Ideal) S_ .f32 0x7FC00000#32))

/-- A column's word is not negative. -/
theorem wrapped_at (hb : S_.BroadcastsInDim (⟨2, ![1024, K]⟩ : Shape) ![]) (w : IVec (⟨2, ![1024, K]⟩ : Shape) 32)
    (y : (⟨2, ![1024, K]⟩ : Shape).Idx) (c : Fin 1024) (h : w y = BitVec.ofNat 32 c.val) : wrapped hb w y = BitVec.ofNat 32 c.val := by
  show Scalar.select (IntOp.cmpi .slt (w y) 0#32) (IntOp.addi (w y) 1024#32) (w y) = _
  rw [h]
  have e : (BitVec.ofNat 32 c.val).slt 0#32 = false := by
    have := toInt_ofNat_small (n := c.val) (by have := c.isLt; omega)
    refine Bool.eq_false_iff.mpr fun hs => ?_
    have := BitVec.slt_iff_toInt_lt.mp hs
    have z : (0#32).toInt = 0 := rfl
    omega
  show Scalar.select (BitVec.ofBool ((BitVec.ofNat 32 c.val).slt 0#32)) _ _ = _
  rw [e]
  rfl

/-- Words that are columns are inside. -/
theorem inside_at (hz : S_.BroadcastsInDim (⟨3, ![1024, K, 1]⟩ : Shape) ![])
    (hl : S1x1x1.BroadcastsInDim (⟨3, ![1024, K, 1]⟩ : Shape) ![0, 1, 2]) (v : IVec (⟨3, ![1024, K, 1]⟩ : Shape) 32)
    (y : (⟨3, ![1024, K, 1]⟩ : Shape).Idx) (c : Fin 1024) (h : v y = BitVec.ofNat 32 c.val) : inside hz hl v y = 1#1 := by
  show IntOp.andi (IntOp.cmpi .sge (v y) 0#32) (IntOp.cmpi .sle (v y) 1023#32) = _
  rw [h]
  have hc := c.isLt
  have e := toInt_ofNat_small (n := c.val) (by omega)
  have z : (0#32).toInt = 0 := rfl
  have t : (1023#32).toInt = 1023 := rfl
  have e1 : (0#32).sle (BitVec.ofNat 32 c.val) = true := BitVec.sle_iff_toInt_le.mpr (by omega)
  have e2 : (BitVec.ofNat 32 c.val).sle 1023#32 = true := BitVec.sle_iff_toInt_le.mpr (by omega)
  show IntOp.andi (BitVec.ofBool ((0#32).sle (BitVec.ofNat 32 c.val))) (BitVec.ofBool ((BitVec.ofNat 32 c.val).sle 1023#32)) = _
  rw [e1, e2]
  rfl

/-- Where every word is a column's, the entry at that column. -/
theorem took_at (hb : S_.BroadcastsInDim (⟨2, ![1024, K]⟩ : Shape) ![]) (hs : (⟨2, ![1024, K]⟩ : Shape).ShapeCasts ⟨3, ![1024, K, 1]⟩)
    (hz : S_.BroadcastsInDim (⟨3, ![1024, K, 1]⟩ : Shape) ![]) (hl : S1x1x1.BroadcastsInDim (⟨3, ![1024, K, 1]⟩ : Shape) ![0, 1, 2])
    (hr : (⟨3, ![1024, K, 1]⟩ : Shape).ReducesTo [2] ⟨2, ![1024, K]⟩)
    (wf : GatherDims.WF ⟨2, ![1024, 1024]⟩ ⟨3, ![1024, K, 1]⟩ ⟨2, ![1024, K]⟩ [] [1] [0] [1] [0] 2 ![1, 1])
    (D : FVec Ideal S1024x1024 .f32) (w : IVec (⟨2, ![1024, K]⟩ : Shape) 32) (col : Fin 1024 → Fin K → Fin 1024)
    (h : ∀ i k, w (ix2 i k) = BitVec.ofNat 32 (col i k).val) (i : Fin 1024) (k : Fin K) :
    took hb hs hz hl hr wf D w (ix2 i k) = D (ix2 i (col i k)) := by
  have hw : ∀ y, wrapped hb w y = BitVec.ofNat 32 (col (y 0) (y 1)).val := fun y =>
    wrapped_at hb w y _ ((congrArg w (eq_ix2 y)).trans (h (y 0) (y 1)))
  have hg : Host.gather (colsDims 1024 1024 K wf) D (shapeCast _ (wrapped hb w) hs) (ix2 i k) = D (ix2 i (col i k)) := by
    refine (gather_cols wf D _ i k (col i k) ?_)
    rw [shapeCast_apply (wrapped hb w) hs _ (ix2 i k) (by rw [Shape.rowMajor_val_two, Shape.rowMajor_val_three]; show i.val * K + k.val = (i.val * K + k.val) * 1 + 0; omega), hw]
    show (BitVec.ofNat 32 (col i k).val).toInt.toNat = _
    rw [toInt_ofNat_small (by have := (col i k).isLt; omega)]
    rfl
  have hm : Host.reduce IntOp.andi (inside hz hl (shapeCast _ (wrapped hb w) hs)) (constantI S_ 1 1#1) hr h_S_ (ix2 i k) = 1#1 :=
    reduce_and_one _ _ hr h_S_ (fun _ => rfl) (fun y => inside_at hz hl _ y _ (hw _)) _
  show Scalar.select (Host.reduce IntOp.andi (inside hz hl (shapeCast _ (wrapped hb w) hs)) (constantI S_ 1 1#1) hr h_S_ (ix2 i k)) _ _ = _
  rw [hm]
  exact hg

/-- The four takes of the two halves are this one. -/
theorem diag_a (x0 : FVec Ideal S1024x1045 .f32) : val_main_v244 (F := Ideal) x0
    = took bcast_S_S1024x1 shapeCasts_S1024x1_S1024x1x1 bcast_S_S1024x1x1 bcast_S1x1x1_S1024x1x1_0_1_2 reducesTo_S1024x1x1_S1024x1_d2
      gather_S1024x1024_S1024x1x1_S1024x1_n_1_0_0_1_2_11_wf (val_main_v8 (F := Ideal) x0) (val_main_v243 (F := Ideal)) := by
  sl_kernel_rfl

theorem sampled_a (x0 : FVec Ideal S1024x1045 .f32) : val_main_v245 (F := Ideal) x0
    = took bcast_S_S1024x5 shapeCasts_S1024x5_S1024x5x1 bcast_S_S1024x5x1 bcast_S1x1x1_S1024x5x1_0_1_2 reducesTo_S1024x5x1_S1024x5_d2
      gather_S1024x1024_S1024x5x1_S1024x5_n_1_0_0_1_2_11_wf (val_main_v8 (F := Ideal) x0) (val_main_v241 (F := Ideal) x0) := by
  sl_kernel_rfl

theorem diag_b (x0 : FVec Ideal S1024x1045 .f32) : val_main_v492 (F := Ideal) x0
    = took bcast_S_S1024x1 shapeCasts_S1024x1_S1024x1x1 bcast_S_S1024x1x1 bcast_S1x1x1_S1024x1x1_0_1_2 reducesTo_S1024x1x1_S1024x1_d2
      gather_S1024x1024_S1024x1x1_S1024x1_n_1_0_0_1_2_11_wf (val_main_v256 (F := Ideal) x0) (val_main_v491 (F := Ideal)) := by
  sl_kernel_rfl

theorem sampled_b (x0 : FVec Ideal S1024x1045 .f32) : val_main_v493 (F := Ideal) x0
    = took bcast_S_S1024x10 shapeCasts_S1024x10_S1024x10x1 bcast_S_S1024x10x1 bcast_S1x1x1_S1024x10x1_0_1_2 reducesTo_S1024x10x1_S1024x10_d2
      gather_S1024x1024_S1024x10x1_S1024x10_n_1_0_0_1_2_11_wf (val_main_v256 (F := Ideal) x0) (val_main_v489 (F := Ideal) x0) := by
  sl_kernel_rfl

end Cert.ReferenceIdeal.Read

end
-- ==== Proof.Ref.Result.lean ====
/- The reference's result: the sum over the rows of each half's contributions. -/
module

public import proofs.«01_k».proof.Proof.Ref.Samples
public import proofs.«01_k».proof.Proof.Ref.Take

@[expose] public section

set_option maxRecDepth 16384

noncomputable section

namespace Cert.ReferenceIdeal.Read

open Cert.ReferenceIdeal Cert.ReferenceIdeal.Gen Idealize.ShloMosaic Idealize.ShloMosaic.TcCoe Idealize.ShloMosaic.Tactic Idealize.ShloMosaic.StableHlo Cert.Loss

variable (x0 : FVec Ideal S1024x1045 .f32)

theorem own_a (i : Fin 1024) (k : Fin 1) : val_main_v244 (F := Ideal) x0 (ix2 i k) = score (distSq x0 i i) := by
  rw [diag_a, took_at _ _ _ _ _ _ _ _ (fun i _ => i) (fun i k => by pointwise [val_main_v243, val_main_v242]) i k, score_a]

theorem own_b (i : Fin 1024) (k : Fin 1) : val_main_v492 (F := Ideal) x0 (ix2 i k) = score (distSq x0 i i) := by
  rw [diag_b, took_at _ _ _ _ _ _ _ _ (fun i _ => i) (fun i k => by pointwise [val_main_v491, val_main_v490]) i k, score_b]

theorem taken_a (i : Fin 1024) (s : Fin 5) : val_main_v245 (F := Ideal) x0 (ix2 i s) = score (distSq x0 i (colA x0 i s.val)) := by
  rw [sampled_a, took_at _ _ _ _ _ _ _ _ (fun i s => colA x0 i s.val) (fun i s => column_a x0 i s) i s, score_a]

theorem taken_b (i : Fin 1024) (s : Fin 10) : val_main_v493 (F := Ideal) x0 (ix2 i s) = score (distSq x0 (colB x0 i s.val) i) := by
  rw [sampled_b, took_at _ _ _ _ _ _ _ _ (fun i s => colB x0 i s.val) (fun i s => column_b x0 i s) i s, score_b]

/-- A sample's contribution. -/
theorem part_a (i : Fin 1024) (s : Fin 5) : val_main_v250 (F := Ideal) x0 (ix2 i s) = rowLoss (distSq x0) (distOwn x0) (logA s.val i) i := by
  unfold rowLoss contrib
  rw [max_comm]
  pointwise [val_main_v250, val_main_v249, val_main_v248, val_main_v247, val_main_v246, val_main_call4_v1, val_main_call4_v0,
    val_main_cst_72, val_main_cst_73, own_a, taken_a, colA]
  exact congrArg₂ max (Ideal.ofBits_zero FTy.f32 : (id (constant (F := Ideal) S_ .f32 0#32) ix0 : EReal) = 0) rfl

theorem part_b (i : Fin 1024) (s : Fin 10) : val_main_v498 (F := Ideal) x0 (ix2 i s)
    = rowLoss (fun i j => distSq x0 j i) (distOwn x0) (logB s.val i) i := by
  unfold rowLoss contrib
  rw [max_comm]
  pointwise [val_main_v498, val_main_v497, val_main_v496, val_main_v495, val_main_v494, val_main_call9_v1, val_main_call9_v0,
    val_main_cst_152, val_main_cst_153, own_b, taken_b, colB]
  exact congrArg₂ max (Ideal.ofBits_zero FTy.f32 : (id (constant (F := Ideal) S_ .f32 0#32) ix0 : EReal) = 0) rfl

/-- A half's mean over the rows. -/
theorem mean_a (u : S_.Idx) : val_main_v255 (F := Ideal) x0 u
    = Ideal.div (∑ i : Fin 1024, (1 + ∑ s : Fin 5, rowLoss (distSq x0) (distOwn x0) (logA s.val i) i)) ((1024 : ℝ) : EReal) := by
  rw [← n1024_f32]
  pointwise [val_main_v255, val_main_v254, val_main_v253, val_main_v252, val_main_v251, val_main_cst_74, val_main_cst_75, val_main_cst_76, val_main_cst_77, part_a]

theorem mean_b (u : S_.Idx) : val_main_v503 (F := Ideal) x0 u
    = Ideal.div (∑ i : Fin 1024, (1 + ∑ s : Fin 10, rowLoss (fun i j => distSq x0 j i) (distOwn x0) (logB s.val i) i)) ((1024 : ℝ) : EReal) := by
  rw [← n1024_f32]
  pointwise [val_main_v503, val_main_v502, val_main_v501, val_main_v500, val_main_v499, val_main_cst_154, val_main_cst_155, val_main_cst_156, val_main_cst_157, part_b]

/-- The result: the two means' sum. -/
theorem result_at (y : S1x1.Idx) : val_main_v505 (F := Ideal) x0 y
    = Ideal.div (∑ i : Fin 1024, (1 + ∑ s : Fin 5, rowLoss (distSq x0) (distOwn x0) (logA s.val i) i)) ((1024 : ℝ) : EReal)
      + Ideal.div (∑ i : Fin 1024, (1 + ∑ s : Fin 10, rowLoss (fun i j => distSq x0 j i) (distOwn x0) (logB s.val i) i)) ((1024 : ℝ) : EReal) := by
  rw [← mean_a x0 ix0, ← mean_b x0 ix0]
  have e : ∀ u : S_.Idx, u = ix0 := fun u => funext fun a => a.elim0
  show val_main_v504 (F := Ideal) x0 _ = _
  rw [e (Shape.reshapeEquiv _ y)]
  rfl

end Cert.ReferenceIdeal.Read

end
-- ==== Proof.lean ====
module

public import proofs.«01_k».proof.Defs
public import proofs.«01_k».proof.Proof.Run.Frame
public import proofs.«01_k».proof.Proof.RunIdeal.Value
public import proofs.«01_k».proof.Proof.Value.Total
public import proofs.«01_k».proof.Proof.Ref.Result
public import proofs.«01_k».proof.Proof.Gen.ReferenceIdeal
public import proofs.«01_k».proof.Proof.Gen.ReferenceIdeal.Run
public import proofs.«01_k».proof.Proof.Gen.ReferenceIdeal.Read
public import Idealize.ShloMosaic.Adequacy
public import Idealize.ShloMosaic.Init

@[expose] public section

noncomputable section

namespace Cert.Proof

open Idealize.ShloMosaic Idealize.SL.Sem Cert.Kernel

/-- The reference is a line of host operations: it ends with its arguments as they were, and it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From equal arguments the reference's result, as its own text writes it, is the kernel's. -/
theorem results_equal (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    Cert.ReferenceIdeal.Read.val_main_v505 (F := Ideal)
        (m' ((c.tc : Thread Cert.ReferenceIdeal.nD Cert.ReferenceIdeal.τ).loc Cert.ReferenceIdeal.main_arg0))
      = Cert.KernelIdeal.Value.G4 m c := by
  rw [h, Cert.KernelIdeal.Gen.result_loss]
  funext y
  exact Cert.ReferenceIdeal.Read.result_at _ y

/-- Over the extended reals, from equal arguments, the kernel and the reference end with equal results, their arguments
    as they were. -/
theorem algebraic : Cert.algebraic_KernelIdeal_ReferenceIdeal := fun m g m' g' _ hargs =>
  ⟨fun c => Cert.KernelIdeal.Value.G4 m c, Cert.KernelIdeal.Value.run m g,
    (θ_run Cert.ReferenceIdeal.defs _ _).mono
      (fun _ h c => ⟨(h c).1.trans ((Cert.ReferenceIdeal.Read.val_main_v505_eq _).trans (results_equal m m' c (hargs c).1)), (h c).2⟩)
      (Cert.ReferenceIdeal.Value.run (F := Ideal) m' g')⟩

/-- The certificate. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  frame_reference, trivial, algebraic⟩

end Cert.Proof

end
